-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v24_0)) (v1 : (c : Dev Cert.Kernel6Ideal.nD) → Buf (Elt Ideal) ((c.tc : Thread Cert.Kernel6Ideal.nD Cert.Kernel6Ideal.τ).loc Cert.Kernel6Ideal.main_v24_1)) (v2 : (c : Dev Cert.Kernel6Ideal.nD) → Buf (Elt Ideal) ((c.tc : Thread Cert.Kernel6Ideal.nD Cert.Kernel6Ideal.τ).loc Cert.Kernel6Ideal.main_v24_2)) (v3 : (c : Dev Cert.Kernel6Ideal.nD) → Buf (Elt Ideal) ((c.tc : Thread Cert.Kernel6Ideal.nD Cert.Kernel6Ideal.τ).loc Cert.Kernel6Ideal.main_v24_3)) (v4 : (c : Dev Cert.Kernel6Ideal.nD) → Buf (Elt Ideal) ((c.tc : Thread Cert.Kernel6Ideal.nD Cert.Kernel6Ideal.τ).loc Cert.Kernel6Ideal.main_v24_4)) (v5 : (c : Dev Cert.Kernel6Ideal.nD) → Buf (Elt Ideal) ((c.tc : Thread Cert.Kernel6Ideal.nD Cert.Kernel6Ideal.τ).loc Cert.Kernel6Ideal.main_v24_5)) (v6 : (c : Dev Cert.Kernel6Ideal.nD) → Buf (Elt Ideal) ((c.tc : Thread Cert.Kernel6Ideal.nD Cert.Kernel6Ideal.τ).loc Cert.Kernel6Ideal.main_v24_6)) (v7 : (c : Dev Cert.Kernel6Ideal.nD) → Buf (Elt Ideal) ((c.tc : Thread Cert.Kernel6Ideal.nD Cert.Kernel6Ideal.τ).loc Cert.Kernel6Ideal.main_v24_7)) (v8 : (c : Dev Cert.Kernel6Ideal.nD) → Buf (Elt Ideal) ((c.tc : Thread Cert.Kernel6Ideal.nD Cert.Kernel6Ideal.τ).loc Cert.Kernel6Ideal.main_v24_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24_0) = v0 c
          ∧ r.2.mem ((c.tc : Thread Cert.Kernel6Ideal.nD Cert.Kernel6Ideal.τ).loc Cert.Kernel6Ideal.main_v24_1) = v1 c
          ∧ r.2.mem ((c.tc : Thread Cert.Kernel6Ideal.nD Cert.Kernel6Ideal.τ).loc Cert.Kernel6Ideal.main_v24_2) = v2 c
          ∧ r.2.mem ((c.tc : Thread Cert.Kernel6Ideal.nD Cert.Kernel6Ideal.τ).loc Cert.Kernel6Ideal.main_v24_3) = v3 c
          ∧ r.2.mem ((c.tc : Thread Cert.Kernel6Ideal.nD Cert.Kernel6Ideal.τ).loc Cert.Kernel6Ideal.main_v24_4) = v4 c
          ∧ r.2.mem ((c.tc : Thread Cert.Kernel6Ideal.nD Cert.Kernel6Ideal.τ).loc Cert.Kernel6Ideal.main_v24_5) = v5 c
          ∧ r.2.mem ((c.tc : Thread Cert.Kernel6Ideal.nD Cert.Kernel6Ideal.τ).loc Cert.Kernel6Ideal.main_v24_6) = v6 c
          ∧ r.2.mem ((c.tc : Thread Cert.Kernel6Ideal.nD Cert.Kernel6Ideal.τ).loc Cert.Kernel6Ideal.main_v24_7) = v7 c
          ∧ r.2.mem ((c.tc : Thread Cert.Kernel6Ideal.nD Cert.Kernel6Ideal.τ).loc Cert.Kernel6Ideal.main_v24_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_v78) = v2 c
          ∧ r.2.mem ((c.tc : Thread Cert.Reference6Ideal.nD Cert.Reference6Ideal.τ).loc Cert.Reference6Ideal.main_v79) = v3 c
          ∧ r.2.mem ((c.tc : Thread Cert.Reference6Ideal.nD Cert.Reference6Ideal.τ).loc Cert.Reference6Ideal.main_v80) = v4 c
          ∧ r.2.mem ((c.tc : Thread Cert.Reference6Ideal.nD Cert.Reference6Ideal.τ).loc Cert.Reference6Ideal.main_v81) = v5 c
          ∧ r.2.mem ((c.tc : Thread Cert.Reference6Ideal.nD Cert.Reference6Ideal.τ).loc Cert.Reference6Ideal.main_v82) = v6 c
          ∧ r.2.mem ((c.tc : Thread Cert.Reference6Ideal.nD Cert.Reference6Ideal.τ).loc Cert.Reference6Ideal.main_v69) = v7 c
          ∧ r.2.mem ((c.tc : Thread Cert.Reference6Ideal.nD Cert.Reference6Ideal.τ).loc Cert.Reference6Ideal.main_v84) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)) (v4 : (c : Dev Cert.Kernel7Ideal.nD) → Buf (Elt Ideal) ((c.tc : Thread Cert.Kernel7Ideal.nD Cert.Kernel7Ideal.τ).loc Cert.Kernel7Ideal.main_v1_4)) (v5 : (c : Dev Cert.Kernel7Ideal.nD) → Buf (Elt Ideal) ((c.tc : Thread Cert.Kernel7Ideal.nD Cert.Kernel7Ideal.τ).loc Cert.Kernel7Ideal.main_v1_5)) (v6 : (c : Dev Cert.Kernel7Ideal.nD) → Buf (Elt Ideal) ((c.tc : Thread Cert.Kernel7Ideal.nD Cert.Kernel7Ideal.τ).loc Cert.Kernel7Ideal.main_v1_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_v1_4) = v4 c
          ∧ r.2.mem ((c.tc : Thread Cert.Kernel7Ideal.nD Cert.Kernel7Ideal.τ).loc Cert.Kernel7Ideal.main_v1_5) = v5 c
          ∧ r.2.mem ((c.tc : Thread Cert.Kernel7Ideal.nD Cert.Kernel7Ideal.τ).loc Cert.Kernel7Ideal.main_v1_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v12) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_v15) = v4 c
          ∧ r.2.mem ((c.tc : Thread Cert.Reference7Ideal.nD Cert.Reference7Ideal.τ).loc Cert.Reference7Ideal.main_v16) = v5 c
          ∧ r.2.mem ((c.tc : Thread Cert.Reference7Ideal.nD Cert.Reference7Ideal.τ).loc Cert.Reference7Ideal.main_v17) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x2048x8x128 : Shape := ⟨4, ![4, 2048, 8, 128]⟩
abbrev S4x2048x2048 : Shape := ⟨3, ![4, 2048, 2048]⟩
abbrev S32x8 : Shape := ⟨2, ![32, 8]⟩
abbrev S_ : Shape := ⟨0, ![]⟩
abbrev S8192x1024 : Shape := ⟨2, ![8192, 1024]⟩
abbrev S32x256x8x128 : Shape := ⟨4, ![32, 256, 8, 128]⟩
abbrev S32x8x128x256 : Shape := ⟨4, ![32, 8, 128, 256]⟩
abbrev S32x8x16x256 : Shape := ⟨4, ![32, 8, 16, 256]⟩
abbrev S32x8x144x256 : Shape := ⟨4, ![32, 8, 144, 256]⟩
abbrev S32x1152x256 : Shape := ⟨3, ![32, 1152, 256]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S3x256x256 : Shape := ⟨3, ![3, 256, 256]⟩
abbrev S3x256x256x1 : Shape := ⟨4, ![3, 256, 256, 1]⟩
abbrev S3x256x256x8 : Shape := ⟨4, ![3, 256, 256, 8]⟩
abbrev S1x8 : Shape := ⟨2, ![1, 8]⟩
abbrev S8 : Shape := ⟨1, ![8]⟩
abbrev S1x1x1x8 : Shape := ⟨4, ![1, 1, 1, 8]⟩
abbrev S3x8x256x256 : Shape := ⟨4, ![3, 8, 256, 256]⟩
abbrev S256x1024 : Shape := ⟨2, ![256, 1024]⟩
abbrev S2048x1024 : Shape := ⟨2, ![2048, 1024]⟩
abbrev S8x1152x256 : Shape := ⟨3, ![8, 1152, 256]⟩
abbrev S1x2048x256 : Shape := ⟨3, ![1, 2048, 256]⟩
abbrev S8x1x256 : Shape := ⟨3, ![8, 1, 256]⟩
abbrev S8x144x256 : Shape := ⟨3, ![8, 144, 256]⟩
abbrev S8x512x256 : Shape := ⟨3, ![8, 512, 256]⟩
abbrev S1x256x256 : Shape := ⟨3, ![1, 256, 256]⟩
abbrev S256x256 : Shape := ⟨2, ![256, 256]⟩
abbrev S256x128 : Shape := ⟨2, ![256, 128]⟩
abbrev S1x512x256 : Shape := ⟨3, ![1, 512, 256]⟩
abbrev S512x256 : Shape := ⟨2, ![512, 256]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S1x1x256x256 : Shape := ⟨4, ![1, 1, 256, 256]⟩
abbrev S128x256 : Shape := ⟨2, ![128, 256]⟩

abbrev nBuf : Space → Nat
  | .hbm => 98
  | .vmem => 16
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x2048x2048, .i32⟩
  | .hbm, ⟨4, _⟩ => ⟨S32x8, .f32⟩
  | .hbm, ⟨5, _⟩ => ⟨S_, .f32⟩
  | .hbm, ⟨6, _⟩ => ⟨S4x2048x8x128, .f32⟩
  | .hbm, ⟨7, _⟩ => ⟨S4x2048x8x128, .f32⟩
  | .hbm, ⟨8, _⟩ => ⟨S_, .f32⟩
  | .hbm, ⟨9, _⟩ => ⟨S_, .f32⟩
  | .hbm, ⟨10, _⟩ => ⟨S4x2048x8x128, .f32⟩
  | .hbm, ⟨11, _⟩ => ⟨S4x2048x8x128, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S32x256x8x128, .f32⟩
  | .hbm, ⟨17, _⟩ => ⟨S32x8x128x256, .f32⟩
  | .hbm, ⟨18, _⟩ => ⟨S_, .f32⟩
  | .hbm, ⟨19, _⟩ => ⟨S32x8x16x256, .f32⟩
  | .hbm, ⟨20, _⟩ => ⟨S32x8x144x256, .f32⟩
  | .hbm, ⟨21, _⟩ => ⟨S32x1152x256, .f32⟩
  | .hbm, ⟨22, _⟩ => ⟨S32x1152x256, .bf16⟩
  | .hbm, ⟨23, _⟩ => ⟨S2048, .i32⟩
  | .hbm, ⟨24, _⟩ => ⟨S_, .i32⟩
  | .hbm, ⟨25, _⟩ => ⟨S4x2048x2048, .i32⟩
  | .hbm, ⟨26, _⟩ => ⟨S4x2048x2048, .i1⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S1x2048x2048, .i1⟩
  | .hbm, ⟨33, _⟩ => ⟨S4x2048x2048, .i1⟩
  | .hbm, ⟨34, _⟩ => ⟨S4x2048x2048, .i1⟩
  | .hbm, ⟨35, _⟩ => ⟨S_, .f32⟩
  | .hbm, ⟨36, _⟩ => ⟨S_, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .bf16⟩
  | .hbm, ⟨42, _⟩ => ⟨S3x256x256, .i32⟩
  | .hbm, ⟨43, _⟩ => ⟨S3x256x256, .i32⟩
  | .hbm, ⟨44, _⟩ => ⟨S3x256x256, .i32⟩
  | .hbm, ⟨45, _⟩ => ⟨S_, .i32⟩
  | .hbm, ⟨46, _⟩ => ⟨S3x256x256, .i32⟩
  | .hbm, ⟨47, _⟩ => ⟨S3x256x256, .i32⟩
  | .hbm, ⟨48, _⟩ => ⟨S3x256x256, .i32⟩
  | .hbm, ⟨49, _⟩ => ⟨S3x256x256, .i32⟩
  | .hbm, ⟨50, _⟩ => ⟨S_, .i32⟩
  | .hbm, ⟨51, _⟩ => ⟨S3x256x256, .i32⟩
  | .hbm, ⟨52, _⟩ => ⟨S3x256x256, .i32⟩
  | .hbm, ⟨53, _⟩ => ⟨S3x256x256, .f32⟩
  | .hbm, ⟨54, _⟩ => ⟨S_, .f32⟩
  | .hbm, ⟨55, _⟩ => ⟨S3x256x256, .f32⟩
  | .hbm, ⟨56, _⟩ => ⟨S3x256x256, .f32⟩
  | .hbm, ⟨57, _⟩ => ⟨S_, .f32⟩
  | .hbm, ⟨58, _⟩ => ⟨S3x256x256, .f32⟩
  | .hbm, ⟨59, _⟩ => ⟨S3x256x256, .f32⟩
  | .hbm, ⟨60, _⟩ => ⟨S3x256x256, .f32⟩
  | .hbm, ⟨61, _⟩ => ⟨S_, .f32⟩
  | .hbm, ⟨62, _⟩ => ⟨S3x256x256, .f32⟩
  | .hbm, ⟨63, _⟩ => ⟨S3x256x256, .f32⟩
  | .hbm, ⟨64, _⟩ => ⟨S_, .f32⟩
  | .hbm, ⟨65, _⟩ => ⟨S3x256x256, .f32⟩
  | .hbm, ⟨66, _⟩ => ⟨S3x256x256, .f32⟩
  | .hbm, ⟨67, _⟩ => ⟨S3x256x256, .i32⟩
  | .hbm, ⟨68, _⟩ => ⟨S_, .i32⟩
  | .hbm, ⟨69, _⟩ => ⟨S3x256x256, .i32⟩
  | .hbm, ⟨70, _⟩ => ⟨S3x256x256, .i32⟩
  | .hbm, ⟨71, _⟩ => ⟨S_, .i32⟩
  | .hbm, ⟨72, _⟩ => ⟨S3x256x256, .i32⟩
  | .hbm, ⟨73, _⟩ => ⟨S3x256x256, .i32⟩
  | .hbm, ⟨74, _⟩ => ⟨S_, .i32⟩
  | .hbm, ⟨75, _⟩ => ⟨S3x256x256, .i32⟩
  | .hbm, ⟨76, _⟩ => ⟨S3x256x256, .i1⟩
  | .hbm, ⟨77, _⟩ => ⟨S3x256x256, .i32⟩
  | .hbm, ⟨78, _⟩ => ⟨S_, .i32⟩
  | .hbm, ⟨79, _⟩ => ⟨S3x256x256, .i32⟩
  | .hbm, ⟨80, _⟩ => ⟨S3x256x256, .i1⟩
  | .hbm, ⟨81, _⟩ => ⟨S_, .i32⟩
  | .hbm, ⟨82, _⟩ => ⟨S3x256x256, .i32⟩
  | .hbm, ⟨83, _⟩ => ⟨S3x256x256, .i32⟩
  | .hbm, ⟨84, _⟩ => ⟨S3x256x256, .i32⟩
  | .hbm, ⟨85, _⟩ => ⟨S3x256x256x1, .i32⟩
  | .hbm, ⟨86, _⟩ => ⟨S3x256x256x8, .f32⟩
  | .hbm, ⟨87, _⟩ => ⟨S1x8, .f32⟩
  | .hbm, ⟨88, _⟩ => ⟨S8, .f32⟩
  | .hbm, ⟨89, _⟩ => ⟨S1x1x1x8, .f32⟩
  | .hbm, ⟨90, _⟩ => ⟨S3x256x256x8, .f32⟩
  | .hbm, ⟨91, _⟩ => ⟨S3x256x256x8, .f32⟩
  | .hbm, ⟨92, _⟩ => ⟨S_, .f32⟩
  | .hbm, ⟨93, _⟩ => ⟨S_, .f32⟩
  | .hbm, ⟨94, _⟩ => ⟨S3x256x256x8, .f32⟩
  | .hbm, ⟨95, _⟩ => ⟨S3x256x256x8, .f32⟩
  | .hbm, ⟨96, _⟩ => ⟨S3x8x256x256, .f32⟩
  | .hbm, ⟨97, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x1152x256, .bf16⟩
  | .local _ .vmem, ⟨5, _⟩ => ⟨S8x1152x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x8x256x256, .f32⟩
  | .local _ .vmem, ⟨9, _⟩ => ⟨S256x1024, .bf16⟩
  | .local _ .vmem, ⟨10, _⟩ => ⟨S256x1024, .bf16⟩
  | .local _ .vmem, ⟨11, _⟩ => ⟨S8x1x256, .f32⟩
  | .local _ .vmem, ⟨12, _⟩ => ⟨S8x1x256, .f32⟩
  | .local _ .vmem, ⟨13, _⟩ => ⟨S8x144x256, .f32⟩
  | .local _ .vmem, ⟨14, _⟩ => ⟨S8x512x256, .f32⟩
  | .local _ .vmem, ⟨15, _⟩ => ⟨S8x512x256, .bf16⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_c_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_10 : BitVec 32 := 1#32
  ⟨c0_i32_8, v16, c1_i32_10⟩
def k0_mult1 (i : grid0.Coords) (k0_t1 : Fin (k0_t1_loop i).trips) : BitVec 32 :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c0_i32_45 : BitVec 32 := 0#32
  let v99 : BitVec 32 := Scalar.addi v98 c0_i32_45
  let c256_i32 : BitVec 32 := 256#32
  let v100 : BitVec 32 := Scalar.muli v99 c256_i32
  v100
def k0_off1 (i : grid0.Coords) (k0_t1 : Fin (k0_t1_loop i).trips) (c0_i32_45 : BitVec 32) : Fin 3 → Nat :=
  let c0_46 : Index := 0#32
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v102 : Index := Scalar.indexCast v101
  let c0_47 : Index := 0#32
  ![0, v102.toNat, 0]
def k0_off2 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v108 : Index := Scalar.indexCast v101
  let c0_49 : Index := 0#32
  ![v108.toNat, 0]
def k0_off3 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v118 : Index := Scalar.indexCast v101
  let c128_56 : Index := 128#32
  ![v118.toNat, 128]
def k0_off4 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v128 : Index := Scalar.indexCast v101
  let c256_63 : Index := 256#32
  ![v128.toNat, 256]
def k0_off5 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v138 : Index := Scalar.indexCast v101
  let c384_70 : Index := 384#32
  ![v138.toNat, 384]
def k0_off6 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v148 : Index := Scalar.indexCast v101
  let c512_77 : Index := 512#32
  ![v148.toNat, 512]
def k0_off7 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v158 : Index := Scalar.indexCast v101
  let c640_84 : Index := 640#32
  ![v158.toNat, 640]
def k0_off8 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v168 : Index := Scalar.indexCast v101
  let c768_91 : Index := 768#32
  ![v168.toNat, 768]
def k0_off9 (i : grid0.Coords) (k0_t1 : Fin (k0_t1_loop i).trips) (c0_i32_45 : BitVec 32) : Fin 2 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v178 : Index := Scalar.indexCast v101
  let c896_98 : Index := 896#32
  ![v178.toNat, 896]
def k0_mult2 (i : grid0.Coords) (k0_t1 : Fin (k0_t1_loop i).trips) : BitVec 32 :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_105 : BitVec 32 := 1#32
  let v188 : BitVec 32 := Scalar.addi v98 c1_i32_105
  let c256_i32_106 : BitVec 32 := 256#32
  let v189 : BitVec 32 := Scalar.muli v188 c256_i32_106
  v189
def k0_off10 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v453 : Index := Scalar.indexCast v98
  let c0_294 : Index := 0#32
  let c0_295 : Index := 0#32
  ![v453.toNat, 0, 0]
def k0_off11 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_300 : BitVec 32 := 1#32
  let v459 : BitVec 32 := Scalar.addi v98 c1_i32_300
  let v460 : Index := Scalar.indexCast v459
  let c0_301 : Index := 0#32
  let c0_302 : Index := 0#32
  ![v460.toNat, 0, 0]
def k0_off12 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v477 : Index := Scalar.indexCast v98
  let c144 : Index := 144#32
  let c0_316 : Index := 0#32
  ![v477.toNat, 144, 0]
def k0_off13 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_321 : BitVec 32 := 1#32
  let v483 : BitVec 32 := Scalar.addi v98 c1_i32_321
  let v484 : Index := Scalar.indexCast v483
  let c144_322 : Index := 144#32
  let c0_323 : Index := 0#32
  ![v484.toNat, 144, 0]
def k0_off14 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v501 : Index := Scalar.indexCast v98
  let c288 : Index := 288#32
  let c0_337 : Index := 0#32
  ![v501.toNat, 288, 0]
def k0_off15 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_342 : BitVec 32 := 1#32
  let v507 : BitVec 32 := Scalar.addi v98 c1_i32_342
  let v508 : Index := Scalar.indexCast v507
  let c288_343 : Index := 288#32
  let c0_344 : Index := 0#32
  ![v508.toNat, 288, 0]
def k0_off16 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v525 : Index := Scalar.indexCast v98
  let c432 : Index := 432#32
  let c0_358 : Index := 0#32
  ![v525.toNat, 432, 0]
def k0_off17 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_363 : BitVec 32 := 1#32
  let v531 : BitVec 32 := Scalar.addi v98 c1_i32_363
  let v532 : Index := Scalar.indexCast v531
  let c432_364 : Index := 432#32
  let c0_365 : Index := 0#32
  ![v532.toNat, 432, 0]
def k0_off18 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v549 : Index := Scalar.indexCast v98
  let c576 : Index := 576#32
  let c0_379 : Index := 0#32
  ![v549.toNat, 576, 0]
def k0_off19 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_384 : BitVec 32 := 1#32
  let v555 : BitVec 32 := Scalar.addi v98 c1_i32_384
  let v556 : Index := Scalar.indexCast v555
  let c576_385 : Index := 576#32
  let c0_386 : Index := 0#32
  ![v556.toNat, 576, 0]
def k0_off20 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v573 : Index := Scalar.indexCast v98
  let c720 : Index := 720#32
  let c0_400 : Index := 0#32
  ![v573.toNat, 720, 0]
def k0_off21 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_405 : BitVec 32 := 1#32
  let v579 : BitVec 32 := Scalar.addi v98 c1_i32_405
  let v580 : Index := Scalar.indexCast v579
  let c720_406 : Index := 720#32
  let c0_407 : Index := 0#32
  ![v580.toNat, 720, 0]
def k0_off22 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v597 : Index := Scalar.indexCast v98
  let c864 : Index := 864#32
  let c0_421 : Index := 0#32
  ![v597.toNat, 864, 0]
def k0_off23 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_426 : BitVec 32 := 1#32
  let v603 : BitVec 32 := Scalar.addi v98 c1_i32_426
  let v604 : Index := Scalar.indexCast v603
  let c864_427 : Index := 864#32
  let c0_428 : Index := 0#32
  ![v604.toNat, 864, 0]
def k0_off24 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let v621 : Index := Scalar.indexCast v98
  let c1008 : Index := 1008#32
  let c0_442 : Index := 0#32
  ![v621.toNat, 1008, 0]
def k0_off25 (i : grid0.Coords) (k0_t1 : Fin (k0_t1_loop i).trips) : Fin 3 → Nat :=
  let c2_i32_44 : BitVec 32 := 2#32
  let c0_i32_8 : BitVec 32 := 0#32
  let c1_i32_10 : BitVec 32 := 1#32
  let arg13 : BitVec 32 := Scf.iv c0_i32_8 c1_i32_10 k0_t1
  let v98 : BitVec 32 := Scalar.muli c2_i32_44 arg13
  let c1_i32_447 : BitVec 32 := 1#32
  let v627 : BitVec 32 := Scalar.addi v98 c1_i32_447
  let v628 : Index := Scalar.indexCast v627
  let c1008_448 : Index := 1008#32
  let c0_449 : Index := 0#32
  ![v628.toNat, 1008, 0]
@[reducible] def k0_t2_loop (i : grid0.Coords) : Scf.Loop 32 :=
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let v13 : BitVec 32 := Scalar.addi c0_i32_8 v12
  let c1_i32_11 : BitVec 32 := 1#32
  ⟨v16, v13, c1_i32_11⟩
def k0_mult3 (i : grid0.Coords) (k0_t2 : Fin (k0_t2_loop i).trips) : BitVec 32 :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c0_i32_45 : BitVec 32 := 0#32
  let v99 : BitVec 32 := Scalar.addi v98 c0_i32_45
  let c256_i32 : BitVec 32 := 256#32
  let v100 : BitVec 32 := Scalar.muli v99 c256_i32
  v100
def k0_off26 (i : grid0.Coords) (k0_t2 : Fin (k0_t2_loop i).trips) (c0_i32_45 : BitVec 32) : Fin 3 → Nat :=
  let c0_46 : Index := 0#32
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v102 : Index := Scalar.indexCast v101
  let c0_47 : Index := 0#32
  ![0, v102.toNat, 0]
def k0_off27 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v108 : Index := Scalar.indexCast v101
  let c0_49 : Index := 0#32
  ![v108.toNat, 0]
def k0_off28 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v118 : Index := Scalar.indexCast v101
  let c128_56 : Index := 128#32
  ![v118.toNat, 128]
def k0_off29 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v128 : Index := Scalar.indexCast v101
  let c256_63 : Index := 256#32
  ![v128.toNat, 256]
def k0_off30 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v138 : Index := Scalar.indexCast v101
  let c384_70 : Index := 384#32
  ![v138.toNat, 384]
def k0_off31 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v148 : Index := Scalar.indexCast v101
  let c512_77 : Index := 512#32
  ![v148.toNat, 512]
def k0_off32 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v158 : Index := Scalar.indexCast v101
  let c640_84 : Index := 640#32
  ![v158.toNat, 640]
def k0_off33 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v168 : Index := Scalar.indexCast v101
  let c768_91 : Index := 768#32
  ![v168.toNat, 768]
def k0_off34 (i : grid0.Coords) (k0_t2 : Fin (k0_t2_loop i).trips) (c0_i32_45 : BitVec 32) : Fin 2 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v99 : BitVec 32 := Scalar.addi v98 c0_i32_45
  let c256_i32 : BitVec 32 := 256#32
  let v100 : BitVec 32 := Scalar.muli v99 c256_i32
  let v101 : BitVec 32 := v100
  let v178 : Index := Scalar.indexCast v101
  let c896_98 : Index := 896#32
  ![v178.toNat, 896]
def k0_mult4 (i : grid0.Coords) (k0_t2 : Fin (k0_t2_loop i).trips) : BitVec 32 :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_105 : BitVec 32 := 1#32
  let v188 : BitVec 32 := Scalar.addi v98 c1_i32_105
  let c256_i32_106 : BitVec 32 := 256#32
  let v189 : BitVec 32 := Scalar.muli v188 c256_i32_106
  v189
def k0_off35 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v453 : Index := Scalar.indexCast v98
  let c0_294 : Index := 0#32
  let c0_295 : Index := 0#32
  ![v453.toNat, 0, 0]
def k0_off36 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_300 : BitVec 32 := 1#32
  let v459 : BitVec 32 := Scalar.addi v98 c1_i32_300
  let v460 : Index := Scalar.indexCast v459
  let c0_301 : Index := 0#32
  let c0_302 : Index := 0#32
  ![v460.toNat, 0, 0]
def k0_off37 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v477 : Index := Scalar.indexCast v98
  let c144 : Index := 144#32
  let c0_316 : Index := 0#32
  ![v477.toNat, 144, 0]
def k0_off38 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_321 : BitVec 32 := 1#32
  let v483 : BitVec 32 := Scalar.addi v98 c1_i32_321
  let v484 : Index := Scalar.indexCast v483
  let c144_322 : Index := 144#32
  let c0_323 : Index := 0#32
  ![v484.toNat, 144, 0]
def k0_off39 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v501 : Index := Scalar.indexCast v98
  let c288 : Index := 288#32
  let c0_337 : Index := 0#32
  ![v501.toNat, 288, 0]
def k0_off40 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_342 : BitVec 32 := 1#32
  let v507 : BitVec 32 := Scalar.addi v98 c1_i32_342
  let v508 : Index := Scalar.indexCast v507
  let c288_343 : Index := 288#32
  let c0_344 : Index := 0#32
  ![v508.toNat, 288, 0]
def k0_off41 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v525 : Index := Scalar.indexCast v98
  let c432 : Index := 432#32
  let c0_358 : Index := 0#32
  ![v525.toNat, 432, 0]
def k0_off42 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_363 : BitVec 32 := 1#32
  let v531 : BitVec 32 := Scalar.addi v98 c1_i32_363
  let v532 : Index := Scalar.indexCast v531
  let c432_364 : Index := 432#32
  let c0_365 : Index := 0#32
  ![v532.toNat, 432, 0]
def k0_off43 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v549 : Index := Scalar.indexCast v98
  let c576 : Index := 576#32
  let c0_379 : Index := 0#32
  ![v549.toNat, 576, 0]
def k0_off44 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_384 : BitVec 32 := 1#32
  let v555 : BitVec 32 := Scalar.addi v98 c1_i32_384
  let v556 : Index := Scalar.indexCast v555
  let c576_385 : Index := 576#32
  let c0_386 : Index := 0#32
  ![v556.toNat, 576, 0]
def k0_off45 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v573 : Index := Scalar.indexCast v98
  let c720 : Index := 720#32
  let c0_400 : Index := 0#32
  ![v573.toNat, 720, 0]
def k0_off46 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_405 : BitVec 32 := 1#32
  let v579 : BitVec 32 := Scalar.addi v98 c1_i32_405
  let v580 : Index := Scalar.indexCast v579
  let c720_406 : Index := 720#32
  let c0_407 : Index := 0#32
  ![v580.toNat, 720, 0]
def k0_off47 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v597 : Index := Scalar.indexCast v98
  let c864 : Index := 864#32
  let c0_421 : Index := 0#32
  ![v597.toNat, 864, 0]
def k0_off48 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_426 : BitVec 32 := 1#32
  let v603 : BitVec 32 := Scalar.addi v98 c1_i32_426
  let v604 : Index := Scalar.indexCast v603
  let c864_427 : Index := 864#32
  let c0_428 : Index := 0#32
  ![v604.toNat, 864, 0]
def k0_off49 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let v621 : Index := Scalar.indexCast v98
  let c1008 : Index := 1008#32
  let c0_442 : Index := 0#32
  ![v621.toNat, 1008, 0]
def k0_off50 (i : grid0.Coords) (k0_t2 : Fin (k0_t2_loop i).trips) : Fin 3 → Nat :=
  let c2_i32_44 : BitVec 32 := 2#32
  let c0_i32_8 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v12 : BitVec 32 := Scalar.subi v11 c0_i32_8
  let c1_i32_9 : BitVec 32 := 1#32
  let v14 : BitVec 32 := Scalar.divsi v12 c1_i32_9
  let v15 : BitVec 32 := Scalar.muli v14 c1_i32_9
  let v16 : BitVec 32 := Scalar.addi c0_i32_8 v15
  let c1_i32_11 : BitVec 32 := 1#32
  let arg13 : BitVec 32 := Scf.iv v16 c1_i32_11 k0_t2
  let v98 : BitVec 32 := Scalar.muli c2_i32_44 arg13
  let c1_i32_447 : BitVec 32 := 1#32
  let v627 : BitVec 32 := Scalar.addi v98 c1_i32_447
  let v628 : Index := Scalar.indexCast v627
  let c1008_448 : Index := 1008#32
  let c0_449 : Index := 0#32
  ![v628.toNat, 1008, 0]
def k0_cond1 (i : grid0.Coords) : BitVec 1 :=
  let arg1 : BitVec 32 := BitVec.ofNat 32 (i 1).val
  let c1_i32 : BitVec 32 := 1#32
  let v0 : BitVec 32 := Scalar.addi arg1 c1_i32
  let c2_i32_12 : BitVec 32 := 2#32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v18 : BitVec 32 := Scalar.subi v0 v17
  let c2_i32_13 : BitVec 32 := 2#32
  let v19 : BitVec 1 := Scalar.cmpi .sge v18 c2_i32_13
  let v20 : BitVec 32 := Scalar.extui v19
  let c0_i32_14 : BitVec 32 := 0#32
  let v21 : BitVec 1 := Scalar.cmpi .ne v20 c0_i32_14
  v21

def k0_mult5 (i : grid0.Coords) : BitVec 32 :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c0_i32_44 : BitVec 32 := 0#32
  let v98 : BitVec 32 := Scalar.addi v17 c0_i32_44
  let c256_i32 : BitVec 32 := 256#32
  let v99 : BitVec 32 := Scalar.muli v98 c256_i32
  v99
def k0_off51 (i : grid0.Coords) (c0_i32_44 : BitVec 32) : Fin 3 → Nat :=
  let c0_45 : Index := 0#32
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v101 : Index := Scalar.indexCast v100
  let c0_46 : Index := 0#32
  ![0, v101.toNat, 0]
def k0_off52 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v107 : Index := Scalar.indexCast v100
  let c0_48 : Index := 0#32
  ![v107.toNat, 0]
def k0_off53 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v113 : Index := Scalar.indexCast v106
  let c0_52 : Index := 0#32
  let c0_53 : Index := 0#32
  let c0_54 : Index := 0#32
  ![v113.toNat, 0, 0, 0]
def k0_off54 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v121 : Index := Scalar.indexCast v100
  let c128_58 : Index := 128#32
  ![v121.toNat, 128]
def k0_off55 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v127 : Index := Scalar.indexCast v106
  let c1_62 : Index := 1#32
  let c0_63 : Index := 0#32
  let c0_64 : Index := 0#32
  ![v127.toNat, 1, 0, 0]
def k0_off56 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v135 : Index := Scalar.indexCast v100
  let c256_68 : Index := 256#32
  ![v135.toNat, 256]
def k0_off57 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v141 : Index := Scalar.indexCast v106
  let c2_72 : Index := 2#32
  let c0_73 : Index := 0#32
  let c0_74 : Index := 0#32
  ![v141.toNat, 2, 0, 0]
def k0_off58 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v149 : Index := Scalar.indexCast v100
  let c384_78 : Index := 384#32
  ![v149.toNat, 384]
def k0_off59 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v155 : Index := Scalar.indexCast v106
  let c3_82 : Index := 3#32
  let c0_83 : Index := 0#32
  let c0_84 : Index := 0#32
  ![v155.toNat, 3, 0, 0]
def k0_off60 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v163 : Index := Scalar.indexCast v100
  let c512_88 : Index := 512#32
  ![v163.toNat, 512]
def k0_off61 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v169 : Index := Scalar.indexCast v106
  let c4_92 : Index := 4#32
  let c0_93 : Index := 0#32
  let c0_94 : Index := 0#32
  ![v169.toNat, 4, 0, 0]
def k0_off62 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v177 : Index := Scalar.indexCast v100
  let c640_98 : Index := 640#32
  ![v177.toNat, 640]
def k0_off63 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v183 : Index := Scalar.indexCast v106
  let c5_102 : Index := 5#32
  let c0_103 : Index := 0#32
  let c0_104 : Index := 0#32
  ![v183.toNat, 5, 0, 0]
def k0_off64 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v191 : Index := Scalar.indexCast v100
  let c768_108 : Index := 768#32
  ![v191.toNat, 768]
def k0_off65 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v197 : Index := Scalar.indexCast v106
  let c6_112 : Index := 6#32
  let c0_113 : Index := 0#32
  let c0_114 : Index := 0#32
  ![v197.toNat, 6, 0, 0]
def k0_off66 (i : grid0.Coords) (c0_i32_44 : BitVec 32) : Fin 2 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let c256_i32 : BitVec 32 := 256#32
  let v99 : BitVec 32 := Scalar.muli v98 c256_i32
  let v100 : BitVec 32 := v99
  let v205 : Index := Scalar.indexCast v100
  let c896_118 : Index := 896#32
  ![v205.toNat, 896]
def k0_off67 (i : grid0.Coords) (c0_i32_44 : BitVec 32) : Fin 4 → Nat :=
  let arg1 : BitVec 32 := BitVec.ofNat 32 (i 1).val
  let c2_i32_12 : BitVec 32 := 2#32
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v98 : BitVec 32 := Scalar.addi v17 c0_i32_44
  let v105 : BitVec 32 := Scalar.subi arg1 v98
  let c2_i32_47 : BitVec 32 := 2#32
  let v106 : BitVec 32 := Scalar.minsi v105 c2_i32_47
  let v211 : Index := Scalar.indexCast v106
  let c7_122 : Index := 7#32
  let c0_123 : Index := 0#32
  let c0_124 : Index := 0#32
  ![v211.toNat, 7, 0, 0]
def k0_mult6 (i : grid0.Coords) : BitVec 32 :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_128 : BitVec 32 := 1#32
  let v219 : BitVec 32 := Scalar.addi v17 c1_i32_128
  let c256_i32_129 : BitVec 32 := 256#32
  let v220 : BitVec 32 := Scalar.muli v219 c256_i32_129
  v220
def k0_off68 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v516 : Index := Scalar.indexCast v17
  let c0_341 : Index := 0#32
  let c0_342 : Index := 0#32
  ![v516.toNat, 0, 0]
def k0_off69 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_347 : BitVec 32 := 1#32
  let v522 : BitVec 32 := Scalar.addi v17 c1_i32_347
  let v523 : Index := Scalar.indexCast v522
  let c0_348 : Index := 0#32
  let c0_349 : Index := 0#32
  ![v523.toNat, 0, 0]
def k0_off70 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v540 : Index := Scalar.indexCast v17
  let c144 : Index := 144#32
  let c0_363 : Index := 0#32
  ![v540.toNat, 144, 0]
def k0_off71 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_368 : BitVec 32 := 1#32
  let v546 : BitVec 32 := Scalar.addi v17 c1_i32_368
  let v547 : Index := Scalar.indexCast v546
  let c144_369 : Index := 144#32
  let c0_370 : Index := 0#32
  ![v547.toNat, 144, 0]
def k0_off72 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v564 : Index := Scalar.indexCast v17
  let c288 : Index := 288#32
  let c0_384 : Index := 0#32
  ![v564.toNat, 288, 0]
def k0_off73 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_389 : BitVec 32 := 1#32
  let v570 : BitVec 32 := Scalar.addi v17 c1_i32_389
  let v571 : Index := Scalar.indexCast v570
  let c288_390 : Index := 288#32
  let c0_391 : Index := 0#32
  ![v571.toNat, 288, 0]
def k0_off74 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v588 : Index := Scalar.indexCast v17
  let c432 : Index := 432#32
  let c0_405 : Index := 0#32
  ![v588.toNat, 432, 0]
def k0_off75 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_410 : BitVec 32 := 1#32
  let v594 : BitVec 32 := Scalar.addi v17 c1_i32_410
  let v595 : Index := Scalar.indexCast v594
  let c432_411 : Index := 432#32
  let c0_412 : Index := 0#32
  ![v595.toNat, 432, 0]
def k0_off76 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v612 : Index := Scalar.indexCast v17
  let c576 : Index := 576#32
  let c0_426 : Index := 0#32
  ![v612.toNat, 576, 0]
def k0_off77 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_431 : BitVec 32 := 1#32
  let v618 : BitVec 32 := Scalar.addi v17 c1_i32_431
  let v619 : Index := Scalar.indexCast v618
  let c576_432 : Index := 576#32
  let c0_433 : Index := 0#32
  ![v619.toNat, 576, 0]
def k0_off78 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v636 : Index := Scalar.indexCast v17
  let c720 : Index := 720#32
  let c0_447 : Index := 0#32
  ![v636.toNat, 720, 0]
def k0_off79 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_452 : BitVec 32 := 1#32
  let v642 : BitVec 32 := Scalar.addi v17 c1_i32_452
  let v643 : Index := Scalar.indexCast v642
  let c720_453 : Index := 720#32
  let c0_454 : Index := 0#32
  ![v643.toNat, 720, 0]
def k0_off80 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v660 : Index := Scalar.indexCast v17
  let c864 : Index := 864#32
  let c0_468 : Index := 0#32
  ![v660.toNat, 864, 0]
def k0_off81 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_473 : BitVec 32 := 1#32
  let v666 : BitVec 32 := Scalar.addi v17 c1_i32_473
  let v667 : Index := Scalar.indexCast v666
  let c864_474 : Index := 864#32
  let c0_475 : Index := 0#32
  ![v667.toNat, 864, 0]
def k0_off82 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v684 : Index := Scalar.indexCast v17
  let c1008 : Index := 1008#32
  let c0_489 : Index := 0#32
  ![v684.toNat, 1008, 0]
def k0_off83 (i : grid0.Coords) : Fin 3 → Nat :=
  let c2_i32_12 : BitVec 32 := 2#32
  let arg1 : BitVec 32 := BitVec.ofNat 32 (i 1).val
  let c1_i32 : BitVec 32 := 1#32
  let v0 : BitVec 32 := Scalar.addi arg1 c1_i32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let c1_i32_494 : BitVec 32 := 1#32
  let v690 : BitVec 32 := Scalar.addi v17 c1_i32_494
  let v691 : Index := Scalar.indexCast v690
  let c1008_495 : Index := 1008#32
  let c0_496 : Index := 0#32
  ![v691.toNat, 1008, 0]
def k0_cond2 (i : grid0.Coords) : BitVec 1 :=
  let arg1 : BitVec 32 := BitVec.ofNat 32 (i 1).val
  let c1_i32 : BitVec 32 := 1#32
  let v0 : BitVec 32 := Scalar.addi arg1 c1_i32
  let c2_i32_12 : BitVec 32 := 2#32
  let c2_i32 : BitVec 32 := 2#32
  let v9 : BitVec 32 := Scalar.subi v0 c2_i32
  let c0_i32 : BitVec 32 := 0#32
  let v10 : BitVec 32 := Scalar.maxsi v9 c0_i32
  let c1_i32_6 : BitVec 32 := 1#32
  let v11 : BitVec 32 := Scalar.shrui v10 c1_i32_6
  let v17 : BitVec 32 := Scalar.muli c2_i32_12 v11
  let v18 : BitVec 32 := Scalar.subi v0 v17
  let c1_i32_15 : BitVec 32 := 1#32
  let v22 : BitVec 32 := Scalar.andi v18 c1_i32_15
  let c1_i32_16 : BitVec 32 := 1#32
  let v23 : BitVec 1 := Scalar.cmpi .eq v22 c1_i32_16
  let v24 : BitVec 32 := Scalar.extui v23
  let c0_i32_17 : BitVec 32 := 0#32
  let v25 : BitVec 1 := Scalar.cmpi .ne v24 c0_i32_17
  v25

def k0_mult7 (i : grid0.Coords) : BitVec 32 :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  v100
def k0_off84 (i : grid0.Coords) : Fin 3 → Nat :=
  let c0_46 : Index := 0#32
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v102 : Index := Scalar.indexCast v101
  let c0_47 : Index := 0#32
  ![0, v102.toNat, 0]
def k0_off85 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v108 : Index := Scalar.indexCast v101
  let c0_49 : Index := 0#32
  ![v108.toNat, 0]
def k0_off86 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v114 : Index := Scalar.indexCast v107
  let c0_53 : Index := 0#32
  let c0_54 : Index := 0#32
  let c0_55 : Index := 0#32
  ![v114.toNat, 0, 0, 0]
def k0_off87 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v122 : Index := Scalar.indexCast v101
  let c128_59 : Index := 128#32
  ![v122.toNat, 128]
def k0_off88 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v128 : Index := Scalar.indexCast v107
  let c1_63 : Index := 1#32
  let c0_64 : Index := 0#32
  let c0_65 : Index := 0#32
  ![v128.toNat, 1, 0, 0]
def k0_off89 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v136 : Index := Scalar.indexCast v101
  let c256_69 : Index := 256#32
  ![v136.toNat, 256]
def k0_off90 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v142 : Index := Scalar.indexCast v107
  let c2_73 : Index := 2#32
  let c0_74 : Index := 0#32
  let c0_75 : Index := 0#32
  ![v142.toNat, 2, 0, 0]
def k0_off91 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v150 : Index := Scalar.indexCast v101
  let c384_79 : Index := 384#32
  ![v150.toNat, 384]
def k0_off92 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v156 : Index := Scalar.indexCast v107
  let c3_83 : Index := 3#32
  let c0_84 : Index := 0#32
  let c0_85 : Index := 0#32
  ![v156.toNat, 3, 0, 0]
def k0_off93 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v164 : Index := Scalar.indexCast v101
  let c512_89 : Index := 512#32
  ![v164.toNat, 512]
def k0_off94 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v170 : Index := Scalar.indexCast v107
  let c4_93 : Index := 4#32
  let c0_94 : Index := 0#32
  let c0_95 : Index := 0#32
  ![v170.toNat, 4, 0, 0]
def k0_off95 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v178 : Index := Scalar.indexCast v101
  let c640_99 : Index := 640#32
  ![v178.toNat, 640]
def k0_off96 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v184 : Index := Scalar.indexCast v107
  let c5_103 : Index := 5#32
  let c0_104 : Index := 0#32
  let c0_105 : Index := 0#32
  ![v184.toNat, 5, 0, 0]
def k0_off97 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v192 : Index := Scalar.indexCast v101
  let c768_109 : Index := 768#32
  ![v192.toNat, 768]
def k0_off98 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v198 : Index := Scalar.indexCast v107
  let c6_113 : Index := 6#32
  let c0_114 : Index := 0#32
  let c0_115 : Index := 0#32
  ![v198.toNat, 6, 0, 0]
def k0_off99 (i : grid0.Coords) : Fin 2 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let c256_i32 : BitVec 32 := 256#32
  let v100 : BitVec 32 := Scalar.muli v99 c256_i32
  let v101 : BitVec 32 := v100
  let v206 : Index := Scalar.indexCast v101
  let c896_119 : Index := 896#32
  ![v206.toNat, 896]
def k0_off100 (i : grid0.Coords) : Fin 4 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let c0_i32_45 : BitVec 32 := 0#32
  let v99 : BitVec 32 := Scalar.addi v98 c0_i32_45
  let v106 : BitVec 32 := Scalar.subi arg1 v99
  let c2_i32_48 : BitVec 32 := 2#32
  let v107 : BitVec 32 := Scalar.minsi v106 c2_i32_48
  let v212 : Index := Scalar.indexCast v107
  let c7_123 : Index := 7#32
  let c0_124 : Index := 0#32
  let c0_125 : Index := 0#32
  ![v212.toNat, 7, 0, 0]
def k0_off101 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v396 : Index := Scalar.indexCast v98
  let c0_257 : Index := 0#32
  let c0_258 : Index := 0#32
  ![v396.toNat, 0, 0]
def k0_off102 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v412 : Index := Scalar.indexCast v98
  let c144 : Index := 144#32
  let c0_272 : Index := 0#32
  ![v412.toNat, 144, 0]
def k0_off103 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v428 : Index := Scalar.indexCast v98
  let c288 : Index := 288#32
  let c0_286 : Index := 0#32
  ![v428.toNat, 288, 0]
def k0_off104 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v444 : Index := Scalar.indexCast v98
  let c432 : Index := 432#32
  let c0_300 : Index := 0#32
  ![v444.toNat, 432, 0]
def k0_off105 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v460 : Index := Scalar.indexCast v98
  let c576 : Index := 576#32
  let c0_314 : Index := 0#32
  ![v460.toNat, 576, 0]
def k0_off106 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v476 : Index := Scalar.indexCast v98
  let c720 : Index := 720#32
  let c0_328 : Index := 0#32
  ![v476.toNat, 720, 0]
def k0_off107 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v492 : Index := Scalar.indexCast v98
  let c864 : Index := 864#32
  let c0_342 : Index := 0#32
  ![v492.toNat, 864, 0]
def k0_off108 (i : grid0.Coords) : Fin 3 → Nat :=
  let arg1 : BitVec 32 := BitVec.ofNat 32 (i 1).val
  let c1_i32 : BitVec 32 := 1#32
  let v0 : BitVec 32 := Scalar.addi arg1 c1_i32
  let c1_i32_44 : BitVec 32 := 1#32
  let v98 : BitVec 32 := Scalar.subi v0 c1_i32_44
  let v508 : Index := Scalar.indexCast v98
  let c1008 : Index := 1008#32
  let c0_356 : Index := 0#32
  ![v508.toNat, 1008, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1152x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x8x128 : Shape := ⟨4, ![4, 2048, 8, 128]⟩
abbrev S4x2048x2048 : Shape := ⟨3, ![4, 2048, 2048]⟩
abbrev S32x8 : Shape := ⟨2, ![32, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S4x8x2048x2048 : Shape := ⟨4, ![4, 8, 2048, 2048]⟩
abbrev S8x2048x2048 : Shape := ⟨3, ![8, 2048, 2048]⟩
abbrev S1x8x2048x2048 : Shape := ⟨4, ![1, 8, 2048, 2048]⟩
abbrev S1x2048x2048 : Shape := ⟨3, ![1, 2048, 2048]⟩
abbrev S4x1x2048x2048 : Shape := ⟨4, ![4, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S8192x1024 : Shape := ⟨2, ![8192, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x2048x2048, .i32⟩
  | .hbm, ⟨4, _⟩ => ⟨S32x8, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S2048x2048x1, .i32⟩
  | .hbm, ⟨47, _⟩ => ⟨S2048x2048x8, .f32⟩
  | .hbm, ⟨48, _⟩ => ⟨S4x8x2048x2048, .f32⟩
  | .hbm, ⟨49, _⟩ => ⟨S_, .f32⟩
  | .hbm, ⟨50, _⟩ => ⟨S4x8x2048x2048, .f32⟩
  | .hbm, ⟨51, _⟩ => ⟨S4x8x2048x2048, .f32⟩
  | .hbm, ⟨52, _⟩ => ⟨S8x2048x2048, .f32⟩
  | .hbm, ⟨53, _⟩ => ⟨S1x8x2048x2048, .f32⟩
  | .hbm, ⟨54, _⟩ => ⟨S4x8x2048x2048, .f32⟩
  | .hbm, ⟨55, _⟩ => ⟨S4x8x2048x2048, .f32⟩
  | .hbm, ⟨56, _⟩ => ⟨S_, .i32⟩
  | .hbm, ⟨57, _⟩ => ⟨S4x2048x2048, .i32⟩
  | .hbm, ⟨58, _⟩ => ⟨S4x2048x2048, .i1⟩
  | .hbm, ⟨59, _⟩ => ⟨S_, .i32⟩
  | .hbm, ⟨60, _⟩ => ⟨S2048x2048, .i32⟩
  | .hbm, ⟨61, _⟩ => ⟨S2048x2048, .i1⟩
  | .hbm, ⟨62, _⟩ => ⟨S1x2048x2048, .i1⟩
  | .hbm, ⟨63, _⟩ => ⟨S4x2048x2048, .i1⟩
  | .hbm, ⟨64, _⟩ => ⟨S4x2048x2048, .i1⟩
  | .hbm, ⟨65, _⟩ => ⟨S4x1x2048x2048, .i1⟩
  | .hbm, ⟨66, _⟩ => ⟨S_, .f32⟩
  | .hbm, ⟨67, _⟩ => ⟨S_, .f32⟩
  | .hbm, ⟨68, _⟩ => ⟨S4x8x2048x2048, .i1⟩
  | .hbm, ⟨69, _⟩ => ⟨S4x8x2048x2048, .f32⟩
  | .hbm, ⟨70, _⟩ => ⟨S4x8x2048x2048, .f32⟩
  | .hbm, ⟨71, _⟩ => ⟨S_, .f32⟩
  | .hbm, ⟨72, _⟩ => ⟨S4x8x2048, .f32⟩
  | .hbm, ⟨73, _⟩ => ⟨S_, .f32⟩
  | .hbm, ⟨74, _⟩ => ⟨S4x8x2048, .f32⟩
  | .hbm, ⟨75, _⟩ => ⟨S4x8x2048, .f32⟩
  | .hbm, ⟨76, _⟩ => ⟨S4x8x2048x1, .f32⟩
  | .hbm, ⟨77, _⟩ => ⟨S4x8x2048x2048, .f32⟩
  | .hbm, ⟨78, _⟩ => ⟨S4x8x2048x2048, .f32⟩
  | .hbm, ⟨79, _⟩ => ⟨S4x8x2048x2048, .f32⟩
  | .hbm, ⟨80, _⟩ => ⟨S_, .f32⟩
  | .hbm, ⟨81, _⟩ => ⟨S4x8x2048, .f32⟩
  | .hbm, ⟨82, _⟩ => ⟨S4x8x2048x1, .f32⟩
  | .hbm, ⟨83, _⟩ => ⟨S4x8x2048x2048, .f32⟩
  | .hbm, ⟨84, _⟩ => ⟨S4x8x2048x2048, .f32⟩
  | .hbm, ⟨85, _⟩ => ⟨S4x8x128x2048, .f32⟩
  | .hbm, ⟨86, _⟩ => ⟨S4x2048x8x128, .f32⟩
  | .hbm, ⟨87, _⟩ => ⟨S8192x1024, .f32⟩
  | .hbm, ⟨88, _⟩ => ⟨S8192x1024, .bf16⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S2048x11x512 : Shape := ⟨3, ![2048, 11, 512]⟩
abbrev S11x2048x512 : Shape := ⟨3, ![11, 2048, 512]⟩
abbrev S1024x2048 : Shape := ⟨2, ![1024, 2048]⟩
abbrev S1x2048x512 : Shape := ⟨3, ![1, 2048, 512]⟩
abbrev S512x2048 : Shape := ⟨2, ![512, 2048]⟩
abbrev S_ : Shape := ⟨0, ![]⟩
abbrev S1x2048x256 : Shape := ⟨3, ![1, 2048, 256]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 14
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .bf16⟩
  | .hbm, ⟨6, _⟩ => ⟨S2048x11x512, .f32⟩
  | .hbm, ⟨7, _⟩ => ⟨S11x2048x512, .f32⟩
  | .hbm, ⟨8, _⟩ => ⟨S11x2048x512, .bf16⟩
  | .hbm, ⟨9, _⟩ => ⟨S2048x11x512, .f32⟩
  | .hbm, ⟨10, _⟩ => ⟨S11x2048x512, .f32⟩
  | .hbm, ⟨11, _⟩ => ⟨S11x2048x512, .bf16⟩
  | .hbm, ⟨12, _⟩ => ⟨S5632x2048, .bf16⟩
  | .hbm, ⟨13, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v39 : BitVec 32 := Scalar.muli arg0 c1024_i32
  v39
def k0_off1 (i : grid0.Coords) : Fin 2 → Nat :=
  let arg0 : BitVec 32 := BitVec.ofNat 32 (i 0).val
  let c1024_i32 : BitVec 32 := 1024#32
  let v39 : BitVec 32 := Scalar.muli arg0 c1024_i32
  let v40 : BitVec 32 := v39
  let c0_i32_28 : BitVec 32 := 0#32
  ![v40.toNat, 0]
def k0_cond2 (i : grid0.Coords) : BitVec 1 :=
  let arg1 : BitVec 32 := BitVec.ofNat 32 (i 1).val
  let c0_i32_16 : BitVec 32 := 0#32
  let v25 : BitVec 1 := Scalar.cmpi .eq arg1 c0_i32_16
  let v26 : BitVec 32 := Scalar.extui v25
  let c0_i32_17 : BitVec 32 := 0#32
  let v27 : BitVec 1 := Scalar.cmpi .ne v26 c0_i32_17
  v27

def k0_mult2 (i : grid0.Coords) : BitVec 32 :=
  let arg0 : BitVec 32 := BitVec.ofNat 32 (i 0).val
  let c1024_i32 : BitVec 32 := 1024#32
  let v39 : BitVec 32 := Scalar.muli arg0 c1024_i32
  v39
def k0_off2 (i : grid0.Coords) : Fin 2 → Nat :=
  let arg0 : BitVec 32 := BitVec.ofNat 32 (i 0).val
  let c1024_i32 : BitVec 32 := 1024#32
  let v39 : BitVec 32 := Scalar.muli arg0 c1024_i32
  let v40 : BitVec 32 := v39
  let c0_i32_28 : BitVec 32 := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S2048x6144 : Shape := ⟨2, ![2048, 6144]⟩
abbrev S1024x2048 : Shape := ⟨2, ![1024, 2048]⟩
abbrev S2048x5632 : Shape := ⟨2, ![2048, 5632]⟩
abbrev S5632x2048 : Shape := ⟨2, ![5632, 2048]⟩
abbrev S11x2048x512 : Shape := ⟨3, ![11, 2048, 512]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩
abbrev S64x5632 : Shape := ⟨2, ![64, 5632]⟩
abbrev S176x2048 : Shape := ⟨2, ![176, 2048]⟩
abbrev S11x64x512 : Shape := ⟨3, ![11, 64, 512]⟩
abbrev S64x512 : Shape := ⟨2, ![64, 512]⟩
abbrev S1x64x512 : Shape := ⟨3, ![1, 64, 512]⟩

abbrev nBuf : Space → Nat
  | .hbm => 17
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x6144, .f32⟩
  | .hbm, ⟨4, _⟩ => ⟨S1024x2048, .f32⟩
  | .hbm, ⟨5, _⟩ => ⟨S1024x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x2048, .bf16⟩
  | .hbm, ⟨10, _⟩ => ⟨S8192x1024, .bf16⟩
  | .hbm, ⟨11, _⟩ => ⟨S8192x1024, .bf16⟩
  | .hbm, ⟨12, _⟩ => ⟨S2048x6144, .bf16⟩
  | .hbm, ⟨13, _⟩ => ⟨S8192x2048, .bf16⟩
  | .hbm, ⟨14, _⟩ => ⟨S11x2048x512, .bf16⟩
  | .hbm, ⟨15, _⟩ => ⟨S11x2048x512, .bf16⟩
  | .hbm, ⟨16, _⟩ => ⟨S5632x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S64x5632, .f32⟩
  | .local _ .vmem, ⟨11, _⟩ => ⟨S64x5632, .f32⟩
  | .local _ .vmem, ⟨12, _⟩ => ⟨S64x5632, .f32⟩
  | .local _ .vmem, ⟨13, _⟩ => ⟨S64x5632, .f32⟩
  | .local _ .vmem, ⟨14, _⟩ => ⟨S176x2048, .f32⟩
  | .local _ .vmem, ⟨15, _⟩ => ⟨S176x2048, .f32⟩
  | .local _ .vmem, ⟨16, _⟩ => ⟨S512x1024, .bf16⟩
  | .local _ .vmem, ⟨17, _⟩ => ⟨S512x1024, .bf16⟩
  | .local _ .vmem, ⟨18, _⟩ => ⟨S11x64x512, .bf16⟩
  | .local _ .vmem, ⟨19, _⟩ => ⟨S11x64x512, .bf16⟩
  | .local _ .vmem, ⟨20, _⟩ => ⟨S11x64x512, .bf16⟩
  | .local _ .vmem, ⟨21, _⟩ => ⟨S11x64x512, .bf16⟩
  | .local _ .vmem, ⟨22, _⟩ => ⟨S176x2048, .bf16⟩
  | .local _ .vmem, ⟨23, _⟩ => ⟨S176x2048, .bf16⟩
  | .local _ .vmem, ⟨24, _⟩ => ⟨S1024x1024, .bf16⟩
  | .local _ .vmem, ⟨25, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S11x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S11x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8192x2048 : Shape := ⟨2, ![8192, 2048]⟩
abbrev S8192x1024 : Shape := ⟨2, ![8192, 1024]⟩
abbrev S2048x6144 : Shape := ⟨2, ![2048, 6144]⟩
abbrev S1024x2048 : Shape := ⟨2, ![1024, 2048]⟩
abbrev S2048x5632 : Shape := ⟨2, ![2048, 5632]⟩
abbrev S5632x2048 : Shape := ⟨2, ![5632, 2048]⟩
abbrev S8192x6144 : Shape := ⟨2, ![8192, 6144]⟩
abbrev S_ : Shape := ⟨0, ![]⟩
abbrev S2048x11x512 : Shape := ⟨3, ![2048, 11, 512]⟩
abbrev S11x2048x512 : Shape := ⟨3, ![11, 2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x6144, .f32⟩
  | .hbm, ⟨4, _⟩ => ⟨S1024x2048, .f32⟩
  | .hbm, ⟨5, _⟩ => ⟨S1024x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x6144, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S2048x11x512, .f32⟩
  | .hbm, ⟨34, _⟩ => ⟨S11x2048x512, .f32⟩
  | .hbm, ⟨35, _⟩ => ⟨S2048x11x512, .f32⟩
  | .hbm, ⟨36, _⟩ => ⟨S11x2048x512, .f32⟩
  | .hbm, ⟨37, _⟩ => ⟨S8192x2048, .bf16⟩
  | .hbm, ⟨38, _⟩ => ⟨S11x2048x512, .bf16⟩
  | .hbm, ⟨39, _⟩ => ⟨S11x2048x512, .bf16⟩
  | .hbm, ⟨40, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel5.lean ====
abbrev S8192x2048 : Shape := ⟨2, ![8192, 2048]⟩
abbrev S2048x6144 : Shape := ⟨2, ![2048, 6144]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S8192x1024 : Shape := ⟨2, ![8192, 1024]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8192x2048, .bf16⟩
  | .hbm, ⟨6, _⟩ => ⟨S2048x6144, .bf16⟩
  | .hbm, ⟨7, _⟩ => ⟨S1x1024, .f32⟩
  | .hbm, ⟨8, _⟩ => ⟨S128x8, .f32⟩
  | .hbm, ⟨9, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S8x128x128, .f32⟩
  | .local _ .vmem, ⟨6, _⟩ => ⟨S128x8, .f32⟩
  | .local _ .vmem, ⟨7, _⟩ => ⟨S512x1024, .bf16⟩
  | .local _ .vmem, ⟨8, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x2048 : Shape := ⟨2, ![8192, 2048]⟩
abbrev S2048x6144 : Shape := ⟨2, ![2048, 6144]⟩
abbrev S1024 : Shape := ⟨1, ![1024]⟩
abbrev S8x128x128 : Shape := ⟨3, ![8, 128, 128]⟩
abbrev S8x128 : Shape := ⟨2, ![8, 128]⟩
abbrev S8192x6144 : Shape := ⟨2, ![8192, 6144]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8192x6144, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S64x128x8x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S8x64x128x128, .f32⟩
  | .hbm, ⟨77, _⟩ => ⟨S64x128x8x128, .f32⟩
  | .hbm, ⟨78, _⟩ => ⟨S128x8, .f32⟩
  | .hbm, ⟨79, _⟩ => ⟨S128x8x1, .f32⟩
  | .hbm, ⟨80, _⟩ => ⟨S1x128x8x1, .f32⟩
  | .hbm, ⟨81, _⟩ => ⟨S64x128x8x128, .f32⟩
  | .hbm, ⟨82, _⟩ => ⟨S64x128x8x128, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_v43 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x10320 : Shape := ⟨2, ![2048, 10320]⟩
abbrev S128 : Shape := ⟨1, ![128]⟩
abbrev S64 : Shape := ⟨1, ![64]⟩
abbrev S2048x1024 : Shape := ⟨2, ![2048, 1024]⟩
abbrev S2048x64 : Shape := ⟨2, ![2048, 64]⟩
abbrev S2048x16 : Shape := ⟨2, ![2048, 16]⟩
abbrev S1x64 : Shape := ⟨2, ![1, 64]⟩
abbrev S1x2048 : Shape := ⟨2, ![1, 2048]⟩
abbrev S1024x2048 : Shape := ⟨2, ![1024, 2048]⟩
abbrev S_ : Shape := ⟨0, ![]⟩
abbrev S2048x128 : Shape := ⟨2, ![2048, 128]⟩
abbrev S16x2048 : Shape := ⟨2, ![16, 2048]⟩
abbrev S1x128 : Shape := ⟨2, ![1, 128]⟩
abbrev S10320x2048 : Shape := ⟨2, ![10320, 2048]⟩
abbrev S8192x1024 : Shape := ⟨2, ![8192, 1024]⟩
abbrev S32x1152x256 : Shape := ⟨3, ![32, 1152, 256]⟩
abbrev S8192x128 : Shape := ⟨2, ![8192, 128]⟩
abbrev S16x8192 : Shape := ⟨2, ![16, 8192]⟩
abbrev S2048x6144 : Shape := ⟨2, ![2048, 6144]⟩
abbrev S512x2048 : Shape := ⟨2, ![512, 2048]⟩
abbrev S384x2048 : Shape := ⟨2, ![384, 2048]⟩
abbrev S512x1024 : Shape := ⟨2, ![512, 1024]⟩
abbrev S2x1152x256 : Shape := ⟨3, ![2, 1152, 256]⟩
abbrev S512x128 : Shape := ⟨2, ![512, 128]⟩
abbrev S16x512 : Shape := ⟨2, ![16, 512]⟩
abbrev S2048x384 : Shape := ⟨2, ![2048, 384]⟩
abbrev S512 : Shape := ⟨1, ![512]⟩
abbrev S512x1 : Shape := ⟨2, ![512, 1]⟩
abbrev S1024x512 : Shape := ⟨2, ![1024, 512]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩

abbrev nBuf : Space → Nat
  | .hbm => 47
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10320, .f32⟩
  | .hbm, ⟨3, _⟩ => ⟨S128, .f32⟩
  | .hbm, ⟨4, _⟩ => ⟨S128, .f32⟩
  | .hbm, ⟨5, _⟩ => ⟨S64, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x64, .f32⟩
  | .hbm, ⟨11, _⟩ => ⟨S2048x16, .f32⟩
  | .hbm, ⟨12, _⟩ => ⟨S1x64, .f32⟩
  | .hbm, ⟨13, _⟩ => ⟨S1x2048, .f32⟩
  | .hbm, ⟨14, _⟩ => ⟨S2048x1024, .bf16⟩
  | .hbm, ⟨15, _⟩ => ⟨S2048x1024, .bf16⟩
  | .hbm, ⟨16, _⟩ => ⟨S1024x2048, .f32⟩
  | .hbm, ⟨17, _⟩ => ⟨S1024x2048, .bf16⟩
  | .hbm, ⟨18, _⟩ => ⟨S2048x1024, .bf16⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x128, .bf16⟩
  | .hbm, ⟨23, _⟩ => ⟨S_, .i32⟩
  | .hbm, ⟨24, _⟩ => ⟨S_, .f32⟩
  | .hbm, ⟨25, _⟩ => ⟨S2048x128, .f32⟩
  | .hbm, ⟨26, _⟩ => ⟨S2048x128, .bf16⟩
  | .hbm, ⟨27, _⟩ => ⟨S16x2048, .f32⟩
  | .hbm, ⟨28, _⟩ => ⟨S16x2048, .bf16⟩
  | .hbm, ⟨29, _⟩ => ⟨S1x128, .f32⟩
  | .hbm, ⟨30, _⟩ => ⟨S1x128, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S10320x2048, .f32⟩
  | .hbm, ⟨38, _⟩ => ⟨S8192x2048, .bf16⟩
  | .hbm, ⟨39, _⟩ => ⟨S8192x1024, .bf16⟩
  | .hbm, ⟨40, _⟩ => ⟨S8192x1024, .bf16⟩
  | .hbm, ⟨41, _⟩ => ⟨S32x1152x256, .bf16⟩
  | .hbm, ⟨42, _⟩ => ⟨S8192x1024, .bf16⟩
  | .hbm, ⟨43, _⟩ => ⟨S8192x128, .bf16⟩
  | .hbm, ⟨44, _⟩ => ⟨S8192x128, .bf16⟩
  | .hbm, ⟨45, _⟩ => ⟨S16x8192, .f32⟩
  | .hbm, ⟨46, _⟩ => ⟨S2048x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S2048x1024, .bf16⟩
  | .local _ .vmem, ⟨7, _⟩ => ⟨S2048x128, .bf16⟩
  | .local _ .vmem, ⟨8, _⟩ => ⟨S2048x128, .bf16⟩
  | .local _ .vmem, ⟨9, _⟩ => ⟨S16x2048, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S384x2048, .f32⟩
  | .local _ .vmem, ⟨15, _⟩ => ⟨S384x2048, .f32⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S2x1152x256, .bf16⟩
  | .local _ .vmem, ⟨23, _⟩ => ⟨S2x1152x256, .bf16⟩
  | .local _ .vmem, ⟨24, _⟩ => ⟨S512x1024, .bf16⟩
  | .local _ .vmem, ⟨25, _⟩ => ⟨S512x1024, .bf16⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S16x512, .f32⟩
  | .local _ .vmem, ⟨31, _⟩ => ⟨S16x512, .f32⟩
  | .local _ .vmem, ⟨32, _⟩ => ⟨S2048x384, .bf16⟩
  | .local _ .vmem, ⟨33, _⟩ => ⟨S2048x384, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call2_v0 : Ref sig .tc := ⟨.hbm, 32, rfl⟩
abbrev main_v21 : Ref sig .tc := ⟨.hbm, 33, rfl⟩
abbrev main_c_2 : Ref sig .tc := ⟨.hbm, 34, rfl⟩
abbrev main_call3_v0 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev main_v24_5 : Ref sig .tc := ⟨.hbm, 43, rfl⟩
abbrev main_v24_6 : Ref sig .tc := ⟨.hbm, 44, rfl⟩
abbrev main_v24_7 : Ref sig .tc := ⟨.hbm, 45, rfl⟩
abbrev main_v24_8 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c4176_i32 : BitVec 32 := 4176#32
  let arg0 : BitVec 32 := BitVec.ofNat 32 (i 0).val
  let c384_i32 : BitVec 32 := 384#32
  let v0 : BitVec 32 := Scalar.muli arg0 c384_i32
  let v1 : BitVec 32 := Scalar.addi c4176_i32 v0
  v1
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c384_i32 : BitVec 32 := 384#32
  let v0 : BitVec 32 := Scalar.muli arg0 c384_i32
  let c4176_i32 : BitVec 32 := 4176#32
  let v1 : BitVec 32 := Scalar.addi c4176_i32 v0
  let v2 : BitVec 32 := v1
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1152x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x384 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference6Ideal.lean ====
abbrev S8192x2048 : Shape := ⟨2, ![8192, 2048]⟩
abbrev S2048 : Shape := ⟨1, ![2048]⟩
abbrev S2048x10320 : Shape := ⟨2, ![2048, 10320]⟩
abbrev S128 : Shape := ⟨1, ![128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x10320 : Shape := ⟨2, ![8192, 10320]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩
abbrev S1x1x128 : Shape := ⟨3, ![1, 1, 128]⟩
abbrev S32x256x8x128 : Shape := ⟨4, ![32, 256, 8, 128]⟩
abbrev S32x8x128x256 : Shape := ⟨4, ![32, 8, 128, 256]⟩
abbrev S32x8x16x256 : Shape := ⟨4, ![32, 8, 16, 256]⟩
abbrev S32x8x144x256 : Shape := ⟨4, ![32, 8, 144, 256]⟩
abbrev S8192x64 : Shape := ⟨2, ![8192, 64]⟩
abbrev S1x64 : Shape := ⟨2, ![1, 64]⟩
abbrev S8192x16 : Shape := ⟨2, ![8192, 16]⟩
abbrev S16x8192 : Shape := ⟨2, ![16, 8192]⟩
abbrev S32x1152x256 : Shape := ⟨3, ![32, 1152, 256]⟩
abbrev S8192x128 : Shape := ⟨2, ![8192, 128]⟩
abbrev S2048x6144 : Shape := ⟨2, ![2048, 6144]⟩

abbrev nBuf : Space → Nat
  | .hbm => 107
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10320, .f32⟩
  | .hbm, ⟨3, _⟩ => ⟨S128, .f32⟩
  | .hbm, ⟨4, _⟩ => ⟨S128, .f32⟩
  | .hbm, ⟨5, _⟩ => ⟨S64, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x10320, .f32⟩
  | .hbm, ⟨23, _⟩ => ⟨S8192x1024, .f32⟩
  | .hbm, ⟨24, _⟩ => ⟨S8192x8x128, .f32⟩
  | .hbm, ⟨25, _⟩ => ⟨S8192x8x128, .f32⟩
  | .hbm, ⟨26, _⟩ => ⟨S_, .f32⟩
  | .hbm, ⟨27, _⟩ => ⟨S8192x8, .f32⟩
  | .hbm, ⟨28, _⟩ => ⟨S8192x8x1, .f32⟩
  | .hbm, ⟨29, _⟩ => ⟨S_, .f32⟩
  | .hbm, ⟨30, _⟩ => ⟨S8192x8x1, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x1, .f32⟩
  | .hbm, ⟨36, _⟩ => ⟨S8192x8x128, .f32⟩
  | .hbm, ⟨37, _⟩ => ⟨S8192x8x128, .f32⟩
  | .hbm, ⟨38, _⟩ => ⟨S1x1x128, .f32⟩
  | .hbm, ⟨39, _⟩ => ⟨S8192x8x128, .f32⟩
  | .hbm, ⟨40, _⟩ => ⟨S8192x8x128, .f32⟩
  | .hbm, ⟨41, _⟩ => ⟨S_, .f32⟩
  | .hbm, ⟨42, _⟩ => ⟨S8192x8x128, .f32⟩
  | .hbm, ⟨43, _⟩ => ⟨S8192x8x128, .f32⟩
  | .hbm, ⟨44, _⟩ => ⟨S8192x1024, .f32⟩
  | .hbm, ⟨45, _⟩ => ⟨S8192x8x128, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S8192x8x1, .f32⟩
  | .hbm, ⟨50, _⟩ => ⟨S_, .f32⟩
  | .hbm, ⟨51, _⟩ => ⟨S8192x8x1, .f32⟩
  | .hbm, ⟨52, _⟩ => ⟨S8192x8x1, .f32⟩
  | .hbm, ⟨53, _⟩ => ⟨S_, .f32⟩
  | .hbm, ⟨54, _⟩ => ⟨S8192x8x1, .f32⟩
  | .hbm, ⟨55, _⟩ => ⟨S8192x8x1, .f32⟩
  | .hbm, ⟨56, _⟩ => ⟨S8192x8x1, .f32⟩
  | .hbm, ⟨57, _⟩ => ⟨S8192x8x128, .f32⟩
  | .hbm, ⟨58, _⟩ => ⟨S8192x8x128, .f32⟩
  | .hbm, ⟨59, _⟩ => ⟨S1x1x128, .f32⟩
  | .hbm, ⟨60, _⟩ => ⟨S8192x8x128, .f32⟩
  | .hbm, ⟨61, _⟩ => ⟨S8192x8x128, .f32⟩
  | .hbm, ⟨62, _⟩ => ⟨S8192x1024, .f32⟩
  | .hbm, ⟨63, _⟩ => ⟨S32x256x8x128, .f32⟩
  | .hbm, ⟨64, _⟩ => ⟨S32x8x128x256, .f32⟩
  | .hbm, ⟨65, _⟩ => ⟨S_, .f32⟩
  | .hbm, ⟨66, _⟩ => ⟨S32x8x16x256, .f32⟩
  | .hbm, ⟨67, _⟩ => ⟨S32x8x144x256, .f32⟩
  | .hbm, ⟨68, _⟩ => ⟨S8192x64, .f32⟩
  | .hbm, ⟨69, _⟩ => ⟨S8192x64, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x64, .f32⟩
  | .hbm, ⟨81, _⟩ => ⟨S8192x64, .f32⟩
  | .hbm, ⟨82, _⟩ => ⟨S1x64, .f32⟩
  | .hbm, ⟨83, _⟩ => ⟨S8192x64, .f32⟩
  | .hbm, ⟨84, _⟩ => ⟨S8192x64, .f32⟩
  | .hbm, ⟨85, _⟩ => ⟨S_, .f32⟩
  | .hbm, ⟨86, _⟩ => ⟨S8192x64, .f32⟩
  | .hbm, ⟨87, _⟩ => ⟨S8192x16, .f32⟩
  | .hbm, ⟨88, _⟩ => ⟨S16x8192, .f32⟩
  | .hbm, ⟨89, _⟩ => ⟨S_, .f32⟩
  | .hbm, ⟨90, _⟩ => ⟨S16x8192, .f32⟩
  | .hbm, ⟨91, _⟩ => ⟨S16x8192, .f32⟩
  | .hbm, ⟨92, _⟩ => ⟨S8192x1024, .f32⟩
  | .hbm, ⟨93, _⟩ => ⟨S8192x1024, .f32⟩
  | .hbm, ⟨94, _⟩ => ⟨S32x1152x256, .f32⟩
  | .hbm, ⟨95, _⟩ => ⟨S8192x1024, .f32⟩
  | .hbm, ⟨96, _⟩ => ⟨S8192x128, .f32⟩
  | .hbm, ⟨97, _⟩ => ⟨S8192x128, .f32⟩
  | .hbm, ⟨98, _⟩ => ⟨S8192x2048, .bf16⟩
  | .hbm, ⟨99, _⟩ => ⟨S8192x1024, .bf16⟩
  | .hbm, ⟨100, _⟩ => ⟨S8192x1024, .bf16⟩
  | .hbm, ⟨101, _⟩ => ⟨S32x1152x256, .bf16⟩
  | .hbm, ⟨102, _⟩ => ⟨S8192x1024, .bf16⟩
  | .hbm, ⟨103, _⟩ => ⟨S8192x128, .bf16⟩
  | .hbm, ⟨104, _⟩ => ⟨S8192x128, .bf16⟩
  | .hbm, ⟨105, _⟩ => ⟨S2048x6144, .f32⟩
  | .hbm, ⟨106, _⟩ => ⟨S2048x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Kernel7.lean ====
abbrev S2048x10320 : Shape := ⟨2, ![2048, 10320]⟩
abbrev S10320x2048 : Shape := ⟨2, ![10320, 2048]⟩
abbrev S2048x1024 : Shape := ⟨2, ![2048, 1024]⟩
abbrev S1024x2048 : Shape := ⟨2, ![1024, 2048]⟩
abbrev S2048x128 : Shape := ⟨2, ![2048, 128]⟩
abbrev S16x2048 : Shape := ⟨2, ![16, 2048]⟩
abbrev S4224x256 : Shape := ⟨2, ![4224, 256]⟩
abbrev S256x1024 : Shape := ⟨2, ![256, 1024]⟩
abbrev S1024x256 : Shape := ⟨2, ![1024, 256]⟩
abbrev S256x128 : Shape := ⟨2, ![256, 128]⟩
abbrev S16x256 : Shape := ⟨2, ![16, 256]⟩
abbrev S128x256 : Shape := ⟨2, ![128, 256]⟩

abbrev nBuf : Space → Nat
  | .hbm => 9
  | .vmem => 16
  | .smem => 0
  | _ => 0

abbrev bufTy : (tb : Table) → Fin (tcTables nBuf tb) → BufTy
  | .hbm, ⟨0, _⟩ => ⟨S2048x10320, .f32⟩
  | .hbm, ⟨1, _⟩ => ⟨S10320x2048, .f32⟩
  | .hbm, ⟨2, _⟩ => ⟨S2048x1024, .bf16⟩
  | .hbm, ⟨3, _⟩ => ⟨S2048x1024, .bf16⟩
  | .hbm, ⟨4, _⟩ => ⟨S1024x2048, .bf16⟩
  | .hbm, ⟨5, _⟩ => ⟨S2048x1024, .bf16⟩
  | .hbm, ⟨6, _⟩ => ⟨S2048x128, .bf16⟩
  | .hbm, ⟨7, _⟩ => ⟨S2048x128, .bf16⟩
  | .hbm, ⟨8, _⟩ => ⟨S16x2048, .bf16⟩
  | .local _ .vmem, ⟨0, _⟩ => ⟨S4224x256, .f32⟩
  | .local _ .vmem, ⟨1, _⟩ => ⟨S4224x256, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S16x256, .bf16⟩
  | .local _ .vmem, ⟨15, _⟩ => ⟨S16x256, .bf16⟩
  | _, _ => ⟨S2048x10320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S2048x10320 : Shape := ⟨2, ![2048, 10320]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S1024x2048 : Shape := ⟨2, ![1024, 2048]⟩
abbrev S2048x128 : Shape := ⟨2, ![2048, 128]⟩
abbrev S16x2048 : Shape := ⟨2, ![16, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x10320, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x64, .f32⟩
  | .hbm, ⟨6, _⟩ => ⟨S2048x16, .f32⟩
  | .hbm, ⟨7, _⟩ => ⟨S_, .f32⟩
  | .hbm, ⟨8, _⟩ => ⟨S2048x64, .f32⟩
  | .hbm, ⟨9, _⟩ => ⟨S1024x2048, .f32⟩
  | .hbm, ⟨10, _⟩ => ⟨S2048x128, .f32⟩
  | .hbm, ⟨11, _⟩ => ⟨S2048x128, .f32⟩
  | .hbm, ⟨12, _⟩ => ⟨S16x2048, .f32⟩
  | .hbm, ⟨13, _⟩ => ⟨S2048x1024, .bf16⟩
  | .hbm, ⟨14, _⟩ => ⟨S2048x1024, .bf16⟩
  | .hbm, ⟨15, _⟩ => ⟨S1024x2048, .bf16⟩
  | .hbm, ⟨16, _⟩ => ⟨S2048x1024, .bf16⟩
  | .hbm, ⟨17, _⟩ => ⟨S2048x128, .bf16⟩
  | .hbm, ⟨18, _⟩ => ⟨S2048x128, .bf16⟩
  | .hbm, ⟨19, _⟩ => ⟨S16x2048, .bf16⟩
  | _, _ => ⟨S2048x10320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Proof.Near.lean ====
/- The two blocks of the attention body that handle the keys near the queries, each run once by symbolic execution. -/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Near

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The last full pair of key blocks, biased. -/
def nearPair (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 : BitVec 32) (v17 : BitVec 32) (k0_h1 : k0_cond1 i = 1#1) :
    Prog (TpuEff nD τ sig (Elt F) Λ₀ .tc) (PUnit) := do
  let ⟨v697, v699, v701⟩ : Σ' (v697 : FVec F S144x256 .f32) (v699 : FVec F S1x256 .f32), FVec F S144x256 .f32 ← k0_part53 i arg2 harg2 arg3 harg3 arg4 harg4 arg5 harg5 arg6 harg6 arg7 harg7 arg8 harg8 arg9 harg9 arg10 harg10 arg11 harg11 arg12 harg12 arg1 v17 k0_h1
  let v705 : Vec F S1x144x256 .f32 ← Prog.lift (.load arg10 (Rect.unit (s := S8x144x256) ![7, 0, 0] S1x144x256.size inb_S8x144x256_S1x144x256_7_0_0).toLoadRect (View.loadsAt_vmem h_S1x144x256))
  Prog.lift (.store arg10 (Rect.unit (s := S8x144x256) ![7, 0, 0] S1x144x256.size inb_S8x144x256_S1x144x256_7_0_0) (k0_pay366 v697 v699 v701) Finset.univ (View.stores_vmem_bits_univ h_S1x144x256 rfl) (.inl rfl))
  pure ⟨⟩

/-- The block on the diagonal taken alone, biased. -/
def nearSingle (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 : BitVec 32) (v0 : BitVec 32) (k0_h2 : k0_cond2 i = 1#1) :
    Prog (TpuEff nD τ sig (Elt F) Λ₀ .tc) (PUnit) := do
  let ⟨v98, v101, v105, v107, v132⟩ : Σ' (v98 : BitVec 32) (v101 : BitVec 32) (v105 : FVec F S256x256 .f32) (v107 : BitVec 32), FVec F S256x256 .f32 ← k0_part54 i arg2 harg2 arg3 harg3 arg4 harg4 arg5 harg5 arg6 harg6 arg7 harg7 arg8 harg8 arg9 harg9 arg10 harg10 arg11 harg11 arg12 harg12 arg1 v0 k0_h2
  let v166 : FVec F S256x128 .bf16 ← k0_part55 i arg2 harg2 arg3 harg3 arg4 harg4 arg5 harg5 arg6 harg6 arg7 harg7 arg8 harg8 arg9 harg9 arg10 harg10 arg11 harg11 arg12 harg12 k0_h2 v101 v105 v107 v132
  let v197 : FVec F S256x256 .f32 ← k0_part56 i arg2 harg2 arg3 harg3 arg4 harg4 arg5 harg5 arg6 harg6 arg7 harg7 arg8 harg8 arg9 harg9 arg10 harg10 arg11 harg11 arg12 harg12 k0_h2 v101 v105 v107 v166
  let ⟨v226, v228, v232, v233⟩ : Σ' (v226 : FVec F S1x256 .f32) (v228 : FVec F S1x256 .f32) (v232 : FVec F S256x256 .bf16), Vec F S1x256x256 .bf16 ← k0_part57 i arg2 harg2 arg3 harg3 arg4 harg4 arg5 harg5 arg6 harg6 arg7 harg7 arg8 harg8 arg9 harg9 arg10 harg10 arg11 harg11 arg12 harg12 k0_h2 v101 v105 v107 v197
  k0_part58 i arg2 harg2 arg3 harg3 arg4 harg4 arg5 harg5 arg6 harg6 arg7 harg7 arg8 harg8 arg9 harg9 arg10 harg10 arg11 harg11 arg12 harg12 v226 v228 v232 v233
  let ⟨v292, v294, v298⟩ : Σ' (v292 : FVec F S1x256 .f32) (v294 : FVec F S1x256 .f32), FVec F S256x256 .bf16 ← k0_part59 i arg2 harg2 arg3 harg3 arg4 harg4 arg5 harg5 arg6 harg6 arg7 harg7 arg8 harg8 arg9 harg9 arg10 harg10 arg11 harg11 arg12 harg12
  let v329 : FVec F S1x1x256 .f32 ← k0_part60 i arg2 harg2 arg3 harg3 arg4 harg4 arg5 harg5 arg6 harg6 arg7 harg7 arg8 harg8 arg9 harg9 arg10 harg10 arg11 harg11 arg12 harg12 v292 v294 v298
  let ⟨v358, v360, v362⟩ : Σ' (v358 : FVec F S1x256 .f32) (v360 : FVec F S1x256 .f32), FVec F S256x256 .f32 ← k0_part61 i arg2 harg2 arg3 harg3 arg4 harg4 arg5 harg5 arg6 harg6 arg7 harg7 arg8 harg8 arg9 harg9 arg10 harg10 arg11 harg11 arg12 harg12 v329
  let v382 : FVec F S1x256 .f32 ← k0_part62 i arg2 harg2 arg3 harg3 arg4 harg4 arg5 harg5 arg6 harg6 arg7 harg7 arg8 harg8 arg9 harg9 arg10 harg10 arg11 harg11 arg12 harg12 v358 v360 v362
  let ⟨v417, v423⟩ : Σ' (v417 : FVec F S144x256 .f32), FVec F S144x256 .f32 ← k0_part63 i arg2 harg2 arg3 harg3 arg4 harg4 arg5 harg5 arg6 harg6 arg7 harg7 arg8 harg8 arg9 harg9 arg10 harg10 arg11 harg11 arg12 harg12 k0_h2 v98 v382
  let ⟨v449, v451⟩ : Σ' (v449 : FVec F S144x256 .f32), FVec F S1x256 .f32 ← k0_part64 i arg2 harg2 arg3 harg3 arg4 harg4 arg5 harg5 arg6 harg6 arg7 harg7 arg8 harg8 arg9 harg9 arg10 harg10 arg11 harg11 arg12 harg12 k0_h2 v98 v417 v423
  let ⟨v481, v482⟩ : Σ' (v481 : FVec F S144x256 .f32), Vec F S1x1x256 .f32 ← k0_part65 i arg2 harg2 arg3 harg3 arg4 harg4 arg5 harg5 arg6 harg6 arg7 harg7 arg8 harg8 arg9 harg9 arg10 harg10 arg11 harg11 arg12 harg12 k0_h2 v98 v449 v451
  let v513 : FVec F S144x256 .f32 ← k0_part66 i arg2 harg2 arg3 harg3 arg4 harg4 arg5 harg5 arg6 harg6 arg7 harg7 arg8 harg8 arg9 harg9 arg10 harg10 arg11 harg11 arg12 harg12 k0_h2 v98 v481 v482
  let v514 : Vec F S1x1x256 .f32 ← Prog.lift (.load arg9 (Rect.unit (s := S8x1x256) ![7, 0, 0] S1x1x256.size inb_S8x1x256_S1x1x256_7_0_0).toLoadRect (View.loadsAt_vmem h_S1x1x256))
  let v516 : Vec F S1x144x256 .f32 ← Prog.lift (.load arg10 (Rect.unit (s := S8x144x256) ![7, 0, 0] S1x144x256.size inb_S8x144x256_S1x144x256_7_0_0).toLoadRect (View.loadsAt_vmem h_S1x144x256))
  let v521 : Vec F S1x144x256 .f32 ← Prog.lift (.load arg10 (Rect.unit (s := S8x144x256) ![7, 0, 0] S1x144x256.size inb_S8x144x256_S1x144x256_7_0_0).toLoadRect (View.loadsAt_vmem h_S1x144x256))
  Prog.lift (.store arg10 (Rect.unit (s := S8x144x256) ![7, 0, 0] S1x144x256.size inb_S8x144x256_S1x144x256_7_0_0) (k0_pay367 v513 v514 v516) Finset.univ (View.stores_vmem_bits_univ h_S1x144x256 rfl) (.inl rfl))
  pure ⟨⟩

/-- One run of `nearPair` from any contents: what it writes into the five scratch buffers, as functions of the contents it finds. -/
@[irreducible] def pairRun (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 : BitVec 32) (v17 : BitVec 32) (k0_h1 : k0_cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Σ' (L_arg8 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x1x256 .f32)) (L_arg9 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x1x256 .f32)) (L_arg10 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x144x256 .f32)) (L_arg11 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x512x256 .f32)) (L_arg12 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x512x256 .bf16)), ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12)) : sProp 𝕄)
      ⊢ wp frame (wpE (defs₀ (F := F)) Variants.none (c : Thread nD τ) none) E (nearPair (F := F) i arg2 harg2 arg3 harg3 arg4 harg4 arg5 harg5 arg6 harg6 arg7 harg7 arg8 harg8 arg9 harg9 arg10 harg10 arg11 harg11 arg12 harg12 arg1 v17 k0_h1)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (arg8.view.writes (Elt F) f_arg8 (L_arg8 f_arg8 f_arg9 f_arg10 f_arg11 f_arg12))) ∗ (arg9.view.loc (c : Thread nD τ) ↦[arg9.view.set]{fullShare} (arg9.view.writes (Elt F) f_arg9 (L_arg9 f_arg8 f_arg9 f_arg10 f_arg11 f_arg12))) ∗ (arg10.view.loc (c : Thread nD τ) ↦[arg10.view.set]{fullShare} (arg10.view.writes (Elt F) f_arg10 (L_arg10 f_arg8 f_arg9 f_arg10 f_arg11 f_arg12))) ∗ (arg11.view.loc (c : Thread nD τ) ↦[arg11.view.set]{fullShare} (arg11.view.writes (Elt F) f_arg11 (L_arg11 f_arg8 f_arg9 f_arg10 f_arg11 f_arg12))) ∗ (arg12.view.loc (c : Thread nD τ) ↦[arg12.view.set]{fullShare} (arg12.view.writes (Elt F) f_arg12 (L_arg12 f_arg8 f_arg9 f_arg10 f_arg11 f_arg12))))) := by
  refine ⟨?_, ?_, ?_, ?_, ?_, fun E f_arg8 f_arg9 f_arg10 f_arg11 f_arg12 => ?run⟩
  case run =>
    unfold nearPair
    iintro ⟨HR_arg2, HR_arg3, HR_arg4, HR_arg5, HR_arg6, HW_arg8, HW_arg9, HW_arg10, HW_arg11, HW_arg12⟩
    sl_exec
    sl_step
    sl_close

/-- One run of `nearSingle` from any contents: what it writes into the five scratch buffers, as functions of the contents it finds. -/
@[irreducible] def singleRun (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 : BitVec 32) (v0 : BitVec 32) (k0_h2 : k0_cond2 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Σ' (L_arg8 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x1x256 .f32)) (L_arg9 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x1x256 .f32)) (L_arg10 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x144x256 .f32)) (L_arg11 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x512x256 .f32)) (L_arg12 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S8x512x256 .bf16)), ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12)) : sProp 𝕄)
      ⊢ wp frame (wpE (defs₀ (F := F)) Variants.none (c : Thread nD τ) none) E (nearSingle (F := F) i arg2 harg2 arg3 harg3 arg4 harg4 arg5 harg5 arg6 harg6 arg7 harg7 arg8 harg8 arg9 harg9 arg10 harg10 arg11 harg11 arg12 harg12 arg1 v0 k0_h2)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (arg8.view.writes (Elt F) f_arg8 (L_arg8 f_arg8 f_arg9 f_arg10 f_arg11 f_arg12))) ∗ (arg9.view.loc (c : Thread nD τ) ↦[arg9.view.set]{fullShare} (arg9.view.writes (Elt F) f_arg9 (L_arg9 f_arg8 f_arg9 f_arg10 f_arg11 f_arg12))) ∗ (arg10.view.loc (c : Thread nD τ) ↦[arg10.view.set]{fullShare} (arg10.view.writes (Elt F) f_arg10 (L_arg10 f_arg8 f_arg9 f_arg10 f_arg11 f_arg12))) ∗ (arg11.view.loc (c : Thread nD τ) ↦[arg11.view.set]{fullShare} (arg11.view.writes (Elt F) f_arg11 (L_arg11 f_arg8 f_arg9 f_arg10 f_arg11 f_arg12))) ∗ (arg12.view.loc (c : Thread nD τ) ↦[arg12.view.set]{fullShare} (arg12.view.writes (Elt F) f_arg12 (L_arg12 f_arg8 f_arg9 f_arg10 f_arg11 f_arg12))))) := by
  refine ⟨?_, ?_, ?_, ?_, ?_, fun E f_arg8 f_arg9 f_arg10 f_arg11 f_arg12 => ?run⟩
  case run =>
    unfold nearSingle
    iintro ⟨HR_arg2, HR_arg3, HR_arg4, HR_arg5, HR_arg6, HW_arg8, HW_arg9, HW_arg10, HW_arg11, HW_arg12⟩
    sl_exec
    sl_step
    sl_close

end Cert.KernelIdeal.Near

end
-- ==== Proof.Body.lean ====
/- The attention body's run: the resets, the far pairs' loop, the near pair, the diagonal block, the quotients. -/
module

public import proofs.«01_k».proof.Proof.Near

@[expose] public section

set_option maxRecDepth 16384
set_option maxHeartbeats 4000000

noncomputable section

namespace Cert.KernelIdeal.Body

open Cert.KernelIdeal Cert.KernelIdeal.Gen Cert.KernelIdeal.Near
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- `k0_part67` with its two conditional blocks named. -/
def part67 (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) :
    Prog (TpuEff nD τ sig (Elt F) Λ₀ .tc) (PUnit) := do
  let arg1 : BitVec 32 := BitVec.ofNat 32 (i 1).val
  let v0 : BitVec 32 := Scalar.addi arg1 1#32
  let v2 : Vec F S8x1x256 .f32 ← Prog.lift (.load arg8 (Rect.unit (s := S8x1x256) ![0, 0, 0] S8x1x256.size inb_S8x1x256_S8x1x256_0_0_0).toLoadRect (View.loadsAt_vmem h_S8x1x256))
  Prog.lift (.store arg8 (Rect.unit (s := S8x1x256) ![0, 0, 0] S8x1x256.size inb_S8x1x256_S8x1x256_0_0_0) (k0_pay362 (F := F)) Finset.univ (View.stores_vmem_bits_univ h_S8x1x256 rfl) (.inl rfl))
  let v6 : Vec F S8x144x256 .f32 ← Prog.lift (.load arg10 (Rect.unit (s := S8x144x256) ![0, 0, 0] S8x144x256.size inb_S8x144x256_S8x144x256_0_0_0).toLoadRect (View.loadsAt_vmem h_S8x144x256))
  Prog.lift (.store arg10 (Rect.unit (s := S8x144x256) ![0, 0, 0] S8x144x256.size inb_S8x144x256_S8x144x256_0_0_0) (k0_pay363 (F := F)) Finset.univ (View.stores_vmem_bits_univ h_S8x144x256 rfl) (.inl rfl))
  let v9 : BitVec 32 := Scalar.subi v0 2#32
  let v10 : BitVec 32 := Scalar.maxsi v9 0#32
  let v11 : BitVec 32 := Scalar.shrui v10 1#32
  let v12 : BitVec 32 := Scalar.subi v11 0#32
  let v14 : BitVec 32 := Scalar.divsi v12 1#32
  let v15 : BitVec 32 := Scalar.muli v14 1#32
  let v16 : BitVec 32 := Scalar.addi 0#32 v15
  Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg1)
  Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg1 v16)
  let v17 : BitVec 32 := Scalar.muli 2#32 v11
  if k0_h1 : k0_cond1 i = 1#1 then nearPair i arg2 harg2 arg3 harg3 arg4 harg4 arg5 harg5 arg6 harg6 arg7 harg7 arg8 harg8 arg9 harg9 arg10 harg10 arg11 harg11 arg12 harg12 arg1 v17 k0_h1
  else do
    pure ⟨⟩
  if k0_h2 : k0_cond2 i = 1#1 then nearSingle i arg2 harg2 arg3 harg3 arg4 harg4 arg5 harg5 arg6 harg6 arg7 harg7 arg8 harg8 arg9 harg9 arg10 harg10 arg11 harg11 arg12 harg12 arg1 v0 k0_h2
  else do
    pure ⟨⟩
  pure ⟨⟩

set_option maxRecDepth 65536 in
theorem part67_eq : k0_part67 (F := F) = part67 (F := F) := rfl

/-- The resets. -/
def pre67 (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : Prog (TpuEff nD τ sig (Elt F) Λ₀ .tc) PUnit := do
  let arg1 : BitVec 32 := BitVec.ofNat 32 (i 1).val
  let v0 : BitVec 32 := Scalar.addi arg1 1#32
  let v2 : Vec F S8x1x256 .f32 ← Prog.lift (.load arg8 (Rect.unit (s := S8x1x256) ![0, 0, 0] S8x1x256.size inb_S8x1x256_S8x1x256_0_0_0).toLoadRect (View.loadsAt_vmem h_S8x1x256))
  Prog.lift (.store arg8 (Rect.unit (s := S8x1x256) ![0, 0, 0] S8x1x256.size inb_S8x1x256_S8x1x256_0_0_0) (k0_pay362 (F := F)) Finset.univ (View.stores_vmem_bits_univ h_S8x1x256 rfl) (.inl rfl))
  let v6 : Vec F S8x144x256 .f32 ← Prog.lift (.load arg10 (Rect.unit (s := S8x144x256) ![0, 0, 0] S8x144x256.size inb_S8x144x256_S8x144x256_0_0_0).toLoadRect (View.loadsAt_vmem h_S8x144x256))
  Prog.lift (.store arg10 (Rect.unit (s := S8x144x256) ![0, 0, 0] S8x144x256.size inb_S8x144x256_S8x144x256_0_0_0) (k0_pay363 (F := F)) Finset.univ (View.stores_vmem_bits_univ h_S8x144x256 rfl) (.inl rfl))

/-- The far pairs. -/
def loop1 (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : Prog (TpuEff nD τ sig (Elt F) Λ₀ .tc) PUnit :=
  Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 (BitVec.ofNat 32 (i 1).val))

/-- Their unrolled remainder, which takes no trip. -/
def loop2 (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : Prog (TpuEff nD τ sig (Elt F) Λ₀ .tc) PUnit :=
  Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)))

/-- The near pair, where there is one. -/
def near1 (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : Prog (TpuEff nD τ sig (Elt F) Λ₀ .tc) PUnit :=
  if k0_h1 : k0_cond1 i = 1#1 then nearPair i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) k0_h1
  else pure ⟨⟩

/-- The diagonal block, where it is taken alone. -/
def near2 (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : Prog (TpuEff nD τ sig (Elt F) Λ₀ .tc) PUnit :=
  if k0_h2 : k0_cond2 i = 1#1 then nearSingle i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) k0_h2
  else pure ⟨⟩

/-- The quotients. -/
def tail (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : Prog (TpuEff nD τ sig (Elt F) Λ₀ .tc) PUnit := do
  k0_part68 i arg2 harg2 arg3 harg3 arg4 harg4 arg5 harg5 arg6 harg6 arg7 harg7 arg8 harg8 arg9 harg9 arg10 harg10 arg11 harg11 arg12 harg12
  let v62 : Vec F S1x144x256 .f32 ← Prog.lift (.load arg10 (Rect.unit (s := S8x144x256) ![4, 0, 0] S1x144x256.size inb_S8x144x256_S1x144x256_4_0_0).toLoadRect (View.loadsAt_vmem h_S1x144x256))
  let v70 : Vec F S256x128 .bf16 ← Prog.lift (.load arg7 (Rect.unit (s := S256x1024) ![0, 512] S256x128.size inb_S256x1024_S256x128_0_512).toLoadRect (View.loadsAt_vmem h_S256x128))
  Prog.lift (.store arg7 (Rect.unit (s := S256x1024) ![0, 512] S256x128.size inb_S256x1024_S256x128_0_512) (k0_pay1 v62) Finset.univ (View.stores_vmem h_S256x128 (harg7.storeExact_slice rfl _ packedbf16_S256x1024_S256x128_0_512) (fun _ => rfl)) (.inl rfl))
  let v71 : Vec F S1x144x256 .f32 ← Prog.lift (.load arg10 (Rect.unit (s := S8x144x256) ![5, 0, 0] S1x144x256.size inb_S8x144x256_S1x144x256_5_0_0).toLoadRect (View.loadsAt_vmem h_S1x144x256))
  let v79 : Vec F S256x128 .bf16 ← Prog.lift (.load arg7 (Rect.unit (s := S256x1024) ![0, 640] S256x128.size inb_S256x1024_S256x128_0_640).toLoadRect (View.loadsAt_vmem h_S256x128))
  Prog.lift (.store arg7 (Rect.unit (s := S256x1024) ![0, 640] S256x128.size inb_S256x1024_S256x128_0_640) (k0_pay2 v71) Finset.univ (View.stores_vmem h_S256x128 (harg7.storeExact_slice rfl _ packedbf16_S256x1024_S256x128_0_640) (fun _ => rfl)) (.inl rfl))
  let v80 : Vec F S1x144x256 .f32 ← Prog.lift (.load arg10 (Rect.unit (s := S8x144x256) ![6, 0, 0] S1x144x256.size inb_S8x144x256_S1x144x256_6_0_0).toLoadRect (View.loadsAt_vmem h_S1x144x256))
  let v88 : Vec F S256x128 .bf16 ← Prog.lift (.load arg7 (Rect.unit (s := S256x1024) ![0, 768] S256x128.size inb_S256x1024_S256x128_0_768).toLoadRect (View.loadsAt_vmem h_S256x128))
  Prog.lift (.store arg7 (Rect.unit (s := S256x1024) ![0, 768] S256x128.size inb_S256x1024_S256x128_0_768) (k0_pay3 v80) Finset.univ (View.stores_vmem h_S256x128 (harg7.storeExact_slice rfl _ packedbf16_S256x1024_S256x128_0_768) (fun _ => rfl)) (.inl rfl))
  let v89 : Vec F S1x144x256 .f32 ← Prog.lift (.load arg10 (Rect.unit (s := S8x144x256) ![7, 0, 0] S1x144x256.size inb_S8x144x256_S1x144x256_7_0_0).toLoadRect (View.loadsAt_vmem h_S1x144x256))
  let v97 : Vec F S256x128 .bf16 ← Prog.lift (.load arg7 (Rect.unit (s := S256x1024) ![0, 896] S256x128.size inb_S256x1024_S256x128_0_896).toLoadRect (View.loadsAt_vmem h_S256x128))
  Prog.lift (.store arg7 (Rect.unit (s := S256x1024) ![0, 896] S256x128.size inb_S256x1024_S256x128_0_896) (k0_pay4 v89) Finset.univ (View.stores_vmem h_S256x128 (harg7.storeExact_slice rfl _ packedbf16_S256x1024_S256x128_0_896) (fun _ => rfl)) (.inl rfl))
  pure ⟨⟩

set_option maxRecDepth 65536 in
theorem body_eq (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) : cc0_masked_attention (F := F) i arg2 harg2 arg3 harg3 arg4 harg4 arg5 harg5 arg6 harg6 arg7 harg7 arg8 harg8 arg9 harg9 arg10 harg10 arg11 harg11 arg12 harg12
    = (pre67 i arg2 harg2 arg3 harg3 arg4 harg4 arg5 harg5 arg6 harg6 arg7 harg7 arg8 harg8 arg9 harg9 arg10 harg10 arg11 harg11 arg12 harg12 >>= fun _ => loop1 i arg2 harg2 arg3 harg3 arg4 harg4 arg5 harg5 arg6 harg6 arg7 harg7 arg8 harg8 arg9 harg9 arg10 harg10 arg11 harg11 arg12 harg12 >>= fun _ => loop2 i arg2 harg2 arg3 harg3 arg4 harg4 arg5 harg5 arg6 harg6 arg7 harg7 arg8 harg8 arg9 harg9 arg10 harg10 arg11 harg11 arg12 harg12 >>= fun _ => near1 i arg2 harg2 arg3 harg3 arg4 harg4 arg5 harg5 arg6 harg6 arg7 harg7 arg8 harg8 arg9 harg9 arg10 harg10 arg11 harg11 arg12 harg12 >>= fun _ => near2 i arg2 harg2 arg3 harg3 arg4 harg4 arg5 harg5 arg6 harg6 arg7 harg7 arg8 harg8 arg9 harg9 arg10 harg10 arg11 harg11 arg12 harg12 >>= fun _ => tail i arg2 harg2 arg3 harg3 arg4 harg4 arg5 harg5 arg6 harg6 arg7 harg7 arg8 harg8 arg9 harg9 arg10 harg10 arg11 harg11 arg12 harg12) := by
  have h : k0_part67 (F := F) i arg2 harg2 arg3 harg3 arg4 harg4 arg5 harg5 arg6 harg6 arg7 harg7 arg8 harg8 arg9 harg9 arg10 harg10 arg11 harg11 arg12 harg12 = (pre67 i arg2 harg2 arg3 harg3 arg4 harg4 arg5 harg5 arg6 harg6 arg7 harg7 arg8 harg8 arg9 harg9 arg10 harg10 arg11 harg11 arg12 harg12 >>= fun _ => loop1 i arg2 harg2 arg3 harg3 arg4 harg4 arg5 harg5 arg6 harg6 arg7 harg7 arg8 harg8 arg9 harg9 arg10 harg10 arg11 harg11 arg12 harg12 >>= fun _ => loop2 i arg2 harg2 arg3 harg3 arg4 harg4 arg5 harg5 arg6 harg6 arg7 harg7 arg8 harg8 arg9 harg9 arg10 harg10 arg11 harg11 arg12 harg12 >>= fun _ => near1 i arg2 harg2 arg3 harg3 arg4 harg4 arg5 harg5 arg6 harg6 arg7 harg7 arg8 harg8 arg9 harg9 arg10 harg10 arg11 harg11 arg12 harg12 >>= fun _ => near2 i arg2 harg2 arg3 harg3 arg4 harg4 arg5 harg5 arg6 harg6 arg7 harg7 arg8 harg8 arg9 harg9 arg10 harg10 arg11 harg11 arg12 harg12 >>= fun _ => pure ⟨⟩) := by
    rw [part67_eq]
    unfold part67 pre67 loop1 loop2 near1 near2
    by_cases h1 : k0_cond1 i = 1#1 <;> by_cases h2 : k0_cond2 i = 1#1 <;>
      simp only [h1, h2, dif_pos, dif_neg, not_false_eq_true, bind_assoc, pure_bind, ↓reduceDIte] <;> rfl
  have h2 : cc0_masked_attention (F := F) i arg2 harg2 arg3 harg3 arg4 harg4 arg5 harg5 arg6 harg6 arg7 harg7 arg8 harg8 arg9 harg9 arg10 harg10 arg11 harg11 arg12 harg12 = (k0_part67 (F := F) i arg2 harg2 arg3 harg3 arg4 harg4 arg5 harg5 arg6 harg6 arg7 harg7 arg8 harg8 arg9 harg9 arg10 harg10 arg11 harg11 arg12 harg12 >>= fun _ => tail i arg2 harg2 arg3 harg3 arg4 harg4 arg5 harg5 arg6 harg6 arg7 harg7 arg8 harg8 arg9 harg9 arg10 harg10 arg11 harg11 arg12 harg12) := rfl
  rw [h2, h]
  simp only [bind_assoc, pure_bind]

/-- What the five scratch buffers hold: running maxima, rescalings, sums, scores, weights. -/
abbrev St (arg8 : Memref sig .tc .vmem S8x1x256 .f32) (arg9 : Memref sig .tc .vmem S8x1x256 .f32) (arg10 : Memref sig .tc .vmem S8x144x256 .f32) (arg11 : Memref sig .tc .vmem S8x512x256 .f32) (arg12 : Memref sig .tc .vmem S8x512x256 .bf16) : Type :=
  BufTy.Contents (Elt F) arg8.view.ty × BufTy.Contents (Elt F) arg9.view.ty × BufTy.Contents (Elt F) arg10.view.ty × BufTy.Contents (Elt F) arg11.view.ty × BufTy.Contents (Elt F) arg12.view.ty

/-- After the resets. -/
def st0 (arg8 : Memref sig .tc .vmem S8x1x256 .f32) (arg9 : Memref sig .tc .vmem S8x1x256 .f32) (arg10 : Memref sig .tc .vmem S8x144x256 .f32) (arg11 : Memref sig .tc .vmem S8x512x256 .f32) (arg12 : Memref sig .tc .vmem S8x512x256 .bf16) (s : St (F := F) arg8 arg9 arg10 arg11 arg12) : St (F := F) arg8 arg9 arg10 arg11 arg12 :=
  (arg8.view.writes (Elt F) s.1 [⟨Rect.unit (s := S8x1x256) ![0, 0, 0] S8x1x256.size inb_S8x1x256_S8x1x256_0_0_0, k0_pay362 (F := F)⟩], s.2.1,
    arg10.view.writes (Elt F) s.2.2.1 [⟨Rect.unit (s := S8x144x256) ![0, 0, 0] S8x144x256.size inb_S8x144x256_S8x144x256_0_0_0, k0_pay363 (F := F)⟩], s.2.2.2)

/-- After the loop over the far pairs. -/
def st1 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (s : St (F := F) arg8 arg9 arg10 arg11 arg12) : St (F := F) arg8 arg9 arg10 arg11 arg12 :=
  (arg8.view.writes (Elt F) s.1 (pb_k0_t1 (F := F) Variants.none c none i arg2 harg2 arg3 harg3 arg4 harg4 arg5 harg5 arg6 harg6 arg7 harg7 arg8 harg8 arg9 harg9 arg10 harg10 arg11 harg11 arg12 harg12 arg1 X_arg2 X_arg3 X_arg4 X_arg5 (s.1) (s.2.1) (s.2.2.1) (s.2.2.2.1) (s.2.2.2.2) (k0_t1_loop i).trips).1, arg9.view.writes (Elt F) s.2.1 (pb_k0_t1 (F := F) Variants.none c none i arg2 harg2 arg3 harg3 arg4 harg4 arg5 harg5 arg6 harg6 arg7 harg7 arg8 harg8 arg9 harg9 arg10 harg10 arg11 harg11 arg12 harg12 arg1 X_arg2 X_arg3 X_arg4 X_arg5 (s.1) (s.2.1) (s.2.2.1) (s.2.2.2.1) (s.2.2.2.2) (k0_t1_loop i).trips).2.1, arg10.view.writes (Elt F) s.2.2.1 (pb_k0_t1 (F := F) Variants.none c none i arg2 harg2 arg3 harg3 arg4 harg4 arg5 harg5 arg6 harg6 arg7 harg7 arg8 harg8 arg9 harg9 arg10 harg10 arg11 harg11 arg12 harg12 arg1 X_arg2 X_arg3 X_arg4 X_arg5 (s.1) (s.2.1) (s.2.2.1) (s.2.2.2.1) (s.2.2.2.2) (k0_t1_loop i).trips).2.2.1, arg11.view.writes (Elt F) s.2.2.2.1 (pb_k0_t1 (F := F) Variants.none c none i arg2 harg2 arg3 harg3 arg4 harg4 arg5 harg5 arg6 harg6 arg7 harg7 arg8 harg8 arg9 harg9 arg10 harg10 arg11 harg11 arg12 harg12 arg1 X_arg2 X_arg3 X_arg4 X_arg5 (s.1) (s.2.1) (s.2.2.1) (s.2.2.2.1) (s.2.2.2.2) (k0_t1_loop i).trips).2.2.2.1, arg12.view.writes (Elt F) s.2.2.2.2 (pb_k0_t1 (F := F) Variants.none c none i arg2 harg2 arg3 harg3 arg4 harg4 arg5 harg5 arg6 harg6 arg7 harg7 arg8 harg8 arg9 harg9 arg10 harg10 arg11 harg11 arg12 harg12 arg1 X_arg2 X_arg3 X_arg4 X_arg5 (s.1) (s.2.1) (s.2.2.1) (s.2.2.2.1) (s.2.2.2.2) (k0_t1_loop i).trips).2.2.2.2)

/-- After the loop's unrolled remainder, which takes no trip. -/
def st2 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 v16 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (s : St (F := F) arg8 arg9 arg10 arg11 arg12) : St (F := F) arg8 arg9 arg10 arg11 arg12 :=
  (arg8.view.writes (Elt F) s.1 (pb_k0_t2 (F := F) Variants.none c none i arg2 harg2 arg3 harg3 arg4 harg4 arg5 harg5 arg6 harg6 arg7 harg7 arg8 harg8 arg9 harg9 arg10 harg10 arg11 harg11 arg12 harg12 arg1 v16 X_arg2 X_arg3 X_arg4 X_arg5 (s.1) (s.2.1) (s.2.2.1) (s.2.2.2.1) (s.2.2.2.2) (k0_t2_loop i).trips).1, arg9.view.writes (Elt F) s.2.1 (pb_k0_t2 (F := F) Variants.none c none i arg2 harg2 arg3 harg3 arg4 harg4 arg5 harg5 arg6 harg6 arg7 harg7 arg8 harg8 arg9 harg9 arg10 harg10 arg11 harg11 arg12 harg12 arg1 v16 X_arg2 X_arg3 X_arg4 X_arg5 (s.1) (s.2.1) (s.2.2.1) (s.2.2.2.1) (s.2.2.2.2) (k0_t2_loop i).trips).2.1, arg10.view.writes (Elt F) s.2.2.1 (pb_k0_t2 (F := F) Variants.none c none i arg2 harg2 arg3 harg3 arg4 harg4 arg5 harg5 arg6 harg6 arg7 harg7 arg8 harg8 arg9 harg9 arg10 harg10 arg11 harg11 arg12 harg12 arg1 v16 X_arg2 X_arg3 X_arg4 X_arg5 (s.1) (s.2.1) (s.2.2.1) (s.2.2.2.1) (s.2.2.2.2) (k0_t2_loop i).trips).2.2.1, arg11.view.writes (Elt F) s.2.2.2.1 (pb_k0_t2 (F := F) Variants.none c none i arg2 harg2 arg3 harg3 arg4 harg4 arg5 harg5 arg6 harg6 arg7 harg7 arg8 harg8 arg9 harg9 arg10 harg10 arg11 harg11 arg12 harg12 arg1 v16 X_arg2 X_arg3 X_arg4 X_arg5 (s.1) (s.2.1) (s.2.2.1) (s.2.2.2.1) (s.2.2.2.2) (k0_t2_loop i).trips).2.2.2.1, arg12.view.writes (Elt F) s.2.2.2.2 (pb_k0_t2 (F := F) Variants.none c none i arg2 harg2 arg3 harg3 arg4 harg4 arg5 harg5 arg6 harg6 arg7 harg7 arg8 harg8 arg9 harg9 arg10 harg10 arg11 harg11 arg12 harg12 arg1 v16 X_arg2 X_arg3 X_arg4 X_arg5 (s.1) (s.2.1) (s.2.2.1) (s.2.2.2.1) (s.2.2.2.2) (k0_t2_loop i).trips).2.2.2.2)

/-- After the near pair, where there is one. -/
def st3 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 v17 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (s : St (F := F) arg8 arg9 arg10 arg11 arg12) : St (F := F) arg8 arg9 arg10 arg11 arg12 :=
  if h : k0_cond1 i = 1#1 then (arg8.view.writes (Elt F) s.1 ((pairRun (F := F) c i arg2 harg2 arg3 harg3 arg4 harg4 arg5 harg5 arg6 harg6 arg7 harg7 arg8 harg8 arg9 harg9 arg10 harg10 arg11 harg11 arg12 harg12 arg1 v17 h X_arg2 X_arg3 X_arg4 X_arg5 X_arg6).1 (s.1) (s.2.1) (s.2.2.1) (s.2.2.2.1) (s.2.2.2.2)), arg9.view.writes (Elt F) s.2.1 ((pairRun (F := F) c i arg2 harg2 arg3 harg3 arg4 harg4 arg5 harg5 arg6 harg6 arg7 harg7 arg8 harg8 arg9 harg9 arg10 harg10 arg11 harg11 arg12 harg12 arg1 v17 h X_arg2 X_arg3 X_arg4 X_arg5 X_arg6).2.1 (s.1) (s.2.1) (s.2.2.1) (s.2.2.2.1) (s.2.2.2.2)), arg10.view.writes (Elt F) s.2.2.1 ((pairRun (F := F) c i arg2 harg2 arg3 harg3 arg4 harg4 arg5 harg5 arg6 harg6 arg7 harg7 arg8 harg8 arg9 harg9 arg10 harg10 arg11 harg11 arg12 harg12 arg1 v17 h X_arg2 X_arg3 X_arg4 X_arg5 X_arg6).2.2.1 (s.1) (s.2.1) (s.2.2.1) (s.2.2.2.1) (s.2.2.2.2)), arg11.view.writes (Elt F) s.2.2.2.1 ((pairRun (F := F) c i arg2 harg2 arg3 harg3 arg4 harg4 arg5 harg5 arg6 harg6 arg7 harg7 arg8 harg8 arg9 harg9 arg10 harg10 arg11 harg11 arg12 harg12 arg1 v17 h X_arg2 X_arg3 X_arg4 X_arg5 X_arg6).2.2.2.1 (s.1) (s.2.1) (s.2.2.1) (s.2.2.2.1) (s.2.2.2.2)), arg12.view.writes (Elt F) s.2.2.2.2 ((pairRun (F := F) c i arg2 harg2 arg3 harg3 arg4 harg4 arg5 harg5 arg6 harg6 arg7 harg7 arg8 harg8 arg9 harg9 arg10 harg10 arg11 harg11 arg12 harg12 arg1 v17 h X_arg2 X_arg3 X_arg4 X_arg5 X_arg6).2.2.2.2.1 (s.1) (s.2.1) (s.2.2.1) (s.2.2.2.1) (s.2.2.2.2))) else s

/-- After the diagonal block, where it is taken alone. -/
def st4 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (arg1 v0 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (s : St (F := F) arg8 arg9 arg10 arg11 arg12) : St (F := F) arg8 arg9 arg10 arg11 arg12 :=
  if h : k0_cond2 i = 1#1 then (arg8.view.writes (Elt F) s.1 ((singleRun (F := F) c i arg2 harg2 arg3 harg3 arg4 harg4 arg5 harg5 arg6 harg6 arg7 harg7 arg8 harg8 arg9 harg9 arg10 harg10 arg11 harg11 arg12 harg12 arg1 v0 h X_arg2 X_arg3 X_arg4 X_arg5 X_arg6).1 (s.1) (s.2.1) (s.2.2.1) (s.2.2.2.1) (s.2.2.2.2)), arg9.view.writes (Elt F) s.2.1 ((singleRun (F := F) c i arg2 harg2 arg3 harg3 arg4 harg4 arg5 harg5 arg6 harg6 arg7 harg7 arg8 harg8 arg9 harg9 arg10 harg10 arg11 harg11 arg12 harg12 arg1 v0 h X_arg2 X_arg3 X_arg4 X_arg5 X_arg6).2.1 (s.1) (s.2.1) (s.2.2.1) (s.2.2.2.1) (s.2.2.2.2)), arg10.view.writes (Elt F) s.2.2.1 ((singleRun (F := F) c i arg2 harg2 arg3 harg3 arg4 harg4 arg5 harg5 arg6 harg6 arg7 harg7 arg8 harg8 arg9 harg9 arg10 harg10 arg11 harg11 arg12 harg12 arg1 v0 h X_arg2 X_arg3 X_arg4 X_arg5 X_arg6).2.2.1 (s.1) (s.2.1) (s.2.2.1) (s.2.2.2.1) (s.2.2.2.2)), arg11.view.writes (Elt F) s.2.2.2.1 ((singleRun (F := F) c i arg2 harg2 arg3 harg3 arg4 harg4 arg5 harg5 arg6 harg6 arg7 harg7 arg8 harg8 arg9 harg9 arg10 harg10 arg11 harg11 arg12 harg12 arg1 v0 h X_arg2 X_arg3 X_arg4 X_arg5 X_arg6).2.2.2.1 (s.1) (s.2.1) (s.2.2.1) (s.2.2.2.1) (s.2.2.2.2)), arg12.view.writes (Elt F) s.2.2.2.2 ((singleRun (F := F) c i arg2 harg2 arg3 harg3 arg4 harg4 arg5 harg5 arg6 harg6 arg7 harg7 arg8 harg8 arg9 harg9 arg10 harg10 arg11 harg11 arg12 harg12 arg1 v0 h X_arg2 X_arg3 X_arg4 X_arg5 X_arg6).2.2.2.2.1 (s.1) (s.2.1) (s.2.2.1) (s.2.2.2.1) (s.2.2.2.2))) else s

theorem pre_run (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (E : Set ℕ) (s : St (F := F) arg8 arg9 arg10 arg11 arg12) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (s.1)) ∗ (arg9.view.loc (c : Thread nD τ) ↦[arg9.view.set]{fullShare} (s.2.1)) ∗ (arg10.view.loc (c : Thread nD τ) ↦[arg10.view.set]{fullShare} (s.2.2.1)) ∗ (arg11.view.loc (c : Thread nD τ) ↦[arg11.view.set]{fullShare} (s.2.2.2.1)) ∗ (arg12.view.loc (c : Thread nD τ) ↦[arg12.view.set]{fullShare} (s.2.2.2.2))) : sProp 𝕄)
    ⊢ wp frame (wpE (defs₀ (F := F)) Variants.none (c : Thread nD τ) none) E (pre67 (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} ((st0 arg8 arg9 arg10 arg11 arg12 s).1)) ∗ (arg9.view.loc (c : Thread nD τ) ↦[arg9.view.set]{fullShare} ((st0 arg8 arg9 arg10 arg11 arg12 s).2.1)) ∗ (arg10.view.loc (c : Thread nD τ) ↦[arg10.view.set]{fullShare} ((st0 arg8 arg9 arg10 arg11 arg12 s).2.2.1)) ∗ (arg11.view.loc (c : Thread nD τ) ↦[arg11.view.set]{fullShare} ((st0 arg8 arg9 arg10 arg11 arg12 s).2.2.2.1)) ∗ (arg12.view.loc (c : Thread nD τ) ↦[arg12.view.set]{fullShare} ((st0 arg8 arg9 arg10 arg11 arg12 s).2.2.2.2)))) := by
  unfold pre67
  iintro ⟨HR_arg2, HR_arg3, HR_arg4, HR_arg5, HR_arg6, HW_arg8, HW_arg9, HW_arg10, HW_arg11, HW_arg12⟩
  sl_exec
  sl_step
  simp only [st0]
  sl_close

theorem loop1_run (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (E : Set ℕ) (s : St (F := F) arg8 arg9 arg10 arg11 arg12) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (s.1)) ∗ (arg9.view.loc (c : Thread nD τ) ↦[arg9.view.set]{fullShare} (s.2.1)) ∗ (arg10.view.loc (c : Thread nD τ) ↦[arg10.view.set]{fullShare} (s.2.2.1)) ∗ (arg11.view.loc (c : Thread nD τ) ↦[arg11.view.set]{fullShare} (s.2.2.2.1)) ∗ (arg12.view.loc (c : Thread nD τ) ↦[arg12.view.set]{fullShare} (s.2.2.2.2))) : sProp 𝕄)
    ⊢ wp frame (wpE (defs₀ (F := F)) Variants.none (c : Thread nD τ) none) E (loop1 (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} ((st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 s).1)) ∗ (arg9.view.loc (c : Thread nD τ) ↦[arg9.view.set]{fullShare} ((st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 s).2.1)) ∗ (arg10.view.loc (c : Thread nD τ) ↦[arg10.view.set]{fullShare} ((st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 s).2.2.1)) ∗ (arg11.view.loc (c : Thread nD τ) ↦[arg11.view.set]{fullShare} ((st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 s).2.2.2.1)) ∗ (arg12.view.loc (c : Thread nD τ) ↦[arg12.view.set]{fullShare} ((st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 s).2.2.2.2)))) := by
  unfold loop1
  iintro ⟨HR_arg2, HR_arg3, HR_arg4, HR_arg5, HR_arg6, HW_arg8, HW_arg9, HW_arg10, HW_arg11, HW_arg12⟩
  sl_exec
  simp only [st1]
  sl_close

theorem loop2_run (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (E : Set ℕ) (s : St (F := F) arg8 arg9 arg10 arg11 arg12) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (s.1)) ∗ (arg9.view.loc (c : Thread nD τ) ↦[arg9.view.set]{fullShare} (s.2.1)) ∗ (arg10.view.loc (c : Thread nD τ) ↦[arg10.view.set]{fullShare} (s.2.2.1)) ∗ (arg11.view.loc (c : Thread nD τ) ↦[arg11.view.set]{fullShare} (s.2.2.2.1)) ∗ (arg12.view.loc (c : Thread nD τ) ↦[arg12.view.set]{fullShare} (s.2.2.2.2))) : sProp 𝕄)
    ⊢ wp frame (wpE (defs₀ (F := F)) Variants.none (c : Thread nD τ) none) E (loop2 (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} ((st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 s).1)) ∗ (arg9.view.loc (c : Thread nD τ) ↦[arg9.view.set]{fullShare} ((st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 s).2.1)) ∗ (arg10.view.loc (c : Thread nD τ) ↦[arg10.view.set]{fullShare} ((st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 s).2.2.1)) ∗ (arg11.view.loc (c : Thread nD τ) ↦[arg11.view.set]{fullShare} ((st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 s).2.2.2.1)) ∗ (arg12.view.loc (c : Thread nD τ) ↦[arg12.view.set]{fullShare} ((st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 s).2.2.2.2)))) := by
  unfold loop2
  iintro ⟨HR_arg2, HR_arg3, HR_arg4, HR_arg5, HR_arg6, HW_arg8, HW_arg9, HW_arg10, HW_arg11, HW_arg12⟩
  sl_exec
  simp only [st2]
  sl_close

theorem near1_run (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (E : Set ℕ) (s : St (F := F) arg8 arg9 arg10 arg11 arg12) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (s.1)) ∗ (arg9.view.loc (c : Thread nD τ) ↦[arg9.view.set]{fullShare} (s.2.1)) ∗ (arg10.view.loc (c : Thread nD τ) ↦[arg10.view.set]{fullShare} (s.2.2.1)) ∗ (arg11.view.loc (c : Thread nD τ) ↦[arg11.view.set]{fullShare} (s.2.2.2.1)) ∗ (arg12.view.loc (c : Thread nD τ) ↦[arg12.view.set]{fullShare} (s.2.2.2.2))) : sProp 𝕄)
    ⊢ wp frame (wpE (defs₀ (F := F)) Variants.none (c : Thread nD τ) none) E (near1 (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} ((st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 s).1)) ∗ (arg9.view.loc (c : Thread nD τ) ↦[arg9.view.set]{fullShare} ((st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 s).2.1)) ∗ (arg10.view.loc (c : Thread nD τ) ↦[arg10.view.set]{fullShare} ((st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 s).2.2.1)) ∗ (arg11.view.loc (c : Thread nD τ) ↦[arg11.view.set]{fullShare} ((st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 s).2.2.2.1)) ∗ (arg12.view.loc (c : Thread nD τ) ↦[arg12.view.set]{fullShare} ((st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 s).2.2.2.2)))) := by
  unfold near1 st3
  by_cases h : k0_cond1 i = 1#1
  · simp only [dif_pos h]
    exact (pairRun (F := F) c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) h X_arg2 X_arg3 X_arg4 X_arg5 X_arg6).2.2.2.2.2 E (s.1) (s.2.1) (s.2.2.1) (s.2.2.2.1) (s.2.2.2.2)
  · simp only [dif_neg h]
    iintro ⟨HR_arg2, HR_arg3, HR_arg4, HR_arg5, HR_arg6, HW_arg8, HW_arg9, HW_arg10, HW_arg11, HW_arg12⟩
    sl_step
    sl_close

theorem near2_run (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (E : Set ℕ) (s : St (F := F) arg8 arg9 arg10 arg11 arg12) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (s.1)) ∗ (arg9.view.loc (c : Thread nD τ) ↦[arg9.view.set]{fullShare} (s.2.1)) ∗ (arg10.view.loc (c : Thread nD τ) ↦[arg10.view.set]{fullShare} (s.2.2.1)) ∗ (arg11.view.loc (c : Thread nD τ) ↦[arg11.view.set]{fullShare} (s.2.2.2.1)) ∗ (arg12.view.loc (c : Thread nD τ) ↦[arg12.view.set]{fullShare} (s.2.2.2.2))) : sProp 𝕄)
    ⊢ wp frame (wpE (defs₀ (F := F)) Variants.none (c : Thread nD τ) none) E (near2 (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 s).1)) ∗ (arg9.view.loc (c : Thread nD τ) ↦[arg9.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 s).2.1)) ∗ (arg10.view.loc (c : Thread nD τ) ↦[arg10.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 s).2.2.1)) ∗ (arg11.view.loc (c : Thread nD τ) ↦[arg11.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 s).2.2.2.1)) ∗ (arg12.view.loc (c : Thread nD τ) ↦[arg12.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 s).2.2.2.2)))) := by
  unfold near2 st4
  by_cases h : k0_cond2 i = 1#1
  · simp only [dif_pos h]
    exact (singleRun (F := F) c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) h X_arg2 X_arg3 X_arg4 X_arg5 X_arg6).2.2.2.2.2 E (s.1) (s.2.1) (s.2.2.1) (s.2.2.2.1) (s.2.2.2.2)
  · simp only [dif_neg h]
    iintro ⟨HR_arg2, HR_arg3, HR_arg4, HR_arg5, HR_arg6, HW_arg8, HW_arg9, HW_arg10, HW_arg11, HW_arg12⟩
    sl_step
    sl_close

/-- The quotients' run: what it writes into the output block, as a function of the sums. -/
@[irreducible] def tailRun (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) :
    Σ' (L : BufTy.Contents (Elt F) arg10.view.ty → List (View.Piece (Elt F) S256x1024 .bf16)), ∀ (E : Set ℕ) (f_arg7 : BufTy.Contents (Elt F) arg7.view.ty) (f_arg10 : BufTy.Contents (Elt F) arg10.view.ty),
    (iprop((arg7.view.loc (c : Thread nD τ) ↦[arg7.view.set]{fullShare} f_arg7) ∗ (arg10.view.loc (c : Thread nD τ) ↦[arg10.view.set]{fullShare} f_arg10)) : sProp 𝕄)
    ⊢ wp frame (wpE (defs₀ (F := F)) Variants.none (c : Thread nD τ) none) E (tail (F := F) i arg2 harg2 arg3 harg3 arg4 harg4 arg5 harg5 arg6 harg6 arg7 harg7 arg8 harg8 arg9 harg9 arg10 harg10 arg11 harg11 arg12 harg12)
        (fun _ => iprop((arg7.view.loc (c : Thread nD τ) ↦[arg7.view.set]{fullShare} (arg7.view.writes (Elt F) f_arg7 (L f_arg10))) ∗ (arg10.view.loc (c : Thread nD τ) ↦[arg10.view.set]{fullShare} f_arg10))) := by
  refine ⟨?_, fun E f_arg7 f_arg10 => ?run⟩
  case run =>
    unfold tail
    iintro ⟨HO, HA⟩
    sl_exec
    sl_step
    sl_close

/-- What the whole body writes into the output block, from the blocks and the scratch it finds. -/
def outL (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (s : St (F := F) arg8 arg9 arg10 arg11 arg12) : List (View.Piece (Elt F) S256x1024 .bf16) :=
  (tailRun (F := F) c i arg2 harg2 arg3 harg3 arg4 harg4 arg5 harg5 arg6 harg6 arg7 harg7 arg8 harg8 arg9 harg9 arg10 harg10 arg11 harg11 arg12 harg12).1 ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))).2.2.1)

/-- THE BODY, from any contents. -/
theorem body_run (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (E : Set ℕ) (f_arg7 : BufTy.Contents (Elt F) arg7.view.ty) (s : St (F := F) arg8 arg9 arg10 arg11 arg12) :
    (iprop((arg7.view.loc (c : Thread nD τ) ↦[arg7.view.set]{fullShare} f_arg7) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} (s.1)) ∗ (arg9.view.loc (c : Thread nD τ) ↦[arg9.view.set]{fullShare} (s.2.1)) ∗ (arg10.view.loc (c : Thread nD τ) ↦[arg10.view.set]{fullShare} (s.2.2.1)) ∗ (arg11.view.loc (c : Thread nD τ) ↦[arg11.view.set]{fullShare} (s.2.2.2.1)) ∗ (arg12.view.loc (c : Thread nD τ) ↦[arg12.view.set]{fullShare} (s.2.2.2.2))) : sProp 𝕄)
    ⊢ wp frame (wpE (defs₀ (F := F)) Variants.none (c : Thread nD τ) none) E (cc0_masked_attention (F := F) i arg2 harg2 arg3 harg3 arg4 harg4 arg5 harg5 arg6 harg6 arg7 harg7 arg8 harg8 arg9 harg9 arg10 harg10 arg11 harg11 arg12 harg12)
        (fun _ => iprop((arg7.view.loc (c : Thread nD τ) ↦[arg7.view.set]{fullShare} (arg7.view.writes (Elt F) f_arg7 (outL c i arg2 harg2 arg3 harg3 arg4 harg4 arg5 harg5 arg6 harg6 arg7 harg7 arg8 harg8 arg9 harg9 arg10 harg10 arg11 harg11 arg12 harg12 X_arg2 X_arg3 X_arg4 X_arg5 X_arg6 s))) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))).1)) ∗ (arg9.view.loc (c : Thread nD τ) ↦[arg9.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))).2.1)) ∗ (arg10.view.loc (c : Thread nD τ) ↦[arg10.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))).2.2.1)) ∗ (arg11.view.loc (c : Thread nD τ) ↦[arg11.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))).2.2.2.1)) ∗ (arg12.view.loc (c : Thread nD τ) ↦[arg12.view.set]{fullShare} ((st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))).2.2.2.2)))) := by
  rw [body_eq, wp_bind]
  refine (sep_mono_right (pre_run c i arg2 harg2 arg3 harg3 arg4 harg4 arg5 harg5 arg6 harg6 arg7 harg7 arg8 harg8 arg9 harg9 arg10 harg10 arg11 harg11 arg12 harg12 X_arg2 X_arg3 X_arg4 X_arg5 X_arg6 E s)).trans ((wp_frame_l _ _ _).trans (wp_mono _ _ _ fun _ => ?_))
  rw [wp_bind]
  refine (sep_mono_right (loop1_run c i arg2 harg2 arg3 harg3 arg4 harg4 arg5 harg5 arg6 harg6 arg7 harg7 arg8 harg8 arg9 harg9 arg10 harg10 arg11 harg11 arg12 harg12 X_arg2 X_arg3 X_arg4 X_arg5 X_arg6 E _)).trans ((wp_frame_l _ _ _).trans (wp_mono _ _ _ fun _ => ?_))
  rw [wp_bind]
  refine (sep_mono_right (loop2_run c i arg2 harg2 arg3 harg3 arg4 harg4 arg5 harg5 arg6 harg6 arg7 harg7 arg8 harg8 arg9 harg9 arg10 harg10 arg11 harg11 arg12 harg12 X_arg2 X_arg3 X_arg4 X_arg5 X_arg6 E _)).trans ((wp_frame_l _ _ _).trans (wp_mono _ _ _ fun _ => ?_))
  rw [wp_bind]
  refine (sep_mono_right (near1_run c i arg2 harg2 arg3 harg3 arg4 harg4 arg5 harg5 arg6 harg6 arg7 harg7 arg8 harg8 arg9 harg9 arg10 harg10 arg11 harg11 arg12 harg12 X_arg2 X_arg3 X_arg4 X_arg5 X_arg6 E _)).trans ((wp_frame_l _ _ _).trans (wp_mono _ _ _ fun _ => ?_))
  rw [wp_bind]
  refine (sep_mono_right (near2_run c i arg2 harg2 arg3 harg3 arg4 harg4 arg5 harg5 arg6 harg6 arg7 harg7 arg8 harg8 arg9 harg9 arg10 harg10 arg11 harg11 arg12 harg12 X_arg2 X_arg3 X_arg4 X_arg5 X_arg6 E _)).trans ((wp_frame_l _ _ _).trans (wp_mono _ _ _ fun _ => ?_))
  unfold outL
  generalize (st4 c i arg2 harg2 arg3 harg3 arg4 harg4 arg5 harg5 arg6 harg6 arg7 harg7 arg8 harg8 arg9 harg9 arg10 harg10 arg11 harg11 arg12 harg12 (BitVec.ofNat 32 (i 1).val) (Scalar.addi (BitVec.ofNat 32 (i 1).val) 1#32) X_arg2 X_arg3 X_arg4 X_arg5 X_arg6 (st3 c i arg2 harg2 arg3 harg3 arg4 harg4 arg5 harg5 arg6 harg6 arg7 harg7 arg8 harg8 arg9 harg9 arg10 harg10 arg11 harg11 arg12 harg12 (BitVec.ofNat 32 (i 1).val) (Scalar.muli 2#32 (Scalar.shrui (Scalar.maxsi (Scalar.subi (Scalar.addi (BitVec.ofNat 32 (i 1).val) 1#32) 2#32) 0#32) 1#32)) X_arg2 X_arg3 X_arg4 X_arg5 X_arg6 (st2 c i arg2 harg2 arg3 harg3 arg4 harg4 arg5 harg5 arg6 harg6 arg7 harg7 arg8 harg8 arg9 harg9 arg10 harg10 arg11 harg11 arg12 harg12 (BitVec.ofNat 32 (i 1).val) (Scalar.addi 0#32 (Scalar.muli (Scalar.divsi (Scalar.subi (Scalar.shrui (Scalar.maxsi (Scalar.subi (Scalar.addi (BitVec.ofNat 32 (i 1).val) 1#32) 2#32) 0#32) 1#32) 0#32) 1#32) 1#32)) X_arg2 X_arg3 X_arg4 X_arg5 X_arg6 (st1 c i arg2 harg2 arg3 harg3 arg4 harg4 arg5 harg5 arg6 harg6 arg7 harg7 arg8 harg8 arg9 harg9 arg10 harg10 arg11 harg11 arg12 harg12 (BitVec.ofNat 32 (i 1).val) X_arg2 X_arg3 X_arg4 X_arg5 X_arg6 (st0 arg8 arg9 arg10 arg11 arg12 s))))) = s'
  iintro ⟨HO, HR_arg2, HR_arg3, HR_arg4, HR_arg5, HR_arg6, HW_arg8, HW_arg9, HW_arg10, HW_arg11, HW_arg12⟩
  iapply (wp_wand_r Idealize.ShloMosaic.frame (wpE (defs₀ (F := F)) Variants.none (c : Thread nD τ) none) E)
  isplitl [HO HW_arg10]
  · iapply ((tailRun (F := F) c i arg2 harg2 arg3 harg3 arg4 harg4 arg5 harg5 arg6 harg6 arg7 harg7 arg8 harg8 arg9 harg9 arg10 harg10 arg11 harg11 arg12 harg12).2 E f_arg7 s'.2.2.1)
    isplitl [HO]; · iexact HO
    iexact HW_arg10
  iintro %_ ⟨HO, HW_arg10⟩
  sl_close

end Cert.KernelIdeal.Body

end
-- ==== Proof.Any.lean ====
/- The frame of the attention kernel at any floats: the body's triple over owned blocks, then the launch with the output forgotten. -/
module

public import proofs.«01_k».proof.Proof.Body
public import Idealize.ShloMosaic.Lib.Claim
public import Idealize.ShloMosaic.Lib.Pipeline.FrameBody

@[expose] public section

set_option maxRecDepth 16384
set_option maxHeartbeats 4000000

noncomputable section

namespace Cert.KernelIdeal.Any

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

local notation "𝕄" => MT nD τ sig Unit (Elt F) ℕ (UR sig nD τ) ℕ

/-- The body's triple: from the blocks and any scratch, the blocks unchanged, the output block at contents of which `P` holds. -/
theorem triple (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x1152x256 .bf16) (harg4 : arg4.IsWhole) (arg5 : Memref sig .tc .vmem S1x2048x256 .bf16) (harg5 : arg5.IsWhole) (arg6 : Memref sig .tc .vmem S3x8x256x256 .f32) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x144x256 .f32) (harg10 : arg10.IsWhole) (arg11 : Memref sig .tc .vmem S8x512x256 .f32) (harg11 : arg11.IsWhole) (arg12 : Memref sig .tc .vmem S8x512x256 .bf16) (harg12 : arg12.IsWhole) (x0 : Vec F S256x1024 .bf16) (x1 : Vec F S2048x1024 .bf16) (x2 : Vec F S8x1152x256 .bf16) (x3 : Vec F S1x2048x256 .bf16) (x4 : Vec F S3x8x256x256 .f32) (P : Vec F S256x1024 .bf16 → Prop)
    (hP : ∀ (f : BufTy.Contents (Elt F) arg7.view.ty) (s : St (F := F) arg8 arg9 arg10 arg11 arg12), P (arg7.view.read (Elt F) (arg7.view.writes (Elt F) f (outL c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) s)))) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) : sProp 𝕄)
    ⊢ wp frame (wpE (defs₀ (F := F)) Variants.none (c : Thread nD τ) none) E (cc0_masked_attention (F := F) i arg2 harg2 arg3 harg3 arg4 harg4 arg5 harg5 arg6 harg6 arg7 harg7 arg8 harg8 arg9 harg9 arg10 harg10 arg11 harg11 arg12 harg12)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, ⌜P d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))) := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩
  obtain rfl := harg2.eq_unread hf0; obtain rfl := harg3.eq_unread hf1; obtain rfl := harg4.eq_unread hf2; obtain rfl := harg5.eq_unread hf3; obtain rfl := harg6.eq_unread hf4
  iapply (wp_wand_r Idealize.ShloMosaic.frame (wpE (defs₀ (F := F)) Variants.none (c : Thread nD τ) none) E)
  isplitl [H0 H1 H2 H3 H4 H5 H6 H7 H8 H9 H10]
  · iapply (body_run c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) E f5 (f6, f7, f8, f9, f10))
    isplitl [H5]; · iexact H5
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    iexact H10
  iintro %_ ⟨H5, H0, H1, H2, H3, H4, H6, H7, H8, H9, H10⟩
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _
    isplitr; · ipureintro; exact hP f5 (f6, f7, f8, f9, f10)
    iexists _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1152x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x8x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev scM0_0 : Memref sig .tc .vmem S8x1x256 .f32 := Memref.whole cc0_scratch0
abbrev scM0_1 : Memref sig .tc .vmem S8x1x256 .f32 := Memref.whole cc0_scratch1
abbrev scM0_2 : Memref sig .tc .vmem S8x144x256 .f32 := Memref.whole cc0_scratch2
abbrev scM0_3 : Memref sig .tc .vmem S8x512x256 .f32 := Memref.whole cc0_scratch3
abbrev scM0_4 : Memref sig .tc .vmem S8x512x256 .bf16 := Memref.whole cc0_scratch4

/-- What the region keeps between points: the scratch at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

variable (m : (ℓ : Loc nD τ sig) → Buf (Elt F) ℓ) (ρ : Dev nD → PrngReg)

/-- What the body writes into the output block at point `t`, from the scratch contents it finds there. -/
def outAt (c : Dev nD) (t : Fin cfg0.N) (s : St (F := F) scM0_0 scM0_1 scM0_2 scM0_3 scM0_4) : List (View.Piece (Elt F) S256x1024 .bf16) :=
  outL c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hs0_0 t).unread (iblk m c 0 t)) ((hs0_1 t).unread (iblk m c 1 t)) ((hs0_2 t).unread (iblk m c 2 t)) ((hs0_3 t).unread (iblk m c 3 t)) ((hs0_4 t).unread (iblk m c 4 t)) s

/-- The body at a point of the grid. -/
theorem point (c : Dev nD) (t : Fin cfg0.N) (P : Vec F S256x1024 .bf16 → Prop)
    (hP : ∀ (f : BufTy.Contents (Elt F) (ms0_5 t).view.ty) (s : St (F := F) scM0_0 scM0_1 scM0_2 scM0_3 scM0_4), P ((ms0_5 t).view.read (Elt F) ((ms0_5 t).view.writes (Elt F) f (outAt m c t s)))) :
    (iprop(Pipeline.ΦA spec0 c ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d)) : sProp 𝕄)
    ⊢ wp frame (wpE (defs₀ (F := F)) Variants.none (c : Thread nD τ) none) Set.univ (bodyAt0 t)
        (fun _ => iprop(Pipeline.ΦA spec0 c ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, ⌜P d⌝ ∗ owns (c : Thread nD τ) (ms0_5 t) fullShare d))) := by
  rw [PhiA0_eq]
  unfold bodyAt0
  iintro ⟨⟨⟨S0, S1, S2, S3, S4⟩, Hg⟩, H0, H1, H2, H3, H4, H5⟩
  iapply (wp_wand_r Idealize.ShloMosaic.frame (wpE (defs₀ (F := F)) Variants.none (c : Thread nD τ) none) Set.univ)
  isplitl [S0 S1 S2 S3 S4 H0 H1 H2 H3 H4 H5]
  · iapply (triple c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) P hP Set.univ)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  iintro %_ ⟨H0, H1, H2, H3, H4, H5, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [H0]; · iexact H0
  isplitl [H1]; · iexact H1
  isplitl [H2]; · iexact H2
  isplitl [H3]; · iexact H3
  isplitl [H4]; · iexact H4
  iexact H5

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The output is the one window of which nothing is said. -/
def forgets0 : Fin 6 → Bool := fun w => w.val == 5

/-- The proof data with the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  iintro ⟨HS, Ho, ⟨%d0, H0⟩, ⟨%d1, H1⟩, ⟨%d2, H2⟩, ⟨%d3, H3⟩, ⟨%d4, H4⟩, H5⟩
  iapply (wp_wand_r Idealize.ShloMosaic.frame (wpE (defs₀ (F := F)) Variants.none (c : Thread nD τ) none) Set.univ)
  isplitl [HS H0 H1 H2 H3 H4 H5]
  · iapply (point m c t (fun _ => True) (fun _ _ => trivial))
    isplitl [HS]; · iexact HS
    isplitl [H0]; · iexact H0
    isplitl [H1]; · iexact H1
    isplitl [H2]; · iexact H2
    isplitl [H3]; · iexact H3
    isplitl [H4]; · iexact H4
    iexact H5
  iintro %_ ⟨HS, H0, H1, H2, H3, H4, ⟨%d5, -, H5⟩⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  iexists _; iexact H5

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch, with the counters at rest at the end. -/
theorem run_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any floats. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_quiescent m ρ)

end Cert.KernelIdeal.Any

end
-- ==== Proof.Same.lean ====
/- The two kernel programs are one program: the ideal text, at the machine's own numbers, is the printed one. -/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

/-- At the machine's numbers a named constant is its own bits. -/
@[reducible] def namedBits : Named Bits where
  named _ _ {φ} bits := FloatOps.ofBits φ bits

attribute [local instance] namedBits

set_option maxRecDepth 65536 in
set_option maxHeartbeats 4000000 in
theorem body_eq : Cert.KernelIdeal.cc0_masked_attention (F := Bits) = Cert.Kernel.cc0_masked_attention (F := Bits) := rfl

set_option maxRecDepth 65536 in
set_option maxHeartbeats 4000000 in
theorem defs₀_eq : Cert.KernelIdeal.defs₀ (F := Bits) = Cert.Kernel.defs₀ (F := Bits) := by
  unfold Cert.KernelIdeal.defs₀ Cert.Kernel.defs₀
  refine congrArg (Defs.onTc (nD := Cert.Kernel.nD) (τ := Cert.Kernel.τ) (sig := Cert.Kernel.sig) (Λ := Cert.Kernel.Λ₀)) ?_
  funext k a
  match k, a with
  | 0, (t, s) => rfl

set_option maxRecDepth 65536 in
set_option maxHeartbeats 4000000 in
theorem defs_eq : Cert.KernelIdeal.defs (F := Bits) = Cert.Kernel.defs (F := Bits) :=
  congrArg (Pipeline.defs (Cert.Kernel.pcfgs (F := Bits))) defs₀_eq

set_option maxRecDepth 65536 in
set_option maxHeartbeats 4000000 in
theorem main_eq : Cert.KernelIdeal.main (F := Bits) = Cert.Kernel.main (F := Bits) := rfl

end Cert.Same

end
-- ==== Proof.Frames.lean ====
/- The claims that are not of values: the two kernels' frames from one run at any floats, the reference's frame, the
   named constant. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Any
public import proofs.«01_k».proof.Proof.Same
public import Idealize.ShloMosaic.Adequacy
public import Idealize.ShloMosaic.Init
public import Idealize.ShloMosaic.Lib.Claim

@[expose] public section

noncomputable section

namespace Cert.Frames

open Idealize.ShloMosaic Idealize.SL.Sem

section
attribute [local instance] Cert.Same.namedBits

/-- The printed kernel's frame: the ideal text's, at the machine's numbers. -/
theorem kernel : Cert.quiescent_Kernel (hKernel := Cert.Kernel.Gen.facts) := fun m g _ => by
  have h := Cert.KernelIdeal.Any.unchanged (F := Bits) m g
  rw [Cert.Same.defs_eq, Cert.Same.main_eq] at h
  exact h
end

/-- The ideal kernel's frame. -/
theorem kernelIdeal : Cert.quiescent_KernelIdeal (hKernelIdeal := Cert.KernelIdeal.Gen.facts) := fun m g _ =>
  Cert.KernelIdeal.Any.unchanged (F := Ideal) m g

/-- The reference's frame: host operations only, and no semaphore. -/
theorem referenceIdeal : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The mask's constant stands for negative infinity. -/
theorem preserves : Cert.preserves_Kernel_KernelIdeal :=
  IdealRules.named_const.statement Cert.KernelIdeal.κ "mask" .f32 0xF149F2CA#32 ⊥ rfl

end Cert.Frames

end
-- ==== Proof.FfnBody.lean ====
/-
  One grid point of the feed-forward kernel: the block of the result after it is the block before it — at the first
  of its eleven points, the residual rows the kernel copies in — plus one chunk of the gated products.
-/
module

public import proofs.«01_k».proof.Proof.Gen.Kernel2Ideal.Frame
public import Idealize.ShloMosaic.Lib.Pipeline.Frame
public import Idealize.ShloMosaic.Lib.Tactic
public import Idealize.ShloMosaic.Lib.Transfers
public import Idealize.ShloMosaic.Lib.VecWindow

@[expose] public section

set_option maxRecDepth 16384

noncomputable section

namespace Cert.FfnBody

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The gated product of half a chunk: `silu (h·g) * (h·u)`, rounded. -/
def gated (h : Vec F S1024x2048 .bf16) (g u : Vec F S1x2048x256 .bf16) : FVec F S1024x256 .bf16 :=
  let a : FVec F S1024x256 .f32 := matmul dot_S1024x2048_S2048x256_S1024x256_1_0_0_1_n_n none (shapeCast S1024x2048 h shapeCasts_S1024x2048_S1024x2048)
    (shapeCast S2048x256 g shapeCasts_S1x2048x256_S2048x256 : FVec F S2048x256 .bf16) (constant S1024x256 .f32 0x00000000#32)
  let b : FVec F S1024x256 .f32 := matmul dot_S1024x2048_S2048x256_S1024x256_1_0_0_1_n_n none (shapeCast S1024x2048 h shapeCasts_S1024x2048_S1024x2048)
    (shapeCast S2048x256 u shapeCasts_S1x2048x256_S2048x256 : FVec F S2048x256 .bf16) (constant S1024x256 .f32 0x00000000#32)
  truncf .bf16 (mulf (mulf a (logistic a)) b) bitsLt_bf16_f32

/-- Half a chunk's contribution to the result. -/
def contrib (p : FVec F S1024x256 .bf16) (d : Vec F S256x2048 .bf16) : FVec F S1024x2048 .f32 :=
  matmul dot_S1024x256_S256x2048_S1024x2048_1_0_0_1_n_n none p (shapeCast S256x2048 d shapeCasts_S256x2048_S256x2048 : FVec F S256x2048 .bf16)
    (constant S1024x2048 .f32 0x00000000#32)

/-- The two halves of a chunk's columns and of its rows. -/
abbrev colsLo : Rect S1x2048x512 := Rect.unit (s := S1x2048x512) ![0, 0, 0] S1x2048x256.size inb_S1x2048x512_S1x2048x256_0_0_0
abbrev colsHi : Rect S1x2048x512 := Rect.unit (s := S1x2048x512) ![0, 0, 256] S1x2048x256.size inb_S1x2048x512_S1x2048x256_0_0_256
abbrev rowsLo : Rect S512x2048 := Rect.unit (s := S512x2048) ![0, 0] S256x2048.size inb_S512x2048_S256x2048_0_0
abbrev rowsHi : Rect S512x2048 := Rect.unit (s := S512x2048) ![256, 0] S256x2048.size inb_S512x2048_S256x2048_256_0
abbrev allRows : Rect S1024x2048 := Rect.unit (s := S1024x2048) ![0, 0] S1024x2048.size inb_S1024x2048_S1024x2048_0_0

/-- The block after a point: the chunk's contribution added to the block before it. -/
def step (h : Vec F S1024x2048 .bf16) (g u : Vec F S1x2048x512 .bf16) (d : Vec F S512x2048 .bf16) (prev : Vec F S1024x2048 .f32) :
    Vec F S1024x2048 .f32 :=
  addf (addf (contrib (gated (View.ld h allRows) (View.ld g colsLo) (View.ld u colsLo)) (View.ld d rowsLo))
      (contrib (gated (View.ld h allRows) (View.ld g colsHi) (View.ld u colsHi)) (View.ld d rowsHi)))
    (shapeCast S1024x2048 (View.ld prev allRows : Vec F S1024x2048 .f32) shapeCasts_S1024x2048_S1024x2048)

/-- The residual stream, left in HBM. -/
abbrev resid : Memref sig .tc .hbm S8192x2048 .f32 := Memref.whole main_arg1
/-- The copy's own semaphore. -/
abbrev copySem : SemLoc sig := SemLoc.dma 10

/-- A residual array's rows that a first point copies in. -/
def rowsOf (i : grid0.Coords) (h1 : k0_cond1 i = 1#1) (x : Vec F S8192x2048 .f32) : Vec F S1024x2048 .f32 :=
  View.ld x (Rect.unit (s := S8192x2048) (k0_off1 i) S1024x2048.size (k0_off1_inb i h1))

theorem cond_eq (i : grid0.Coords) : k0_cond2 i = k0_cond1 i := rfl

set_option maxHeartbeats 2000000 in
/-- A first point: the residual rows copied in, then one chunk added. -/
theorem run_first (c : Dev nD) (i : grid0.Coords) (h1 : k0_cond1 i = 1#1)
    (arg2 : Memref sig .tc .vmem S1024x2048 .bf16) (harg2 : arg2.IsWhole) (arg4 : Memref sig .tc .vmem S1x2048x512 .bf16) (harg4 : arg4.IsWhole)
    (arg5 : Memref sig .tc .vmem S1x2048x512 .bf16) (harg5 : arg5.IsWhole) (arg6 : Memref sig .tc .vmem S512x2048 .bf16) (harg6 : arg6.IsWhole)
    (arg7 : Memref sig .tc .vmem S1024x2048 .f32) (harg7 : arg7.IsWhole)
    (h : Vec F S1024x2048 .bf16) (g u : Vec F S1x2048x512 .bf16) (d : Vec F S512x2048 .bf16) (x : Buf (Elt F) (resid.view.loc (c : Thread nD τ)))
    (W : Waits sig Unit) (K : PUnit → sProp 𝕄) :
    iprop(owns (c : Thread nD τ) arg2 fullShare h ∗ owns (c : Thread nD τ) arg4 fullShare g ∗ owns (c : Thread nD τ) arg5 fullShare u
        ∗ owns (c : Thread nD τ) arg6 fullShare d ∗ (∃ o, owns (c : Thread nD τ) arg7 fullShare o)
        ∗ semVal ((c : Thread nD τ), copySem) 0 ∗ (resid.view.loc (c : Thread nD τ) ↦{fullShare} x) ∗ owes (c : Thread nD τ) 0 W
        ∗ (iprop(owns (c : Thread nD τ) arg2 fullShare h ∗ owns (c : Thread nD τ) arg4 fullShare g ∗ owns (c : Thread nD τ) arg5 fullShare u
            ∗ owns (c : Thread nD τ) arg6 fullShare d ∗ owns (c : Thread nD τ) arg7 fullShare (step h g u d (rowsOf i h1 x))
            ∗ semVal ((c : Thread nD τ), copySem) 0 ∗ (resid.view.loc (c : Thread nD τ) ↦{fullShare} x) ∗ ∃ W', owes (c : Thread nD τ) 0 W') -∗ K ⟨⟩))
      ⊢ wp frame (wpE (defs₀ (F := F)) Variants.none c none) Set.univ
          (cc0_swiglu_ffn i arg2 harg2 resid (Memref.isWhole_whole _) arg4 harg4 arg5 harg5 arg6 harg6 arg7 harg7 cc0_scratch0) K := by
  have h2 : k0_cond2 i = 1#1 := h1
  unfold cc0_swiglu_ffn k0_part1 owns
  iintro ⟨⟨%f2, %e2, H2⟩, ⟨%f4, %e4, H4⟩, ⟨%f5, %e5, H5⟩, ⟨%f6, %e6, H6⟩, ⟨%o, %f7, -, H7⟩, Hs, Hx, HW, Hk⟩
  sl_exec
  sl_step
  iapply Hk
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro
    rw [View.read_writes_full]
    sl_unfold_words
    subst e2 e4 e5 e6
    have hr : arg7.view.readCov [(⟨Rect.whole S1024x2048, rowsOf i h1 x⟩ : View.Piece (Elt F) S1024x2048 .f32)] allRows.toLoadRect
        = View.ld (rowsOf i h1 x) allRows := by
      unfold View.readCov
      rw [View.readAt_eq_ld, View.read_writes_whole]
    unfold step
    rw [← hr]
    rfl
  isplitl [Hs]; · iexact Hs
  isplitl [Hx]; · iexact Hx
  iexists _; iexact HW

set_option maxHeartbeats 2000000 in
/-- A later point: one chunk added. -/
theorem run_later (c : Dev nD) (i : grid0.Coords) (h1 : ¬k0_cond1 i = 1#1)
    (arg2 : Memref sig .tc .vmem S1024x2048 .bf16) (harg2 : arg2.IsWhole) (arg4 : Memref sig .tc .vmem S1x2048x512 .bf16) (harg4 : arg4.IsWhole)
    (arg5 : Memref sig .tc .vmem S1x2048x512 .bf16) (harg5 : arg5.IsWhole) (arg6 : Memref sig .tc .vmem S512x2048 .bf16) (harg6 : arg6.IsWhole)
    (arg7 : Memref sig .tc .vmem S1024x2048 .f32) (harg7 : arg7.IsWhole)
    (h : Vec F S1024x2048 .bf16) (g u : Vec F S1x2048x512 .bf16) (d : Vec F S512x2048 .bf16) (o : Vec F S1024x2048 .f32)
    (K : PUnit → sProp 𝕄) :
    iprop(owns (c : Thread nD τ) arg2 fullShare h ∗ owns (c : Thread nD τ) arg4 fullShare g ∗ owns (c : Thread nD τ) arg5 fullShare u
        ∗ owns (c : Thread nD τ) arg6 fullShare d ∗ owns (c : Thread nD τ) arg7 fullShare o
        ∗ (iprop(owns (c : Thread nD τ) arg2 fullShare h ∗ owns (c : Thread nD τ) arg4 fullShare g ∗ owns (c : Thread nD τ) arg5 fullShare u
            ∗ owns (c : Thread nD τ) arg6 fullShare d ∗ owns (c : Thread nD τ) arg7 fullShare (step h g u d o)) -∗ K ⟨⟩))
      ⊢ wp frame (wpE (defs₀ (F := F)) Variants.none c none) Set.univ
          (cc0_swiglu_ffn i arg2 harg2 resid (Memref.isWhole_whole _) arg4 harg4 arg5 harg5 arg6 harg6 arg7 harg7 cc0_scratch0) K := by
  have h2 : ¬k0_cond2 i = 1#1 := h1
  unfold cc0_swiglu_ffn k0_part1 owns
  iintro ⟨⟨%f2, %e2, H2⟩, ⟨%f4, %e4, H4⟩, ⟨%f5, %e5, H5⟩, ⟨%f6, %e6, H6⟩, ⟨%f7, %e7, H7⟩, Hk⟩
  sl_exec
  sl_step
  iapply Hk
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  iexists _; isplitr; swap; · iexact H7
  ipureintro
  rw [View.read_writes_full]
  sl_unfold_words
  subst e2 e4 e5 e6 e7
  rfl

end Cert.FfnBody

end
-- ==== Proof.FfnRun.lean ====
/-
  The feed-forward kernel run over its grid: every block of the result named as the points leave it, the frame
  at any floats, and the array after the last point.
-/
module

public import proofs.«01_k».proof.Proof.FfnBody
public import Idealize.ShloMosaic.Lib.Claim
public import Idealize.ShloMosaic.Lib.Pipeline.FrameBody
public import Idealize.ShloMosaic.Lib.Pipeline.Value

@[expose] public section

set_option maxRecDepth 16384
set_option maxHeartbeats 2000000

noncomputable section

namespace Cert.FfnRun

open Cert.Kernel2Ideal Cert.Kernel2Ideal.Gen Cert.FfnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## What the kernel owns besides its windows -/

/-- The kernel's one semaphore. -/
abbrev osem : Fin 1 → SemLoc sig := fun j => (![copySem] : Fin 1 → SemLoc sig) j

theorem ownSemFacts : Pipeline.OwnSemFacts spec0 osem := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), copySem) 0 := by
  rw [Pipeline.ownSems0_eq_of_list c osem [0] (by decide) (by decide)]; rfl

/-- The arrays the body reads in HBM: the residual stream. -/
def inHbm : Finset (Ref sig .tc) := {main_arg1}
theorem inHbm_sub : inHbm ⊆ Pipeline.restRefs sig spec0 := by decide

variable (m : (ℓ : Loc nD τ sig) → Buf (Elt F) ℓ) (ρ : Dev nD → PrngReg)

theorem inHbm_eq (c : Dev nD) :
    (bigSep inHbm (fun b => ((c : Thread nD τ).loc b) ↦{fullShare} V m c b) : sProp 𝕄)
      = (resid.view.loc (c : Thread nD τ) ↦{fullShare} V m c main_arg1) := by
  rw [BI.bigSep_eq_bigSepL_of_eq [main_arg1] (by decide) (by decide)]; rfl

/-- What the region keeps between points. -/
theorem keeps_eq (c : Dev nD) :
    (Pipeline.ΦD osem spec0 inHbm (V m) c : sProp 𝕄)
      = iprop(BI.emp ∗ (∃ r, prngReg c r) ∗ semVal ((c : Thread nD τ), copySem) 0 ∗ (resid.view.loc (c : Thread nD τ) ↦{fullShare} V m c main_arg1)) := by
  rw [Pipeline.ΦD_eq, scopedRest0_eq, ownSems_eq, inHbm_eq]

/-! ## The block of the result, point by point -/

/-- A point copies the residual rows in exactly when it is the first of its eleven. -/
theorem first_iff : ∀ t : Fin cfg0.N, k0_cond1 (grid0.coords t) = 1#1 ↔ t.val % 11 = 0 :=
  (by decide +kernel : ∀ t : Fin grid0.N, _)

/-- One point's step from what the block held before its chunk. -/
def stepAt (c : Dev nD) (t : Fin cfg0.N) (prev : Vec F S1024x2048 .f32) : Vec F S1024x2048 .f32 :=
  step (iblk m c 0 t) (iblk m c 1 t) (iblk m c 2 t) (iblk m c 3 t) prev

/-- What the block holds before a point's chunk: the residual rows at a first point, else what it held. -/
def prevAt (c : Dev nD) (t : Fin cfg0.N) (o : Vec F S1024x2048 .f32) : Vec F S1024x2048 .f32 :=
  if h1 : k0_cond1 (grid0.coords t) = 1#1 then rowsOf (grid0.coords t) h1 (V m c main_arg1) else o

/-- The block after point `n`. -/
def acc (c : Dev nD) : (n : ℕ) → n < cfg0.N → Vec F S1024x2048 .f32
  | 0, h => stepAt m c ⟨0, h⟩ (prevAt m c ⟨0, h⟩ (constant S1024x2048 .f32 0x00000000#32))
  | n + 1, h => stepAt m c ⟨n + 1, h⟩ (prevAt m c ⟨n + 1, h⟩ (acc c n (Nat.lt_of_succ_lt h)))

theorem acc_first (c : Dev nD) (t : Fin cfg0.N) (h1 : k0_cond1 (grid0.coords t) = 1#1) :
    acc m c t.val t.isLt = stepAt m c t (rowsOf (grid0.coords t) h1 (V m c main_arg1)) := by
  obtain ⟨n, hn⟩ := t
  cases n with
  | zero => unfold acc prevAt; rw [dif_pos h1]
  | succ n => unfold acc prevAt; rw [dif_pos h1]

theorem acc_later (c : Dev nD) (t : Fin cfg0.N) (h1 : ¬k0_cond1 (grid0.coords t) = 1#1) :
    acc m c t.val t.isLt = stepAt m c t (acc m c (t.val - 1) (Nat.lt_of_le_of_lt (Nat.sub_le _ _) t.isLt)) := by
  obtain ⟨n, hn⟩ := t
  cases n with
  | zero => exact absurd ((first_iff ⟨0, hn⟩).mpr rfl) h1
  | succ n => rw [acc]; unfold prevAt; rw [dif_neg h1]; rfl

/-! ## The body at every point -/

abbrev ms0 (t : Fin cfg0.N) : Memref sig .tc .vmem S1024x2048 .bf16 := win0_0.stage (cfg0.slots t 0)
abbrev ms1 (t : Fin cfg0.N) : Memref sig .tc .vmem S1x2048x512 .bf16 := win0_1.stage (cfg0.slots t 1)
abbrev ms2 (t : Fin cfg0.N) : Memref sig .tc .vmem S1x2048x512 .bf16 := win0_2.stage (cfg0.slots t 2)
abbrev ms3 (t : Fin cfg0.N) : Memref sig .tc .vmem S512x2048 .bf16 := win0_3.stage (cfg0.slots t 3)
abbrev ms4 (t : Fin cfg0.N) : Memref sig .tc .vmem S1024x2048 .f32 := win0_4.stage (cfg0.slots t 4)

/-- The proof data: the inputs stay, the result's block is `acc`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦD osem spec0 inHbm (V m) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = acc m c t.val t.isLt := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; rfl)

/-- At a later point the result's buffer holds the block of the point before. -/
theorem before4 (c : Dev nD) (t : Fin cfg0.N) (h1 : ¬k0_cond1 (grid0.coords t) = 1#1) (d) :
    (dats m 0 c).before 4 t d = acc m c (t.val - 1) (Nat.lt_of_le_of_lt (Nat.sub_le _ _) t.isLt) := by
  have hm : ¬t.val % 11 = 0 := fun h => h1 ((first_iff t).mpr h)
  have ht : t.val ≠ 0 := fun h => hm (by rw [h])
  rw [(dats m 0 c).before_out_kept 4 rfl t ht (Bool.eq_false_iff.mpr fun h => by
      have := (flush0_4 ⟨t.val - 1, Nat.lt_of_le_of_lt (Nat.sub_le _ _) t.isLt⟩).mp h
      have h' : (t.val - 1) % 11 = 10 := this
      omega) (fun _ => rfl) (fun _ _ => rfl) d, after4]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_first (c : Dev nD) (t : Fin cfg0.N) (h1 : k0_cond1 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, acc_first m c t h1]
  rw [show (dats m 0 c).Φ t.castSucc = Pipeline.ΦD osem spec0 inHbm (V m) c from rfl, keeps_eq]
  unfold Dat.owesAt Pipeline.owesWithin
  rw [show (dats m 0 c).owed t.castSucc = 0 from rfl]
  iintro ⟨⟨He, Hg, Hs, Hx⟩, ⟨%W, %hW, HO⟩, ⟨%d0, H0⟩, ⟨%d1, H1⟩, ⟨%d2, H2⟩, ⟨%d3, H3⟩, ⟨%d4, H4⟩⟩
  iapply (run_first c (grid0.coords t) h1 (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    (iblk m c 0 t) (iblk m c 1 t) (iblk m c 2 t) (iblk m c 3 t) (V m c main_arg1) W)
  isplitl [H0]; · iexact H0
  isplitl [H1]; · iexact H1
  isplitl [H2]; · iexact H2
  isplitl [H3]; · iexact H3
  isplitl [H4]; · iexists _; iexact H4
  isplitl [Hs]; · iexact Hs
  isplitl [Hx]; · iexact Hx
  isplitl [HO]; · iexact HO
  iintro ⟨H0, H1, H2, H3, H4, Hs, Hx, ⟨%W', HO⟩⟩
  isplitl [He Hg Hs Hx]
  · isplitl [He]; · iexact He
    isplitl [Hg]; · iexact Hg
    isplitl [Hs]; · iexact Hs
    iexact Hx
  isplitl [HO]
  · iexists W'
    isplitr
    · ipureintro; exact fun _ _ => Or.inl trivial
    iexact HO
  isplitl [H0]; · iexact H0
  isplitl [H1]; · iexact H1
  isplitl [H2]; · iexact H2
  isplitl [H3]; · iexact H3
  iexact H4

theorem sound_later (c : Dev nD) (t : Fin cfg0.N) (h1 : ¬k0_cond1 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4 m c t h1]
  rw [show (dats m 0 c).Φ t.succ = (dats m 0 c).Φ t.castSucc from rfl,
    show (dats m 0 c).owesAt () t.succ = (dats m 0 c).owesAt () t.castSucc from rfl,
    after0, after1, after2, after3, after4, acc_later m c t h1]
  iintro ⟨HΦ, HO, ⟨%d0, H0⟩, ⟨%d1, H1⟩, ⟨%d2, H2⟩, ⟨%d3, H3⟩, ⟨%d4, H4⟩⟩
  iapply (run_later c (grid0.coords t) h1 (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    (iblk m c 0 t) (iblk m c 1 t) (iblk m c 2 t) (iblk m c 3 t) (acc m c (t.val - 1) (Nat.lt_of_le_of_lt (Nat.sub_le _ _) t.isLt)))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h1 : k0_cond1 (grid0.coords t) = 1#1
  · exact triple_restated (sound_first m c t h1) rfl .rfl fun _ => .rfl
  · exact triple_restated (sound_later m c t h1) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts inHbm inHbm_sub m ρ main
    (hbody := fun c => (body_obligation m c).loose) (hshare := fun c => (dats m 0 c).share_full fun _ => rfl)
    (howed := fun _ _ => rfl) (V := V m) (hmain := hmainD m Variants.none) (hA := A_eq m) (hin := fun _ => .rfl) (hout := fun _ => .rfl)

/-! ## The array after the run -/

/-- A row's block of the result, and its place there. -/
abbrev rowIn (i : S8192x2048.Idx) : S1024x2048.Idx := fun a => match a with
  | ⟨0, _⟩ => ⟨(i 0).val % 1024, Nat.mod_lt _ (by decide)⟩
  | ⟨1, _⟩ => ⟨(i 1).val, (i 1).isLt⟩

theorem last_lt (i : S8192x2048.Idx) : 11 * ((i 0).val / 1024) + 10 < cfg0.N := by
  have h : (i 0).val < 8192 := (i 0).isLt
  exact lt_of_lt_of_eq (by omega) N_0.symm

/-- The array the run leaves: each row as the last of its block's eleven points leaves it. -/
def result (c : Dev nD) : Buf (Elt F) ((c : Thread nD τ).loc main_v8) := fun i =>
  acc m c (11 * ((i 0).val / 1024) + 10) (last_lt i) (rowIn i)

theorem out_index : ∀ t : Fin cfg0.N, win0_4.index t (0 : Fin 2) = t.val / 11 ∧ win0_4.index t (1 : Fin 2) = 0 :=
  (by decide +kernel : ∀ t : Fin grid0.N, _)

theorem acc_congr (c : Dev nD) {n n' : ℕ} (h : n < cfg0.N) (h' : n' < cfg0.N) (e : n = n') : acc m c n h = acc m c n' h' := by
  subst e; rfl

theorem flushed_eq (c : Dev nD) (t : Fin cfg0.N) (hf : (cfg0.win 4).flush t = true) :
    (dats m 0 c).flushed 4 t = ((cfg0.win 4).blk t).view.read (Elt F) (result m c) := by
  have hm : t.val % 11 = 10 := (flush0_4 t).mp hf
  obtain ⟨e0, e1⟩ := out_index t
  show (cfg0.win 4).cut (grid0.coords t) ((dats m 0 c).after 4 t) = _
  rw [after4]
  funext y
  have hy0 : (y 0).val < 1024 := (y 0).isLt
  have hy1 : (y 1).val < 2048 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 2048 + 1 * (y 1).val := rfl
  show acc m c t.val t.isLt ((cfg0.win 4).xinj (grid0.coords t) y) = result m c (((cfg0.win 4).blk t).view.emb y)
  unfold result
  have hr : rowIn (((cfg0.win 4).blk t).view.emb y) = (cfg0.win 4).xinj (grid0.coords t) y := by
    funext a; apply Fin.ext
    match a with
    | ⟨0, _⟩ => show (((cfg0.win 4).blk t).view.emb y 0).val % 1024 = (y 0).val; rw [hb0]; omega
    | ⟨1, _⟩ => show (((cfg0.win 4).blk t).view.emb y 1).val = (y 1).val; rw [hb1, e1]; omega
  rw [hr]
  refine congrFun (acc_congr m c _ _ ?_) _
  rw [hb0, e0]; omega

theorem mem_block (t : Fin cfg0.N) (i : S8192x2048.Idx) :
    i ∈ ((cfg0.win 4).blk t).view.set
      ↔ ∀ a : Fin 2, win0_4.index t a * S1024x2048.size a ≤ (i a).val ∧ (i a).val < win0_4.index t a * S1024x2048.size a + S1024x2048.size a := by
  show i ∈ ((View.whole main_v8).slice (win0_4.rect t)).set ↔ _
  rw [View.set_slice_whole, Rect.mem_set_unit]
  exact Iff.rfl

theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨e0, e1⟩ := out_index ⟨_, last_lt i⟩
  have e0' : win0_4.index ⟨_, last_lt i⟩ (0 : Fin 2) = (11 * ((i 0).val / 1024) + 10) / 11 := e0
  refine ⟨⟨_, last_lt i⟩, (flush0_4 _).mpr (by show (11 * ((i 0).val / 1024) + 10) % 11 = 10; omega), ?_⟩
  rw [mem_block]
  intro a
  match a with
  | ⟨0, _⟩ =>
    show win0_4.index ⟨_, last_lt i⟩ (0 : Fin 2) * 1024 ≤ (i 0).val ∧ (i 0).val < win0_4.index ⟨_, last_lt i⟩ (0 : Fin 2) * 1024 + 1024
    rw [e0']; omega
  | ⟨1, _⟩ =>
    show win0_4.index ⟨_, last_lt i⟩ (1 : Fin 2) * 2048 ≤ (i 1).val ∧ (i 1).val < win0_4.index ⟨_, last_lt i⟩ (1 : Fin 2) * 2048 + 2048
    rw [e1]; omega

theorem array_eq (c : Dev nD) : (dats m 0 c).arrAt 4 cfg0.N = result m c :=
  (dats m 0 c).arrAt_eq_of_cover 4 _ (fun t hf => flushed_eq m c t hf) covered

/-! ## The run, read -/

/-- The result named and the arguments unchanged, the counters at rest. -/
theorem run : θ_run defs (onTc (τ := τ) (main (F := F))) ⟨m, fun _ => 0, ρ⟩ (fun r => (∀ c : Dev nD,
      r.2.mem ((c : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans (array_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.FfnRun

end
-- ==== Proof.FfnFrames.lean ====
/-
  The feed-forward frames: both kernel programs' from one run at any floats, and the reference's.
-/
module

public import proofs.«01_k».proof.Defs
public import proofs.«01_k».proof.Proof.Gen.Kernel2
public import proofs.«01_k».proof.Proof.FfnRun
public import proofs.«01_k».proof.Proof.Gen.Reference2Ideal.Run
public import Idealize.ShloMosaic.Adequacy
public import Idealize.ShloMosaic.Init
public import Idealize.ShloMosaic.Lib.Claim

@[expose] public section

noncomputable section

namespace Cert.FfnFrames

open Idealize.ShloMosaic Idealize.SL.Sem

open Cert.Kernel2Ideal Idealize.ShloMosaic.TcCoe in
/-- The run with the result forgotten. -/
theorem unchanged {F : FTy → Type} [FloatOps F] (m : (ℓ : Loc nD τ sig) → Buf (Elt F) ℓ) (ρ : Dev nD → PrngReg) :
    θ_run (Cert.Kernel2Ideal.defs (F := F)) (onTc (τ := τ) (Cert.Kernel2Ideal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.Kernel2Ideal.defs _ _).mono (fun _ h => ⟨fun c => (h.1 c).2, h.2⟩) (Cert.FfnRun.run m ρ)

set_option maxRecDepth 65536 in
set_option maxHeartbeats 4000000 in
/-- The two programs' bodies are one. -/
theorem bodies_eq : Cert.Kernel2Ideal.defs₀ (F := Bits) = Cert.Kernel2.defs₀ (F := Bits) := by
  unfold Cert.Kernel2Ideal.defs₀ Cert.Kernel2.defs₀
  refine congrArg (Defs.onTc (nD := Cert.Kernel2.nD) (τ := Cert.Kernel2.τ) (sig := Cert.Kernel2.sig) (Λ := Cert.Kernel2.Λ₀)) ?_
  funext k a
  match k, a with
  | 0, (t, s) => rfl

theorem defs_eq : Cert.Kernel2Ideal.defs (F := Bits) = Cert.Kernel2.defs (F := Bits) :=
  congrArg (Pipeline.defs (Cert.Kernel2.pcfgs (F := Bits))) bodies_eq

theorem main_eq : Cert.Kernel2Ideal.main (F := Bits) = Cert.Kernel2.main (F := Bits) := rfl

/-- The printed kernel's frame: the ideal text's, at bit patterns. -/
theorem kernel : Cert.quiescent_Kernel2 (hKernel2 := Cert.Kernel2.Gen.facts) := fun m g _ => by
  have h := unchanged (F := Bits) m g
  rw [defs_eq, main_eq] at h
  exact h

/-- The ideal kernel's frame. -/
theorem kernelIdeal : Cert.quiescent_Kernel2Ideal (hKernel2Ideal := Cert.Kernel2Ideal.Gen.facts) := fun m g _ =>
  unchanged (F := Ideal) m g

/-- The reference's frame: host operations only, and no semaphore. -/
theorem referenceIdeal : Cert.quiescent_Reference2Ideal (hReference2Ideal := Cert.Reference2Ideal.Gen.facts) := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

end Cert.FfnFrames

end
-- ==== Proof.FfnValue.lean ====
/-
  The feed-forward network's value: the result array is the residual stream plus the gated products projected down,
  element by element, over the extended reals.
-/
module

public import proofs.«01_k».proof.Defs
public import proofs.«01_k».proof.Proof.FfnRun
public import proofs.«01_k».proof.Proof.Gen.Reference2Ideal.Run
public import Idealize.ShloMosaic.Lib.Pipeline.Value
public import Idealize.ShloMosaic.Lib.Pipeline.ValueKit.Tiles
public import Idealize.ShloMosaic.Lib.Pointwise
public import Idealize.ShloMosaic.Lib.StableHlo.Run
public import Idealize.ShloMosaic.Lib.Claim

@[expose] public section

set_option maxRecDepth 16384

noncomputable section

open Idealize.ShloMosaic Idealize.ShloMosaic.TcCoe Idealize.ShloMosaic.Tactic
open Cert.Kernel2Ideal Cert.Kernel2Ideal.Gen Cert.FfnBody Cert.FfnRun

namespace Cert.FfnValue

variable (m : (ℓ : Loc nD τ sig) → Buf (Elt Ideal) ℓ)

/-- Which block of its array each window reads at a point: the rows' eighth of the activations, the chunk of the weights. -/
theorem block_index : ∀ t : Fin cfg0.N, win0_0.index t (0 : Fin 2) = t.val / 11 ∧ win0_0.index t (1 : Fin 2) = 0
    ∧ win0_1.index t (0 : Fin 3) = t.val % 11 ∧ win0_1.index t (1 : Fin 3) = 0 ∧ win0_1.index t (2 : Fin 3) = 0
    ∧ win0_2.index t (0 : Fin 3) = t.val % 11 ∧ win0_2.index t (1 : Fin 3) = 0 ∧ win0_2.index t (2 : Fin 3) = 0
    ∧ win0_3.index t (0 : Fin 2) = t.val % 11 ∧ win0_3.index t (1 : Fin 2) = 0 :=
  (by decide +kernel : ∀ t : Fin grid0.N, _)

/-- The rows a first point copies in start at its block. -/
theorem rows_index : ∀ t : Fin cfg0.N, k0_off1 (grid0.coords t) (0 : Fin 2) = 1024 * (t.val / 11) ∧ k0_off1 (grid0.coords t) (1 : Fin 2) = 0 :=
  (by decide +kernel : ∀ t : Fin grid0.N, _)

section Arrays

variable {F : FTy → Type} [FloatOps F] (n : (ℓ : Loc nD τ sig) → Buf (Elt F) ℓ)

/-- The arrays the region finds: the activations rounded, -/
theorem act_eq (c : Dev nD) : V n c main_v0
    = truncf .bf16 (n ((c : Thread nD τ).loc main_arg0) : (⟨S8192x2048, .f32⟩ : BufTy).Contents (Elt F)) bitsLt_bf16_f32 := by
  unfold V; after_results

/-- a weight's columns in chunks of 512, -/
def chunks (w : (⟨S2048x5632, .f32⟩ : BufTy).Contents (Elt F)) : (⟨S11x2048x512, .bf16⟩ : BufTy).Contents (Elt F) :=
  truncf .bf16 (transpose S11x2048x512 [1, 0, 2] (shapeCast S2048x11x512 w shapeCasts_S2048x5632_S2048x11x512)
    transposes_S2048x11x512_S11x2048x512_1_0_2 : (⟨S11x2048x512, .f32⟩ : BufTy).Contents (Elt F)) bitsLt_bf16_f32

/-- of the gate -/
theorem gate_eq (c : Dev nD) : V n c main_v3 = chunks (n ((c : Thread nD τ).loc main_arg2)) := by
  unfold V chunks; after_results; rfl

/-- and of the up projection, -/
theorem up_eq (c : Dev nD) : V n c main_v6 = chunks (n ((c : Thread nD τ).loc main_arg3)) := by
  unfold V chunks; after_results; rfl

/-- and the down projection rounded. -/
theorem down_eq (c : Dev nD) : V n c main_v7
    = truncf .bf16 (n ((c : Thread nD τ).loc main_arg4) : (⟨S5632x2048, .f32⟩ : BufTy).Contents (Elt F)) bitsLt_bf16_f32 := by
  unfold V; after_results

end Arrays

/-- A chunked weight at a place. -/
theorem chunk_apply (w : (⟨S2048x5632, .f32⟩ : BufTy).Contents (Elt Ideal)) (f : Fin 11) (k : Fin 2048) (j : Fin 512)
    (h : 512 * f.val + j.val < 5632) : chunks w (ix3 f k j) = w (ix2 k ⟨512 * f.val + j.val, h⟩) := by
  unfold chunks
  pointwise
  refine congrArg w (congrArg (ix2 k) (Fin.ext ?_))
  show f.val * 512 + j.val = 512 * f.val + j.val
  omega

/-- A block of the activations is the point's rows of the array. -/
theorem act_apply (c : Dev nD) (t : Fin cfg0.N) (r : Fin 1024) (k : Fin 2048) (h : 1024 * (t.val / 11) + r.val < 8192) :
    iblk m c 0 t (ix2 r k) = m ((c : Thread nD τ).loc main_arg0) (ix2 ⟨1024 * (t.val / 11) + r.val, h⟩ k) := by
  obtain ⟨e0, e1, -⟩ := block_index t
  show V m c main_v0 (((cfg0.win 0).blk t).view.emb (ix2 r k)) = _
  rw [act_eq]
  refine congrArg (m ((c : Thread nD τ).loc main_arg0)) (funext fun a => Fin.ext ?_)
  match a with
  | ⟨0, _⟩ => show win0_0.index t (0 : Fin 2) * 1024 + 1 * r.val = 1024 * (t.val / 11) + r.val; omega
  | ⟨1, _⟩ => show win0_0.index t (1 : Fin 2) * 2048 + 1 * k.val = k.val; omega

/-- A chunk of the gate is the point's columns of the array. -/
theorem gate_apply (c : Dev nD) (t : Fin cfg0.N) (k : Fin 2048) (j : Fin 512) (h : 512 * (t.val % 11) + j.val < 5632) :
    iblk m c 1 t (ix3 0 k j) = m ((c : Thread nD τ).loc main_arg2) (ix2 k ⟨512 * (t.val % 11) + j.val, h⟩) := by
  obtain ⟨-, -, e0, e1, e2, -⟩ := block_index t
  have hf : t.val % 11 < 11 := Nat.mod_lt _ (by decide)
  refine Eq.trans ?_ (chunk_apply (m ((c : Thread nD τ).loc main_arg2)) ⟨t.val % 11, hf⟩ k j h)
  show V m c main_v3 (((cfg0.win 1).blk t).view.emb (ix3 0 k j)) = _
  rw [gate_eq]
  refine congrArg (chunks _) (funext fun a => Fin.ext ?_)
  match a with
  | ⟨0, _⟩ => show win0_1.index t (0 : Fin 3) * 1 + 1 * 0 = t.val % 11; omega
  | ⟨1, _⟩ => show win0_1.index t (1 : Fin 3) * 2048 + 1 * k.val = k.val; omega
  | ⟨2, _⟩ => show win0_1.index t (2 : Fin 3) * 512 + 1 * j.val = j.val; omega

/-- A chunk of the up projection is the point's columns of the array. -/
theorem up_apply (c : Dev nD) (t : Fin cfg0.N) (k : Fin 2048) (j : Fin 512) (h : 512 * (t.val % 11) + j.val < 5632) :
    iblk m c 2 t (ix3 0 k j) = m ((c : Thread nD τ).loc main_arg3) (ix2 k ⟨512 * (t.val % 11) + j.val, h⟩) := by
  obtain ⟨-, -, -, -, -, e0, e1, e2, -⟩ := block_index t
  have hf : t.val % 11 < 11 := Nat.mod_lt _ (by decide)
  refine Eq.trans ?_ (chunk_apply (m ((c : Thread nD τ).loc main_arg3)) ⟨t.val % 11, hf⟩ k j h)
  show V m c main_v6 (((cfg0.win 2).blk t).view.emb (ix3 0 k j)) = _
  rw [up_eq]
  refine congrArg (chunks _) (funext fun a => Fin.ext ?_)
  match a with
  | ⟨0, _⟩ => show win0_2.index t (0 : Fin 3) * 1 + 1 * 0 = t.val % 11; omega
  | ⟨1, _⟩ => show win0_2.index t (1 : Fin 3) * 2048 + 1 * k.val = k.val; omega
  | ⟨2, _⟩ => show win0_2.index t (2 : Fin 3) * 512 + 1 * j.val = j.val; omega

/-- A chunk of the down projection is the point's rows of the array. -/
theorem down_apply (c : Dev nD) (t : Fin cfg0.N) (j : Fin 512) (k : Fin 2048) (h : 512 * (t.val % 11) + j.val < 5632) :
    iblk m c 3 t (ix2 j k) = m ((c : Thread nD τ).loc main_arg4) (ix2 ⟨512 * (t.val % 11) + j.val, h⟩ k) := by
  obtain ⟨-, -, -, -, -, -, -, -, e0, e1⟩ := block_index t
  show V m c main_v7 (((cfg0.win 3).blk t).view.emb (ix2 j k)) = _
  rw [down_eq]
  refine congrArg (m ((c : Thread nD τ).loc main_arg4)) (funext fun a => Fin.ext ?_)
  match a with
  | ⟨0, _⟩ => show win0_3.index t (0 : Fin 2) * 512 + 1 * j.val = 512 * (t.val % 11) + j.val; omega
  | ⟨1, _⟩ => show win0_3.index t (1 : Fin 2) * 2048 + 1 * k.val = k.val; omega

/-- The residual rows a first point copies in, at a place. -/
theorem rows_apply (c : Dev nD) (t : Fin cfg0.N) (h1 : k0_cond1 (grid0.coords t) = 1#1) (r : Fin 1024) (j : Fin 2048)
    (h : 1024 * (t.val / 11) + r.val < 8192) :
    rowsOf (grid0.coords t) h1 (V m c main_arg1) (ix2 r j) = m ((c : Thread nD τ).loc main_arg1) (ix2 ⟨1024 * (t.val / 11) + r.val, h⟩ j) := by
  obtain ⟨e0, e1⟩ := rows_index t
  rw [V_main_arg1]
  unfold rowsOf
  refine View.ld_unit_apply_of _ _ _ _ _ _ fun a => ?_
  match a with
  | ⟨0, _⟩ => show 1024 * (t.val / 11) + r.val = k0_off1 (grid0.coords t) (0 : Fin 2) + r.val; omega
  | ⟨1, _⟩ => show j.val = k0_off1 (grid0.coords t) (1 : Fin 2) + j.val; omega

/-- One gated product times the down projection's entry: one summand of the result, from a row of the activations and
    a column of each of the two weights. -/
def summand (h g u : Fin 2048 → EReal) (d : EReal) : EReal :=
  (∑ k, h k * g k) * Ideal.logistic (∑ k, h k * g k) * (∑ k, h k * u k) * d

theorem summand_congr {h h' g g' u u' : Fin 2048 → EReal} {d d' : EReal} (e1 : ∀ k, h k = h' k) (e2 : ∀ k, g k = g' k) (e3 : ∀ k, u k = u' k)
    (e4 : d = d') : summand h g u d = summand h' g' u' d' := by
  obtain rfl := funext e1; obtain rfl := funext e2; obtain rfl := funext e3; obtain rfl := e4; rfl

/-- The summand of inner column `n` at row `i` and column `j` of the result. -/
def termAt (h : S8192x2048.Idx → EReal) (g u : S2048x5632.Idx → EReal) (d : S5632x2048.Idx → EReal) (i : Fin 8192) (j : Fin 2048)
    (n : Fin 5632) : EReal :=
  summand (fun k => h (ix2 i k)) (fun k => g (ix2 k n)) (fun k => u (ix2 k n)) (d (ix2 n j))

/-- The same at any number, zero past the last column. -/
def term (c : Dev nD) (i : Fin 8192) (j : Fin 2048) (n : ℕ) : EReal :=
  if h : n < 5632 then termAt (m ((c : Thread nD τ).loc main_arg0)) (m ((c : Thread nD τ).loc main_arg2)) (m ((c : Thread nD τ).loc main_arg3))
    (m ((c : Thread nD τ).loc main_arg4)) i j ⟨n, h⟩ else 0

theorem hz : (![0, 0] : Fin 2 → Nat) = fun _ => 0 := funext fun a => by fin_cases a <;> rfl

/-- Half a chunk of a weight's columns, at a place. -/
theorem cols_apply (g : Vec Ideal S1x2048x512 .bf16) (k : Fin 2048) (q : Fin 256) :
    View.ld g colsLo (ix3 0 k q) = g (ix3 0 k ⟨q.val, by omega⟩) ∧ View.ld g colsHi (ix3 0 k q) = g (ix3 0 k ⟨256 + q.val, by omega⟩) := by
  constructor <;> refine View.ld_unit_apply_of _ _ _ _ _ _ fun a => ?_
  · match a with
    | ⟨0, _⟩ => rfl
    | ⟨1, _⟩ => exact (Nat.zero_add _).symm
    | ⟨2, _⟩ => exact (Nat.zero_add _).symm
  · match a with
    | ⟨0, _⟩ => rfl
    | ⟨1, _⟩ => exact (Nat.zero_add _).symm
    | ⟨2, _⟩ => rfl

/-- Half a chunk of the down projection's rows, at a place. -/
theorem rowsHalf_apply (d : Vec Ideal S512x2048 .bf16) (q : Fin 256) (j : Fin 2048) :
    View.ld d rowsLo (ix2 q j) = d (ix2 ⟨q.val, by omega⟩ j) ∧ View.ld d rowsHi (ix2 q j) = d (ix2 ⟨256 + q.val, by omega⟩ j) := by
  constructor <;> refine View.ld_unit_apply_of _ _ _ _ _ _ fun a => ?_
  · match a with
    | ⟨0, _⟩ => exact (Nat.zero_add _).symm
    | ⟨1, _⟩ => exact (Nat.zero_add _).symm
  · match a with
    | ⟨0, _⟩ => rfl
    | ⟨1, _⟩ => exact (Nat.zero_add _).symm

/-- Half a chunk's contribution, at a place. -/
theorem half_apply (h : Vec Ideal S1024x2048 .bf16) (g u : Vec Ideal S1x2048x256 .bf16) (d : Vec Ideal S256x2048 .bf16) (r : Fin 1024) (j : Fin 2048) :
    contrib (F := Ideal) (gated h g u) d (ix2 r j) = ∑ q : Fin 256,
      summand (fun k => h (ix2 r k)) (fun k => g (ix3 0 k q)) (fun k => u (ix3 0 k q)) (d (ix2 q j)) := by
  unfold summand
  unfold contrib gated
  pointwise

/-- One point's step: the chunk's 512 summands added to what the block held. -/
theorem step_apply (c : Dev nD) (t : Fin cfg0.N) (prev : Vec Ideal S1024x2048 .f32) (r : Fin 1024) (j : Fin 2048)
    (h : 1024 * (t.val / 11) + r.val < 8192) :
    (stepAt m c t prev (ix2 r j) : EReal) = (prev (ix2 r j) : EReal)
      + ∑ q ∈ Finset.range 512, term m c ⟨1024 * (t.val / 11) + r.val, h⟩ j (512 * (t.val % 11) + q) := by
  have hf : t.val % 11 < 11 := Nat.mod_lt _ (by decide)
  unfold stepAt step
  have hs : shapeCast S1024x2048 prev shapeCasts_S1024x2048_S1024x2048 = prev := shapeCast_self _ _
  rw [View.ld_unit_zero (S := S1024x2048) hz, View.ld_unit_zero (S := S1024x2048) hz, hs]
  show (contrib (F := Ideal) _ _ (ix2 r j) : EReal) + (contrib (F := Ideal) _ _ (ix2 r j) : EReal) + (prev (ix2 r j) : EReal) = _
  rw [half_apply, half_apply, add_comm]
  refine congrArg ((prev (ix2 r j) : EReal) + ·) ?_
  refine Eq.trans ?_ (Finset.sum_range_add _ 256 256).symm
  rw [Finset.sum_range, Finset.sum_range]
  refine congrArg₂ (· + ·) (Finset.sum_congr rfl fun q _ => ?_) (Finset.sum_congr rfl fun q _ => ?_)
  · have hq : 512 * (t.val % 11) + q.val < 5632 := by omega
    unfold term
    rw [dif_pos hq]
    exact summand_congr (fun k => act_apply m c t r k h) (fun k => ((cols_apply _ k q).1).trans (gate_apply m c t k ⟨q.val, by omega⟩ hq))
      (fun k => ((cols_apply _ k q).1).trans (up_apply m c t k ⟨q.val, by omega⟩ hq)) (((rowsHalf_apply _ q j).1).trans (down_apply m c t ⟨q.val, by omega⟩ j hq))
  · have hq : 512 * (t.val % 11) + (256 + q.val) < 5632 := by omega
    unfold term
    rw [dif_pos hq]
    exact summand_congr (fun k => act_apply m c t r k h) (fun k => ((cols_apply _ k q).2).trans (gate_apply m c t k ⟨256 + q.val, by omega⟩ hq))
      (fun k => ((cols_apply _ k q).2).trans (up_apply m c t k ⟨256 + q.val, by omega⟩ hq)) (((rowsHalf_apply _ q j).2).trans (down_apply m c t ⟨256 + q.val, by omega⟩ j hq))

/-- The residual stream at a place. -/
def streamAt (x : S8192x2048.Idx → EReal) (i : Fin 8192) (j : Fin 2048) : EReal := x (ix2 i j)

/-- After a block's point `f`: the residual stream and the first `512 (f + 1)` summands. -/
theorem acc_apply (c : Dev nD) (b : Fin 8) (r : Fin 1024) (j : Fin 2048) (h : 1024 * b.val + r.val < 8192) (f : ℕ) (hf : f < 11)
    (hn : 11 * b.val + f < cfg0.N) :
    (acc m c (11 * b.val + f) hn (ix2 r j) : EReal) = streamAt (m ((c : Thread nD τ).loc main_arg1)) ⟨1024 * b.val + r.val, h⟩ j
      + ∑ q ∈ Finset.range (512 * (f + 1)), term m c ⟨1024 * b.val + r.val, h⟩ j q := by
  induction f with
  | zero =>
    have h1 : k0_cond1 (grid0.coords ⟨11 * b.val + 0, hn⟩) = 1#1 := (first_iff _).mpr (by show (11 * b.val + 0) % 11 = 0; omega)
    have hd : (11 * b.val + 0) / 11 = b.val := by omega
    have hr : 1024 * ((11 * b.val + 0) / 11) + r.val < 8192 := by omega
    rw [acc_first m c ⟨11 * b.val + 0, hn⟩ h1, step_apply m c ⟨11 * b.val + 0, hn⟩ _ r j hr, rows_apply m c ⟨11 * b.val + 0, hn⟩ h1 r j hr]
    simp only [hd, show (11 * b.val + 0) % 11 = 0 by omega]
    simp only [Nat.mul_zero, Nat.zero_add, Nat.mul_one]
    rfl
  | succ f ih =>
    have h1 : ¬k0_cond1 (grid0.coords ⟨11 * b.val + (f + 1), hn⟩) = 1#1 := fun e => by
      have e' : (11 * b.val + (f + 1)) % 11 = 0 := (first_iff _).mp e
      omega
    have hd : (11 * b.val + (f + 1)) / 11 = b.val := by omega
    have hr : 1024 * ((11 * b.val + (f + 1)) / 11) + r.val < 8192 := by omega
    rw [acc_later m c ⟨11 * b.val + (f + 1), hn⟩ h1, step_apply m c ⟨11 * b.val + (f + 1), hn⟩ _ r j hr]
    rw [acc_congr m c (n' := 11 * b.val + f) _ (Nat.lt_of_succ_lt hn) (show 11 * b.val + (f + 1) - 1 = 11 * b.val + f by omega), ih (by omega) (Nat.lt_of_succ_lt hn)]
    simp only [hd, show (11 * b.val + (f + 1)) % 11 = f + 1 by omega]
    rw [show 512 * (f + 1 + 1) = 512 * (f + 1) + 512 by ring, Finset.sum_range_add, add_assoc]

/-- The result array: the residual stream and all the summands, at every place. -/
theorem result_eq (c : Dev nD) : result (F := Ideal) m c = fun i => (streamAt (m ((c : Thread nD τ).loc main_arg1)) (i 0) (i 1)
    + ∑ n : Fin 5632, termAt (m ((c : Thread nD τ).loc main_arg0)) (m ((c : Thread nD τ).loc main_arg2)) (m ((c : Thread nD τ).loc main_arg3))
      (m ((c : Thread nD τ).loc main_arg4)) (i 0) (i 1) n : EReal) := by
  funext i
  obtain ⟨a, b, rfl⟩ : ∃ (a : Fin 8192) (b : Fin 2048), i = ix2 a b := ⟨i 0, i 1, eq_ix2 i⟩
  have hl : rowIn (ix2 a b) = ix2 ⟨a.val % 1024, by omega⟩ b := by
    funext x; apply Fin.ext
    match x with
    | ⟨0, _⟩ => rfl
    | ⟨1, _⟩ => rfl
  have ha : 1024 * (a.val / 1024) + a.val % 1024 = a.val := by omega
  have e := acc_apply m c ⟨a.val / 1024, by omega⟩ ⟨a.val % 1024, by omega⟩ b (by dsimp only; omega) 10 (by decide) (last_lt (ix2 a b))
  simp only [ha, Finset.sum_range] at e
  unfold result
  rw [hl]
  refine e.trans ?_
  refine congrArg _ (Finset.sum_congr rfl fun q _ => ?_)
  unfold term
  rw [dif_pos q.isLt]
  rfl

/-- The feed-forward kernel computes the gated network added to the residual stream. -/
theorem algebraic : Cert.algebraic_Kernel2Ideal_Reference2Ideal (hKernel2Ideal := Cert.Kernel2Ideal.Gen.facts)
    (hReference2Ideal := Cert.Reference2Ideal.Gen.facts) := by
  pair_intro
  · run_from (Cert.FfnRun.run m g)
  · run_from (Cert.Reference2Ideal.Value.run m' g')
    rw [result_eq]
    funext i
    idx_vars i
    pointwise
    rfl

end Cert.FfnValue
-- ==== Proof.OutFrames.lean ====
/-
  The output projection's frames: both kernel programs' from one run at any floats, and the reference's.
-/
module

public import proofs.«01_k».proof.Defs
public import proofs.«01_k».proof.Proof.Gen.Kernel3
public import proofs.«01_k».proof.Proof.Gen.Kernel3Ideal.Frame
public import proofs.«01_k».proof.Proof.Gen.Reference3Ideal.Run
public import Idealize.ShloMosaic.Adequacy
public import Idealize.ShloMosaic.Init
public import Idealize.ShloMosaic.Lib.Claim

@[expose] public section

noncomputable section

namespace Cert.OutFrames

open Idealize.ShloMosaic Idealize.SL.Sem

set_option maxRecDepth 65536 in
/-- The two programs' bodies are one. -/
theorem bodies_eq : Cert.Kernel3Ideal.defs₀ (F := Bits) = Cert.Kernel3.defs₀ (F := Bits) := by
  unfold Cert.Kernel3Ideal.defs₀ Cert.Kernel3.defs₀
  refine congrArg (Defs.onTc (nD := Cert.Kernel3.nD) (τ := Cert.Kernel3.τ) (sig := Cert.Kernel3.sig) (Λ := Cert.Kernel3.Λ₀)) ?_
  funext k a
  match k, a with
  | 0, (t, s) => rfl

theorem defs_eq : Cert.Kernel3Ideal.defs (F := Bits) = Cert.Kernel3.defs (F := Bits) :=
  congrArg (Pipeline.defs (Cert.Kernel3.pcfgs (F := Bits))) bodies_eq

theorem main_eq : Cert.Kernel3Ideal.main (F := Bits) = Cert.Kernel3.main (F := Bits) := rfl

/-- The printed kernel's frame: the ideal text's, at bit patterns. -/
theorem kernel : Cert.quiescent_Kernel3 (hKernel3 := Cert.Kernel3.Gen.facts) := fun m g _ => by
  have h := Cert.Kernel3Ideal.Gen.frame (F := Bits) m g
  rw [defs_eq, main_eq] at h
  exact h

/-- The ideal kernel's frame. -/
theorem kernelIdeal : Cert.quiescent_Kernel3Ideal (hKernel3Ideal := Cert.Kernel3Ideal.Gen.facts) := fun m g _ =>
  Cert.Kernel3Ideal.Gen.frame (F := Ideal) m g

/-- The reference's frame: host operations only, and no semaphore. -/
theorem referenceIdeal : Cert.quiescent_Reference3Ideal (hReference3Ideal := Cert.Reference3Ideal.Gen.facts) := fun m g _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m g)

end Cert.OutFrames

end
-- ==== Proof.OutBlocks.lean ====
/-
  What the output projection's points leave behind: the residual sum and its normalised copy, of the point's rows,
  and the rounded weight that the first point puts in the scratch.
-/
module

public import proofs.«01_k».proof.Proof.Gen.Kernel3Ideal.Value
public import Idealize.ShloMosaic.Lib.Pipeline.Value
public import Idealize.ShloMosaic.Lib.Pointwise
public import Idealize.ShloMosaic.Lib.StableHlo.Run
public import Idealize.ShloMosaic.Lib.Tactic

@[expose] public section

noncomputable section

open Idealize.ShloMosaic Idealize.ShloMosaic.TcCoe Idealize.ShloMosaic.Tactic
open Cert.Kernel3Ideal Cert.Kernel3Ideal.Gen Cert.Kernel3Ideal.Value

namespace Cert.OutBlocks

variable {F : FTy → Type} [FloatOps F]
variable (m : (ℓ : Loc nD τ sig) → Buf (Elt F) ℓ)

theorem hz : (![0, 0] : Fin 2 → Nat) = fun _ => 0 := funext fun a => by fin_cases a <;> rfl

/-- The first point rounds the weight into the scratch and uses it at once. -/
theorem first (c : Dev nD) (t : Fin cfg0.N) (acc) (h0 : t.val % 16 = 0) :
    stAt0 m c t.val t.isLt acc =
      (k0_pay2 (iblk m c 1 t) (iblk m c 0 t) (k0_pay1 (iblk m c 2 t)),
        k0_pay3 (iblk m c 1 t) (iblk m c 0 t) (k0_pay1 (iblk m c 2 t)) (iblk m c 3 t), k0_pay1 (iblk m c 2 t)) := by
  rw [stAt0_A m c t acc h0]
  refine Prod.ext ?_ (Prod.ext ?_ ?_)
  · dsimp only
    unfold out0_A_4
    rw [View.read_writes_eq_canon _ _ _ (fun y => cover0_A_4 (y := y) ..)]
    unfold kernelRun0_A
    dsimp only
    sl_unfold_words
    rw [View.canon_unit_zero hz]
    simp only [View.readAt_eq_ld, (hs0_0 t).read_unread, (hs0_1 t).read_unread, (hs0_2 t).read_unread, View.readCov_unit_zero (S := S2048x2048) _ hz,
      View.ld_unit_zero (S := S512x2048) hz, View.ld_unit_zero (S := S2048x2048) hz, shapeCast_self]
  · dsimp only
    unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.readCov_unit_zero (S := S2048x2048) _ hz,
      View.ld_unit_zero (S := S512x2048) hz, View.ld_unit_zero (S := S2048x2048) hz, View.ld_unit_zero (S := S1x2048) hz, shapeCast_self]
  · dsimp only
    unfold sout0_A_0
    rw [View.read_writes_eq_canon _ _ _ (fun y => scover0_A_0 (y := y) ..)]
    unfold kernelRun0_A
    dsimp only
    sl_unfold_words
    rw [View.canon_unit_zero hz]
    simp only [View.readAt_eq_ld, (hs0_2 t).read_unread, View.ld_unit_zero (S := S2048x2048) hz, shapeCast_self]

/-- Every later point uses the rounded weight that the scratch holds, and leaves it there. -/
theorem later (c : Dev nD) (t : Fin cfg0.N) (acc) (h0 : ¬t.val % 16 = 0) :
    stAt0 m c t.val t.isLt acc =
      (k0_pay2 (iblk m c 1 t) (iblk m c 0 t) acc.2.2, k0_pay3 (iblk m c 1 t) (iblk m c 0 t) acc.2.2 (iblk m c 3 t), acc.2.2) := by
  rw [stAt0_B m c t acc h0]
  refine Prod.ext ?_ (Prod.ext ?_ ?_)
  · dsimp only
    unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (Memref.isWhole_whole scM0_0.view.ref).read_unread,
      View.ld_unit_zero (S := S512x2048) hz, View.ld_unit_zero (S := S2048x2048) hz, shapeCast_self]
  · dsimp only
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_3 t).read_unread, (Memref.isWhole_whole scM0_0.view.ref).read_unread,
      View.ld_unit_zero (S := S512x2048) hz, View.ld_unit_zero (S := S2048x2048) hz, View.ld_unit_zero (S := S1x2048) hz, shapeCast_self]
  · rfl

/-- Which block of its array each window reads at a point: the point's rows of the two activations, the whole weight
    and the whole gain. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A block of the merged branches is the point's rows of the array. -/
theorem merged_apply (c : Dev nD) (t : Fin cfg0.N) (r : Fin 512) (k : Fin 2048) (h : 512 * t.val + r.val < 8192) :
    iblk m c 0 t (ix2 r k) = truncf .bf16 (m ((c : Thread nD τ).loc main_arg0) : (⟨S8192x2048, .f32⟩ : BufTy).Contents (Elt F)) bitsLt_bf16_f32
      (ix2 ⟨512 * t.val + r.val, h⟩ k) := by
  obtain ⟨e0, e1, -⟩ := block_index t
  have hV : V m c main_v0 = truncf .bf16 (m ((c : Thread nD τ).loc main_arg0) : (⟨S8192x2048, .f32⟩ : BufTy).Contents (Elt F)) bitsLt_bf16_f32 := by
    unfold V; after_results
  show V m c main_v0 (((cfg0.win 0).blk t).view.emb (ix2 r k)) = _
  rw [hV]
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

/-- The gain's block is the gain, as one row. -/
theorem gain_apply (c : Dev nD) (t : Fin cfg0.N) (k : Fin 2048) :
    iblk m c 3 t (ix2 0 k) = m ((c : Thread nD τ).loc main_arg3) (ix1 k) := by
  obtain ⟨-, -, -, -, -, -, e0, e1⟩ := block_index t
  have hV : V m c main_v1 = broadcastInDim S1x2048 ![1] bcast_S2048_S1x2048_1 (m ((c : Thread nD τ).loc main_arg3) : (⟨S2048, .f32⟩ : BufTy).Contents (Elt F)) := by
    unfold V; after_results
  show V m c main_v1 (((cfg0.win 3).blk t).view.emb (ix2 0 k)) = _
  rw [hV]
  refine congrArg (m ((c : Thread nD τ).loc main_arg3)) (funext fun a => Fin.ext ?_)
  match a with
  | ⟨0, _⟩ => show win0_3.index t (1 : Fin 2) * 2048 + 1 * k.val = k.val; omega

/-- A block of the residual stream is the point's rows of the array. -/
theorem stream_apply (c : Dev nD) (t : Fin cfg0.N) (r : Fin 512) (k : Fin 2048) (h : 512 * t.val + r.val < 8192) :
    iblk m c 1 t (ix2 r k) = m ((c : Thread nD τ).loc main_arg1) (ix2 ⟨512 * t.val + r.val, h⟩ k) := by
  obtain ⟨-, -, e0, e1, -⟩ := block_index t
  have hV : V m c main_arg1 = m ((c : Thread nD τ).loc main_arg1) := by unfold V; after_results
  show V m c main_arg1 (((cfg0.win 1).blk t).view.emb (ix2 r k)) = _
  rw [hV]
  refine congrArg (m ((c : Thread nD τ).loc main_arg1)) (funext fun a => Fin.ext ?_)
  match a with
  | ⟨0, _⟩ => show win0_1.index t (0 : Fin 2) * 512 + 1 * r.val = 512 * t.val + r.val; omega
  | ⟨1, _⟩ => show win0_1.index t (1 : Fin 2) * 2048 + 1 * k.val = k.val; omega

/-- The weight's block is the whole weight. -/
theorem weight_eq (c : Dev nD) (t : Fin cfg0.N) : iblk m c 2 t = m ((c : Thread nD τ).loc main_arg2) := by
  obtain ⟨-, -, -, -, e0, e1, -⟩ := block_index t
  have hV : V m c main_arg2 = m ((c : Thread nD τ).loc main_arg2) := by unfold V; after_results
  funext y
  show V m c main_arg2 (((cfg0.win 2).blk t).view.emb y) = _
  rw [hV]
  refine congrArg (m ((c : Thread nD τ).loc main_arg2)) (funext fun a => Fin.ext ?_)
  match a with
  | ⟨0, _⟩ => show win0_2.index t (0 : Fin 2) * 2048 + 1 * (y 0).val = (y 0).val; omega
  | ⟨1, _⟩ => show win0_2.index t (1 : Fin 2) * 2048 + 1 * (y 1).val = (y 1).val; omega

/-- After every point: the block's sum, its normalised copy, and the rounded weight. -/
theorem sweep (c : Dev nD) (n : ℕ) (hn : 0 + n < cfg0.N) :
    Pipeline.accAt (fun n h => stAt0 m c n h junk0) (stAt0 m c) 0 n hn =
      (k0_pay2 (iblk m c 1 ⟨0 + n, hn⟩) (iblk m c 0 ⟨0 + n, hn⟩) (k0_pay1 (m ((c : Thread nD τ).loc main_arg2))),
        k0_pay3 (iblk m c 1 ⟨0 + n, hn⟩) (iblk m c 0 ⟨0 + n, hn⟩) (k0_pay1 (m ((c : Thread nD τ).loc main_arg2))) (iblk m c 3 ⟨0 + n, hn⟩), k0_pay1 (m ((c : Thread nD τ).loc main_arg2))) := by
  induction n with
  | zero =>
    rw [← weight_eq m c ⟨0, hn⟩]
    exact first m c ⟨0, hn⟩ junk0 rfl
  | succ n ih =>
    have hN : cfg0.N = 16 := N_0
    rw [Pipeline.accAt_succ, ih (by omega)]
    exact later m c ⟨0 + (n + 1), hn⟩ _ (by simp only []; omega)

end Cert.OutBlocks
-- ==== Proof.OutValue.lean ====
/-
  The output projection's value: the two result arrays are the residual sum and its normalised copy, element by
  element, over the extended reals.
-/
module

public import proofs.«01_k».proof.Defs
public import proofs.«01_k».proof.Proof.OutBlocks
public import proofs.«01_k».proof.Proof.Gen.Reference3Ideal.Run
public import Idealize.ShloMosaic.Lib.Claim

@[expose] public section

set_option maxRecDepth 16384

noncomputable section

open Idealize.ShloMosaic Idealize.ShloMosaic.TcCoe Idealize.ShloMosaic.Tactic
open Cert.Kernel3Ideal Cert.Kernel3Ideal.Gen Cert.Kernel3Ideal.Value

namespace Cert.OutValue

variable (m : (ℓ : Loc nD τ sig) → Buf (Elt Ideal) ℓ)

/-- The residual sum at one place. -/
def sumAt (x : S8192x2048.Idx → EReal) (a : S8192x2048.Idx → EReal) (w : S2048x2048.Idx → EReal) (i : Fin 8192) (j : Fin 2048) : EReal :=
  x (ix2 i j) + ∑ k : Fin 2048, a (ix2 i k) * w (ix2 k j)

theorem sum_apply (c : Dev nD) (t : Fin cfg0.N) (r : Fin 512) (j : Fin 2048) (h : 512 * t.val + r.val < 8192) :
    k0_pay2 (F := Ideal) (iblk m c 1 t) (iblk m c 0 t) (k0_pay1 (m ((c : Thread nD τ).loc main_arg2))) (ix2 r j) =
      sumAt (m ((c : Thread nD τ).loc main_arg1)) (m ((c : Thread nD τ).loc main_arg0)) (m ((c : Thread nD τ).loc main_arg2))
        ⟨512 * t.val + r.val, h⟩ j := by
  unfold k0_pay2 k0_pay1
  pointwise
  rw [OutBlocks.stream_apply m c t r j h]
  refine congrArg _ (Finset.sum_congr rfl fun k _ => ?_)
  rw [OutBlocks.merged_apply m c t r k h]
  rfl

/-- The sum times the inverse root mean square of its row, times the gain. -/
def normAt (x : S8192x2048.Idx → EReal) (a : S8192x2048.Idx → EReal) (w : S2048x2048.Idx → EReal) (g : S2048.Idx → EReal)
    (i : Fin 8192) (j : Fin 2048) : EReal :=
  sumAt x a w i j * Ideal.rsqrt (Ideal.div (∑ k : Fin 2048, sumAt x a w i k * sumAt x a w i k) (Ideal.ofBits .f32 1157627904#32)
    + Ideal.ofBits .f32 897988541#32) * g (ix1 j)

theorem norm_apply (c : Dev nD) (t : Fin cfg0.N) (r : Fin 512) (j : Fin 2048) (h : 512 * t.val + r.val < 8192) :
    k0_pay3 (F := Ideal) (iblk m c 1 t) (iblk m c 0 t) (k0_pay1 (m ((c : Thread nD τ).loc main_arg2))) (iblk m c 3 t) (ix2 r j) =
      normAt (m ((c : Thread nD τ).loc main_arg1)) (m ((c : Thread nD τ).loc main_arg0)) (m ((c : Thread nD τ).loc main_arg2))
        (m ((c : Thread nD τ).loc main_arg3)) ⟨512 * t.val + r.val, h⟩ j := by
  unfold k0_pay3
  pointwise
  simp only [sum_apply m c t r _ h]
  rw [OutBlocks.gain_apply m c t j]
  rfl

/-- The first result array: the residual sum at every place. -/
theorem result0 (c : Dev nD) : G4 (F := Ideal) m c = fun i => sumAt (m ((c : Thread nD τ).loc main_arg1))
    (m ((c : Thread nD τ).loc main_arg0)) (m ((c : Thread nD τ).loc main_arg2)) (i 0) (i 1) := by
  funext i
  obtain ⟨a, b, rfl⟩ : ∃ (a : Fin 8192) (b : Fin 2048), i = ix2 a b := ⟨i 0, i 1, eq_ix2 i⟩
  have hN : cfg0.N = 16 := N_0
  have hp : pt4Of (ix2 a b) = a.val / 512 := by
    show 1 * (a.val / 512 - 0) + 1 * (b.val / 2048 - 0) = _; omega
  have hl : loc4Of (ix2 a b) = ix2 ⟨a.val % 512, by omega⟩ b := by
    funext x; apply Fin.ext
    match x with
    | ⟨0, _⟩ => rfl
    | ⟨1, _⟩ => show b.val % 2048 = b.val; omega
  unfold G4
  rw [dif_pos (by omega), OutBlocks.sweep, hl]
  dsimp only
  rw [sum_apply m c _ _ _ (by dsimp only; omega)]
  show sumAt _ _ _ _ _ = sumAt _ _ _ a b
  congr 1
  apply Fin.ext
  dsimp only
  omega

/-- The second result array: the normalised sum at every place. -/
theorem result1 (c : Dev nD) : G5 (F := Ideal) m c = fun i => normAt (m ((c : Thread nD τ).loc main_arg1))
    (m ((c : Thread nD τ).loc main_arg0)) (m ((c : Thread nD τ).loc main_arg2)) (m ((c : Thread nD τ).loc main_arg3)) (i 0) (i 1) := by
  funext i
  obtain ⟨a, b, rfl⟩ : ∃ (a : Fin 8192) (b : Fin 2048), i = ix2 a b := ⟨i 0, i 1, eq_ix2 i⟩
  have hN : cfg0.N = 16 := N_0
  have hp : pt5Of (ix2 a b) = a.val / 512 := by
    show 1 * (a.val / 512 - 0) + 1 * (b.val / 2048 - 0) = _; omega
  have hl : loc5Of (ix2 a b) = ix2 ⟨a.val % 512, by omega⟩ b := by
    funext x; apply Fin.ext
    match x with
    | ⟨0, _⟩ => rfl
    | ⟨1, _⟩ => show b.val % 2048 = b.val; omega
  unfold G5
  rw [dif_pos (by omega), OutBlocks.sweep, hl]
  dsimp only
  rw [norm_apply m c _ _ _ (by dsimp only; omega)]
  show normAt _ _ _ _ _ _ = normAt _ _ _ _ a b
  congr 1
  apply Fin.ext
  dsimp only
  omega

/-- The output projection computes the residual sum and its normalised copy. -/
theorem algebraic : Cert.algebraic_Kernel3Ideal_Reference3Ideal (hKernel3Ideal := Cert.Kernel3Ideal.Gen.facts)
    (hReference3Ideal := Cert.Reference3Ideal.Gen.facts) := by
  pair_intro
  · run_from (Cert.Kernel3Ideal.Value.run m g)
  · run_from (Cert.Reference3Ideal.Value.run m' g')
    · rw [result0]
      funext i
      idx_vars i
      pointwise
      rfl
    · rw [result1]
      funext i
      idx_vars i
      pointwise
      rfl

end Cert.OutValue
-- ==== Proof.MergeFrames.lean ====
/-
  The gated merge's frames: both kernel programs' from one run at any floats, and the reference's.
-/
module

public import proofs.«01_k».proof.Defs
public import proofs.«01_k».proof.Proof.Gen.Kernel4
public import proofs.«01_k».proof.Proof.Gen.Kernel4Ideal.Frame
public import proofs.«01_k».proof.Proof.Gen.Reference4Ideal.Run
public import Idealize.ShloMosaic.Adequacy
public import Idealize.ShloMosaic.Init
public import Idealize.ShloMosaic.Lib.Claim

@[expose] public section

noncomputable section

namespace Cert.MergeFrames

open Idealize.ShloMosaic Idealize.SL.Sem

set_option maxRecDepth 65536 in
set_option maxHeartbeats 4000000 in
/-- The two programs' bodies are one. -/
theorem bodies_eq : Cert.Kernel4Ideal.defs₀ (F := Bits) = Cert.Kernel4.defs₀ (F := Bits) := by
  unfold Cert.Kernel4Ideal.defs₀ Cert.Kernel4.defs₀
  refine congrArg (Defs.onTc (nD := Cert.Kernel4.nD) (τ := Cert.Kernel4.τ) (sig := Cert.Kernel4.sig) (Λ := Cert.Kernel4.Λ₀)) ?_
  funext k a
  match k, a with
  | 0, (t, s) => rfl

theorem defs_eq : Cert.Kernel4Ideal.defs (F := Bits) = Cert.Kernel4.defs (F := Bits) :=
  congrArg (Pipeline.defs (Cert.Kernel4.pcfgs (F := Bits))) bodies_eq

theorem main_eq : Cert.Kernel4Ideal.main (F := Bits) = Cert.Kernel4.main (F := Bits) := rfl

/-- The printed kernel's frame: the ideal text's, at bit patterns. -/
theorem kernel : Cert.quiescent_Kernel4 (hKernel4 := Cert.Kernel4.Gen.facts) := fun m g _ => by
  have h := Cert.Kernel4Ideal.Gen.frame (F := Bits) m g
  rw [defs_eq, main_eq] at h
  exact h

/-- The ideal kernel's frame. -/
theorem kernelIdeal : Cert.quiescent_Kernel4Ideal (hKernel4Ideal := Cert.Kernel4Ideal.Gen.facts) := fun m g _ =>
  Cert.Kernel4Ideal.Gen.frame (F := Ideal) m g

/-- The reference's frame: host operations only, and no semaphore. -/
theorem referenceIdeal : Cert.quiescent_Reference4Ideal (hReference4Ideal := Cert.Reference4Ideal.Gen.facts) := fun m g _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m g)

end Cert.MergeFrames

end
-- ==== Proof.MergeBlocks.lean ====
/-
  What the gated merge's points leave behind: the merged block of the point's rows and columns, and the two rounded
  projection weights that the first point of each block of columns puts in the scratch.
-/
module

public import proofs.«01_k».proof.Proof.Gen.Kernel4Ideal.Value
public import Idealize.ShloMosaic.Lib.Pipeline.Value
public import Idealize.ShloMosaic.Lib.Pointwise
public import Idealize.ShloMosaic.Lib.StableHlo.Run
public import Idealize.ShloMosaic.Lib.Tactic

@[expose] public section

noncomputable section

open Idealize.ShloMosaic Idealize.ShloMosaic.TcCoe Idealize.ShloMosaic.Tactic
open Cert.Kernel4Ideal Cert.Kernel4Ideal.Gen Cert.Kernel4Ideal.Value

namespace Cert.MergeBlocks

variable {F : FTy → Type} [FloatOps F]
variable (m : (ℓ : Loc nD τ sig) → Buf (Elt F) ℓ)

theorem hz : (![0, 0] : Fin 2 → Nat) = fun _ => 0 := funext fun a => by fin_cases a <;> rfl

/-- The merged block of a point whose scratch holds the weights `wa` and `wb`. -/
abbrev merged (c : Dev nD) (t : Fin cfg0.N) (wa wb : Vec F S1024x1024 .bf16) : Vec F S512x1024 .bf16 :=
  k0_pay28 (iblk m c 0 t) (iblk m c 3 t) (iblk m c 1 t) wa (iblk m c 4 t) (iblk m c 2 t) wb

/-- The first point of a block of columns rounds its weights into the scratch and uses them at once. -/
theorem first (c : Dev nD) (t : Fin cfg0.N) (acc) (h0 : t.val % 16 = 0) :
    (stAt0 m c t.val t.isLt acc).1 = merged m c t (k0_pay1 (iblk m c 5 t)) (k0_pay2 (iblk m c 6 t))
      ∧ (stAt0 m c t.val t.isLt acc).2.2.2.2 = (k0_pay1 (iblk m c 5 t), k0_pay2 (iblk m c 6 t)) := by
  rw [stAt0_A m c t acc h0]
  refine ⟨?_, Prod.ext ?_ ?_⟩
  · dsimp only
    unfold out0_A_10
    rw [View.read_writes_eq_canon _ _ _ (fun y => cover0_A_10 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.readCov_unit_zero (S := S1024x1024) _ hz,
      View.ld_unit_zero (S := S512x2048) hz, View.ld_unit_zero (S := S512x1024) hz, View.ld_unit_zero (S := S2048x1024) hz,
      View.ld_unit_zero (S := S1024x1024) hz, shapeCast_self]
  · dsimp only
    unfold sout0_A_0
    rw [View.read_writes_eq_canon _ _ _ (fun y => scover0_A_0 (y := y) ..)]
    unfold kernelRun0_A
    dsimp only
    sl_unfold_words
    rw [View.canon_unit_zero hz]
    simp only [View.readAt_eq_ld, (hs0_5 t).read_unread, View.ld_unit_zero (S := S1024x1024) hz, shapeCast_self]
  · dsimp only
    unfold sout0_A_1
    rw [View.read_writes_eq_canon _ _ _ (fun y => scover0_A_1 (y := y) ..)]
    unfold kernelRun0_A
    dsimp only
    sl_unfold_words
    rw [View.canon_unit_zero hz]
    simp only [View.readAt_eq_ld, (hs0_6 t).read_unread, View.ld_unit_zero (S := S1024x1024) hz, shapeCast_self]

/-- Every later point uses the weights that the scratch holds, and leaves them there. -/
theorem later (c : Dev nD) (t : Fin cfg0.N) (acc) (h0 : ¬t.val % 16 = 0) :
    (stAt0 m c t.val t.isLt acc).1 = merged m c t acc.2.2.2.2.1 acc.2.2.2.2.2
      ∧ (stAt0 m c t.val t.isLt acc).2.2.2.2 = acc.2.2.2.2 := by
  rw [stAt0_B m c t acc h0]
  refine ⟨?_, rfl⟩
  dsimp only
  unfold out0_B_10
  rw [View.read_writes_eq_canon _ _ _ (fun y => cover0_B_10 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    (Memref.isWhole_whole scM0_0.view.ref).read_unread, (Memref.isWhole_whole scM0_1.view.ref).read_unread,
    View.ld_unit_zero (S := S512x2048) hz, View.ld_unit_zero (S := S512x1024) hz, View.ld_unit_zero (S := S2048x1024) hz,
    View.ld_unit_zero (S := S1024x1024) hz, shapeCast_self]

/-- Which block of its array each window reads at a point. -/
theorem block_index : ∀ t : Fin cfg0.N, (win0_0.index t (0 : Fin 2) = t.val % 16 ∧ win0_0.index t (1 : Fin 2) = 0)
    ∧ (win0_1.index t (0 : Fin 2) = t.val % 16 ∧ win0_1.index t (1 : Fin 2) = 0)
    ∧ (win0_2.index t (0 : Fin 2) = t.val % 16 ∧ win0_2.index t (1 : Fin 2) = 0)
    ∧ (win0_3.index t (0 : Fin 2) = 0 ∧ win0_3.index t (1 : Fin 2) = 2 + t.val / 16)
    ∧ (win0_4.index t (0 : Fin 2) = 0 ∧ win0_4.index t (1 : Fin 2) = 4 + t.val / 16)
    ∧ (win0_5.index t (0 : Fin 2) = 0 ∧ win0_5.index t (1 : Fin 2) = t.val / 16)
    ∧ (win0_6.index t (0 : Fin 2) = 0 ∧ win0_6.index t (1 : Fin 2) = t.val / 16) :=
  (by decide +kernel : ∀ t : Fin grid0.N, _)

/-- A block of the normalised activations is the point's rows of the array. -/
theorem act_apply (c : Dev nD) (t : Fin cfg0.N) (r : Fin 512) (k : Fin 2048) (h : 512 * (t.val % 16) + r.val < 8192) :
    iblk m c 0 t (ix2 r k) = truncf .bf16 (m ((c : Thread nD τ).loc main_arg0) : (⟨S8192x2048, .f32⟩ : BufTy).Contents (Elt F)) bitsLt_bf16_f32
      (ix2 ⟨512 * (t.val % 16) + r.val, h⟩ k) := by
  obtain ⟨e0, e1⟩ := (block_index t).1
  have hV : V m c main_v0 = truncf .bf16 (m ((c : Thread nD τ).loc main_arg0) : (⟨S8192x2048, .f32⟩ : BufTy).Contents (Elt F)) bitsLt_bf16_f32 := by
    unfold V; after_results
  show V m c main_v0 (((cfg0.win 0).blk t).view.emb (ix2 r k)) = _
  rw [hV]
  refine congrArg _ (funext fun a => Fin.ext ?_)
  match a with
  | ⟨0, _⟩ => show win0_0.index t (0 : Fin 2) * 512 + 1 * r.val = 512 * (t.val % 16) + r.val; omega
  | ⟨1, _⟩ => show win0_0.index t (1 : Fin 2) * 2048 + 1 * k.val = k.val; omega

/-- A block of the first branch is the point's rows of the array. -/
theorem branchA_apply (c : Dev nD) (t : Fin cfg0.N) (r : Fin 512) (k : Fin 1024) (h : 512 * (t.val % 16) + r.val < 8192) :
    iblk m c 1 t (ix2 r k) = truncf .bf16 (m ((c : Thread nD τ).loc main_arg1) : (⟨S8192x1024, .f32⟩ : BufTy).Contents (Elt F)) bitsLt_bf16_f32
      (ix2 ⟨512 * (t.val % 16) + r.val, h⟩ k) := by
  obtain ⟨e0, e1⟩ := (block_index t).2.1
  have hV : V m c main_v1 = truncf .bf16 (m ((c : Thread nD τ).loc main_arg1) : (⟨S8192x1024, .f32⟩ : BufTy).Contents (Elt F)) bitsLt_bf16_f32 := by
    unfold V; after_results
  show V m c main_v1 (((cfg0.win 1).blk t).view.emb (ix2 r k)) = _
  rw [hV]
  refine congrArg _ (funext fun a => Fin.ext ?_)
  match a with
  | ⟨0, _⟩ => show win0_1.index t (0 : Fin 2) * 512 + 1 * r.val = 512 * (t.val % 16) + r.val; omega
  | ⟨1, _⟩ => show win0_1.index t (1 : Fin 2) * 1024 + 1 * k.val = k.val; omega

/-- A block of the second branch is the point's rows of the array. -/
theorem branchB_apply (c : Dev nD) (t : Fin cfg0.N) (r : Fin 512) (k : Fin 1024) (h : 512 * (t.val % 16) + r.val < 8192) :
    iblk m c 2 t (ix2 r k) = truncf .bf16 (m ((c : Thread nD τ).loc main_arg2) : (⟨S8192x1024, .f32⟩ : BufTy).Contents (Elt F)) bitsLt_bf16_f32
      (ix2 ⟨512 * (t.val % 16) + r.val, h⟩ k) := by
  obtain ⟨e0, e1⟩ := (block_index t).2.2.1
  have hV : V m c main_v2 = truncf .bf16 (m ((c : Thread nD τ).loc main_arg2) : (⟨S8192x1024, .f32⟩ : BufTy).Contents (Elt F)) bitsLt_bf16_f32 := by
    unfold V; after_results
  show V m c main_v2 (((cfg0.win 2).blk t).view.emb (ix2 r k)) = _
  rw [hV]
  refine congrArg _ (funext fun a => Fin.ext ?_)
  match a with
  | ⟨0, _⟩ => show win0_2.index t (0 : Fin 2) * 512 + 1 * r.val = 512 * (t.val % 16) + r.val; omega
  | ⟨1, _⟩ => show win0_2.index t (1 : Fin 2) * 1024 + 1 * k.val = k.val; omega

/-- A block of the first gate's weight is the point's columns of the array, from the third sixth on. -/
theorem gateA_apply (c : Dev nD) (t : Fin cfg0.N) (k : Fin 2048) (j : Fin 1024) (h : 2048 + (1024 * (t.val / 16) + j.val) < 6144) :
    iblk m c 3 t (ix2 k j) = truncf .bf16 (m ((c : Thread nD τ).loc main_arg3) : (⟨S2048x6144, .f32⟩ : BufTy).Contents (Elt F)) bitsLt_bf16_f32
      (ix2 k ⟨2048 + (1024 * (t.val / 16) + j.val), h⟩) := by
  obtain ⟨e0, e1⟩ := (block_index t).2.2.2.1
  have hV : V m c main_v3 = truncf .bf16 (m ((c : Thread nD τ).loc main_arg3) : (⟨S2048x6144, .f32⟩ : BufTy).Contents (Elt F)) bitsLt_bf16_f32 := by
    unfold V; after_results
  show V m c main_v3 (((cfg0.win 3).blk t).view.emb (ix2 k j)) = _
  rw [hV]
  refine congrArg _ (funext fun a => Fin.ext ?_)
  match a with
  | ⟨0, _⟩ => show win0_3.index t (0 : Fin 2) * 2048 + 1 * k.val = k.val; omega
  | ⟨1, _⟩ => show win0_3.index t (1 : Fin 2) * 1024 + 1 * j.val = 2048 + (1024 * (t.val / 16) + j.val); omega

/-- A block of the second gate's weight is the point's columns of the array, from the fifth sixth on. -/
theorem gateB_apply (c : Dev nD) (t : Fin cfg0.N) (k : Fin 2048) (j : Fin 1024) (h : 4096 + (1024 * (t.val / 16) + j.val) < 6144) :
    iblk m c 4 t (ix2 k j) = truncf .bf16 (m ((c : Thread nD τ).loc main_arg3) : (⟨S2048x6144, .f32⟩ : BufTy).Contents (Elt F)) bitsLt_bf16_f32
      (ix2 k ⟨4096 + (1024 * (t.val / 16) + j.val), h⟩) := by
  obtain ⟨e0, e1⟩ := (block_index t).2.2.2.2.1
  have hV : V m c main_v3 = truncf .bf16 (m ((c : Thread nD τ).loc main_arg3) : (⟨S2048x6144, .f32⟩ : BufTy).Contents (Elt F)) bitsLt_bf16_f32 := by
    unfold V; after_results
  show V m c main_v3 (((cfg0.win 4).blk t).view.emb (ix2 k j)) = _
  rw [hV]
  refine congrArg _ (funext fun a => Fin.ext ?_)
  match a with
  | ⟨0, _⟩ => show win0_4.index t (0 : Fin 2) * 2048 + 1 * k.val = k.val; omega
  | ⟨1, _⟩ => show win0_4.index t (1 : Fin 2) * 1024 + 1 * j.val = 4096 + (1024 * (t.val / 16) + j.val); omega

/-- A block of the first branch's weight is the point's columns of the array. -/
theorem projA_apply (c : Dev nD) (t : Fin cfg0.N) (k j : Fin 1024) (h : 1024 * (t.val / 16) + j.val < 2048) :
    iblk m c 5 t (ix2 k j) = m ((c : Thread nD τ).loc main_arg4) (ix2 k ⟨1024 * (t.val / 16) + j.val, h⟩) := by
  obtain ⟨e0, e1⟩ := (block_index t).2.2.2.2.2.1
  have hV : V m c main_arg4 = m ((c : Thread nD τ).loc main_arg4) := by unfold V; after_results
  show V m c main_arg4 (((cfg0.win 5).blk t).view.emb (ix2 k j)) = _
  rw [hV]
  refine congrArg (m ((c : Thread nD τ).loc main_arg4)) (funext fun a => Fin.ext ?_)
  match a with
  | ⟨0, _⟩ => show win0_5.index t (0 : Fin 2) * 1024 + 1 * k.val = k.val; omega
  | ⟨1, _⟩ => show win0_5.index t (1 : Fin 2) * 1024 + 1 * j.val = 1024 * (t.val / 16) + j.val; omega

/-- A block of the second branch's weight is the point's columns of the array. -/
theorem projB_apply (c : Dev nD) (t : Fin cfg0.N) (k j : Fin 1024) (h : 1024 * (t.val / 16) + j.val < 2048) :
    iblk m c 6 t (ix2 k j) = m ((c : Thread nD τ).loc main_arg5) (ix2 k ⟨1024 * (t.val / 16) + j.val, h⟩) := by
  obtain ⟨e0, e1⟩ := (block_index t).2.2.2.2.2.2
  have hV : V m c main_arg5 = m ((c : Thread nD τ).loc main_arg5) := by unfold V; after_results
  show V m c main_arg5 (((cfg0.win 6).blk t).view.emb (ix2 k j)) = _
  rw [hV]
  refine congrArg (m ((c : Thread nD τ).loc main_arg5)) (funext fun a => Fin.ext ?_)
  match a with
  | ⟨0, _⟩ => show win0_6.index t (0 : Fin 2) * 1024 + 1 * k.val = k.val; omega
  | ⟨1, _⟩ => show win0_6.index t (1 : Fin 2) * 1024 + 1 * j.val = 1024 * (t.val / 16) + j.val; omega

/-- The points of one block of columns see one block of each branch's weight. -/
theorem projA_same (c : Dev nD) (t t' : Fin cfg0.N) (h : t.val / 16 = t'.val / 16) : iblk m c 5 t = iblk m c 5 t' := by
  have hN : cfg0.N = 32 := N_0
  funext y
  obtain ⟨k, j, rfl⟩ : ∃ (k j : Fin 1024), y = ix2 k j := ⟨y 0, y 1, eq_ix2 y⟩
  rw [projA_apply m c t k j (by omega), projA_apply m c t' k j (by omega)]
  simp only [h]

theorem projB_same (c : Dev nD) (t t' : Fin cfg0.N) (h : t.val / 16 = t'.val / 16) : iblk m c 6 t = iblk m c 6 t' := by
  have hN : cfg0.N = 32 := N_0
  funext y
  obtain ⟨k, j, rfl⟩ : ∃ (k j : Fin 1024), y = ix2 k j := ⟨y 0, y 1, eq_ix2 y⟩
  rw [projB_apply m c t k j (by omega), projB_apply m c t' k j (by omega)]
  simp only [h]

/-- After every point: the merged block, and the rounded weights of its block of columns. -/
theorem sweep (c : Dev nD) (n : ℕ) (hn : 0 + n < cfg0.N) :
    (Pipeline.accAt (fun n h => stAt0 m c n h junk0) (stAt0 m c) 0 n hn).1 =
        merged m c ⟨0 + n, hn⟩ (k0_pay1 (iblk m c 5 ⟨0 + n, hn⟩)) (k0_pay2 (iblk m c 6 ⟨0 + n, hn⟩))
      ∧ (Pipeline.accAt (fun n h => stAt0 m c n h junk0) (stAt0 m c) 0 n hn).2.2.2.2 =
        (k0_pay1 (iblk m c 5 ⟨0 + n, hn⟩), k0_pay2 (iblk m c 6 ⟨0 + n, hn⟩)) := by
  induction n with
  | zero => exact first m c ⟨0, hn⟩ junk0 rfl
  | succ n ih =>
    rw [Pipeline.accAt_succ]
    by_cases h0 : (0 + (n + 1)) % 16 = 0
    · exact first m c ⟨0 + (n + 1), hn⟩ _ h0
    · have e : (⟨0 + n, by omega⟩ : Fin cfg0.N).val / 16 = (⟨0 + (n + 1), hn⟩ : Fin cfg0.N).val / 16 := by dsimp only; omega
      have hl := later m c ⟨0 + (n + 1), hn⟩ (Pipeline.accAt (fun n h => stAt0 m c n h junk0) (stAt0 m c) 0 n (by omega)) h0
      rw [(ih (by omega)).2, projA_same m c _ _ e, projB_same m c _ _ e] at hl
      exact hl

end Cert.MergeBlocks
-- ==== Proof.MergeChunks.lean ====
/-
  The feed-forward weights beside the gated merge: each point rounds its rows of the three weights, the gate's and the up
  projection's into chunks of 512 columns.
-/
module

public import proofs.«01_k».proof.Proof.MergeBlocks
public import Idealize.ShloMosaic.Lib.Pipeline.ValueKit.Tiles
public import Idealize.ShloMosaic.Lib.IdealHost

@[expose] public section

set_option maxRecDepth 16384

noncomputable section

open Idealize.ShloMosaic Idealize.ShloMosaic.TcCoe Idealize.ShloMosaic.Tactic
open Cert.Kernel4Ideal Cert.Kernel4Ideal.Gen Cert.Kernel4Ideal.Value

namespace Cert.MergeChunks

open MergeBlocks (hz)

variable (m : (ℓ : Loc nD τ sig) → Buf (Elt Ideal) ℓ)

/-- Two names of one place among the columns `512 a + s`. -/
theorem columns_value {R : ℕ} (v : (⟨2, ![R, 5632]⟩ : Shape).Idx → EReal) (a : Fin 11) (r : Fin R) (s : Fin 512) (i : Fin R) (j : Fin 5632)
    (hi : i.val = r.val) (hj : j.val = 512 * a.val + s.val) : v (ix2 i j) = v (ix2 r ⟨512 * a.val + s.val, by omega⟩) := by
  congr 1
  rw [ix2_inj]
  exact ⟨Fin.ext hi, Fin.ext hj⟩

/-- A covered place's value, with the cover at hand. -/
theorem canon_of {S : Shape} {e : EltTy} {L : List (View.Piece (Elt Ideal) S e)} {y : S.Idx} {v : Elt Ideal e} (hc : ∃ p ∈ L, y ∈ p.1.set)
    (k : (∃ p ∈ L, y ∈ p.1.set) → View.canon L y = v) : View.canon L y = v := k hc

set_option maxHeartbeats 4000000 in
/-- The first point of a block of columns hands on its rows of the gate's weight, in chunks. -/
theorem gate_A (c : Dev nD) (t : Fin cfg0.N) (acc) (h0 : t.val % 16 = 0) (a : Fin 11) (r : Fin 64) (s : Fin 512) :
    ((stAt0 m c t.val t.isLt acc).2.1 (ix3 a r s) : EReal) = iblk m c 7 t (ix2 r ⟨512 * a.val + s.val, by omega⟩) := by
  rw [stAt0_A m c t acc h0]
  dsimp only
  unfold out0_A_11
  rw [View.read_writes_eq_canon _ _ _ (fun y => cover0_A_11 (y := y) ..)]
  refine canon_of (cover0_A_11 (y := ix3 a r s) ..) ?_
  unfold kernelRun0_A
  dsimp only
  sl_unfold_words
  simp only [View.readAt_eq_ld, (hs0_7 t).read_unread, View.ld_unit]
  generalize iblk m c 7 t = v
  intro hc
  canon_tiles x h using hc
  all_goals
    clear hc
    replace h0 : a.val = _ := h0
    replace h1 : r.val = _ := h1
    replace h2 : s.val = _ := h2
    open_payloads
    pointwise
    exact columns_value v a r s _ _ (by first | omega | (dsimp only; omega)) (by first | omega | (dsimp only; omega))

set_option maxHeartbeats 4000000 in
/-- A later point hands on its rows of the gate's weight, in chunks. -/
theorem gate_B (c : Dev nD) (t : Fin cfg0.N) (acc) (h0 : ¬t.val % 16 = 0) (a : Fin 11) (r : Fin 64) (s : Fin 512) :
    ((stAt0 m c t.val t.isLt acc).2.1 (ix3 a r s) : EReal) = iblk m c 7 t (ix2 r ⟨512 * a.val + s.val, by omega⟩) := by
  rw [stAt0_B m c t acc h0]
  dsimp only
  unfold out0_B_11
  rw [View.read_writes_eq_canon _ _ _ (fun y => cover0_B_11 (y := y) ..)]
  refine canon_of (cover0_B_11 (y := ix3 a r s) ..) ?_
  unfold kernelRun0_B
  dsimp only
  sl_unfold_words
  simp only [View.readAt_eq_ld, (hs0_7 t).read_unread, View.ld_unit]
  generalize iblk m c 7 t = v
  intro hc
  canon_tiles x h using hc
  all_goals
    clear hc
    replace h0 : a.val = _ := h0
    replace h1 : r.val = _ := h1
    replace h2 : s.val = _ := h2
    open_payloads
    pointwise
    exact columns_value v a r s _ _ (by first | omega | (dsimp only; omega)) (by first | omega | (dsimp only; omega))

set_option maxHeartbeats 4000000 in
/-- The first point of a block of columns hands on its rows of the up projection's weight, in chunks. -/
theorem up_A (c : Dev nD) (t : Fin cfg0.N) (acc) (h0 : t.val % 16 = 0) (a : Fin 11) (r : Fin 64) (s : Fin 512) :
    ((stAt0 m c t.val t.isLt acc).2.2.1 (ix3 a r s) : EReal) = iblk m c 8 t (ix2 r ⟨512 * a.val + s.val, by omega⟩) := by
  rw [stAt0_A m c t acc h0]
  dsimp only
  unfold out0_A_12
  rw [View.read_writes_eq_canon _ _ _ (fun y => cover0_A_12 (y := y) ..)]
  refine canon_of (cover0_A_12 (y := ix3 a r s) ..) ?_
  unfold kernelRun0_A
  dsimp only
  sl_unfold_words
  simp only [View.readAt_eq_ld, (hs0_8 t).read_unread, View.ld_unit]
  generalize iblk m c 8 t = v
  intro hc
  canon_tiles x h using hc
  all_goals
    clear hc
    replace h0 : a.val = _ := h0
    replace h1 : r.val = _ := h1
    replace h2 : s.val = _ := h2
    open_payloads
    pointwise
    exact columns_value v a r s _ _ (by first | omega | (dsimp only; omega)) (by first | omega | (dsimp only; omega))

set_option maxHeartbeats 4000000 in
/-- A later point hands on its rows of the up projection's weight, in chunks. -/
theorem up_B (c : Dev nD) (t : Fin cfg0.N) (acc) (h0 : ¬t.val % 16 = 0) (a : Fin 11) (r : Fin 64) (s : Fin 512) :
    ((stAt0 m c t.val t.isLt acc).2.2.1 (ix3 a r s) : EReal) = iblk m c 8 t (ix2 r ⟨512 * a.val + s.val, by omega⟩) := by
  rw [stAt0_B m c t acc h0]
  dsimp only
  unfold out0_B_12
  rw [View.read_writes_eq_canon _ _ _ (fun y => cover0_B_12 (y := y) ..)]
  refine canon_of (cover0_B_12 (y := ix3 a r s) ..) ?_
  unfold kernelRun0_B
  dsimp only
  sl_unfold_words
  simp only [View.readAt_eq_ld, (hs0_8 t).read_unread, View.ld_unit]
  generalize iblk m c 8 t = v
  intro hc
  canon_tiles x h using hc
  all_goals
    clear hc
    replace h0 : a.val = _ := h0
    replace h1 : r.val = _ := h1
    replace h2 : s.val = _ := h2
    open_payloads
    pointwise
    exact columns_value v a r s _ _ (by first | omega | (dsimp only; omega)) (by first | omega | (dsimp only; omega))

theorem down_A (c : Dev nD) (t : Fin cfg0.N) (acc) (h0 : t.val % 16 = 0) :
    (stAt0 m c t.val t.isLt acc).2.2.2.1 = k0_pay27 (iblk m c 9 t) := by
  rw [stAt0_A m c t acc h0]
  dsimp only
  unfold out0_A_13
  rw [View.read_writes_eq_canon _ _ _ (fun y => cover0_A_13 (y := y) ..)]
  unfold kernelRun0_A
  dsimp only
  sl_unfold_words
  rw [View.canon_unit_zero hz]
  simp only [View.readAt_eq_ld, (hs0_9 t).read_unread, View.ld_unit_zero (S := S176x2048) hz, shapeCast_self]

theorem down_B (c : Dev nD) (t : Fin cfg0.N) (acc) (h0 : ¬t.val % 16 = 0) :
    (stAt0 m c t.val t.isLt acc).2.2.2.1 = k0_pay27 (iblk m c 9 t) := by
  rw [stAt0_B m c t acc h0]
  dsimp only
  unfold out0_B_13
  rw [View.read_writes_eq_canon _ _ _ (fun y => cover0_B_13 (y := y) ..)]
  unfold kernelRun0_B
  dsimp only
  sl_unfold_words
  rw [View.canon_unit_zero hz]
  simp only [View.readAt_eq_ld, (hs0_9 t).read_unread, View.ld_unit_zero (S := S176x2048) hz, shapeCast_self]

/-- What a point hands on of the three weights. -/
theorem point (c : Dev nD) (t : Fin cfg0.N) (acc) :
    (∀ (a : Fin 11) (r : Fin 64) (s : Fin 512),
      ((stAt0 m c t.val t.isLt acc).2.1 (ix3 a r s) : EReal) = iblk m c 7 t (ix2 r ⟨512 * a.val + s.val, by omega⟩))
    ∧ (∀ (a : Fin 11) (r : Fin 64) (s : Fin 512),
      ((stAt0 m c t.val t.isLt acc).2.2.1 (ix3 a r s) : EReal) = iblk m c 8 t (ix2 r ⟨512 * a.val + s.val, by omega⟩))
    ∧ (stAt0 m c t.val t.isLt acc).2.2.2.1 = k0_pay27 (iblk m c 9 t) := by
  by_cases h0 : t.val % 16 = 0
  · exact ⟨gate_A m c t acc h0, up_A m c t acc h0, down_A m c t acc h0⟩
  · exact ⟨gate_B m c t acc h0, up_B m c t acc h0, down_B m c t acc h0⟩

/-- The same of the sweep, at every point. -/
theorem sweep (c : Dev nD) (n : ℕ) (hn : 0 + n < cfg0.N) :
    (∀ (a : Fin 11) (r : Fin 64) (s : Fin 512),
      ((Pipeline.accAt (fun n h => stAt0 m c n h junk0) (stAt0 m c) 0 n hn).2.1 (ix3 a r s) : EReal)
        = iblk m c 7 ⟨0 + n, hn⟩ (ix2 r ⟨512 * a.val + s.val, by omega⟩))
    ∧ (∀ (a : Fin 11) (r : Fin 64) (s : Fin 512),
      ((Pipeline.accAt (fun n h => stAt0 m c n h junk0) (stAt0 m c) 0 n hn).2.2.1 (ix3 a r s) : EReal)
        = iblk m c 8 ⟨0 + n, hn⟩ (ix2 r ⟨512 * a.val + s.val, by omega⟩))
    ∧ (Pipeline.accAt (fun n h => stAt0 m c n h junk0) (stAt0 m c) 0 n hn).2.2.2.1 = k0_pay27 (iblk m c 9 ⟨0 + n, hn⟩) := by
  cases n with
  | zero => exact point m c ⟨0, hn⟩ junk0
  | succ n =>
    rw [Pipeline.accAt_succ]
    exact point m c ⟨0 + (n + 1), hn⟩ _

/-- The weights' blocks are the point's rows. -/
theorem slab_index : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) := by decide +kernel

theorem gate_apply (c : Dev nD) (t : Fin cfg0.N) (r : Fin 64) (k : Fin 5632) (h : 64 * t.val + r.val < 2048) :
    iblk m c 7 t (ix2 r k) = m ((c : Thread nD τ).loc main_arg6) (ix2 ⟨64 * t.val + r.val, h⟩ k) := by
  obtain ⟨e0, e1⟩ := (slab_index t).1
  have hV : V m c main_arg6 = m ((c : Thread nD τ).loc main_arg6) := by unfold V; after_results
  show V m c main_arg6 (((cfg0.win 7).blk t).view.emb (ix2 r k)) = _
  rw [hV]
  refine congrArg (m ((c : Thread nD τ).loc main_arg6)) (funext fun a => Fin.ext ?_)
  match a with
  | ⟨0, _⟩ => show win0_7.index t (0 : Fin 2) * 64 + 1 * r.val = 64 * t.val + r.val; omega
  | ⟨1, _⟩ => show win0_7.index t (1 : Fin 2) * 5632 + 1 * k.val = k.val; omega

theorem up_apply (c : Dev nD) (t : Fin cfg0.N) (r : Fin 64) (k : Fin 5632) (h : 64 * t.val + r.val < 2048) :
    iblk m c 8 t (ix2 r k) = m ((c : Thread nD τ).loc main_arg7) (ix2 ⟨64 * t.val + r.val, h⟩ k) := by
  obtain ⟨e0, e1⟩ := (slab_index t).2.1
  have hV : V m c main_arg7 = m ((c : Thread nD τ).loc main_arg7) := by unfold V; after_results
  show V m c main_arg7 (((cfg0.win 8).blk t).view.emb (ix2 r k)) = _
  rw [hV]
  refine congrArg (m ((c : Thread nD τ).loc main_arg7)) (funext fun a => Fin.ext ?_)
  match a with
  | ⟨0, _⟩ => show win0_8.index t (0 : Fin 2) * 64 + 1 * r.val = 64 * t.val + r.val; omega
  | ⟨1, _⟩ => show win0_8.index t (1 : Fin 2) * 5632 + 1 * k.val = k.val; omega

theorem down_apply (c : Dev nD) (t : Fin cfg0.N) (r : Fin 176) (k : Fin 2048) (h : 176 * t.val + r.val < 5632) :
    iblk m c 9 t (ix2 r k) = m ((c : Thread nD τ).loc main_arg8) (ix2 ⟨176 * t.val + r.val, h⟩ k) := by
  obtain ⟨e0, e1⟩ := (slab_index t).2.2
  have hV : V m c main_arg8 = m ((c : Thread nD τ).loc main_arg8) := by unfold V; after_results
  show V m c main_arg8 (((cfg0.win 9).blk t).view.emb (ix2 r k)) = _
  rw [hV]
  refine congrArg (m ((c : Thread nD τ).loc main_arg8)) (funext fun a => Fin.ext ?_)
  match a with
  | ⟨0, _⟩ => show win0_9.index t (0 : Fin 2) * 176 + 1 * r.val = 176 * t.val + r.val; omega
  | ⟨1, _⟩ => show win0_9.index t (1 : Fin 2) * 2048 + 1 * k.val = k.val; omega

theorem gate_result (c : Dev nD) (a : Fin 11) (k : Fin 2048) (s : Fin 512) :
    (G11 (F := Ideal) m c (ix3 a k s) : EReal) = m ((c : Thread nD τ).loc main_arg6) (ix2 k ⟨512 * a.val + s.val, by omega⟩) := by
  have hN : cfg0.N = 32 := N_0
  have hp : pt11Of (ix3 a k s) = k.val / 64 := by
    show 32 * (a.val / 11 - 0) + 1 * (k.val / 64 - 0) + 1 * (s.val / 512 - 0) = _; omega
  have hl : loc11Of (ix3 a k s) = ix3 a ⟨k.val % 64, by omega⟩ s := by
    funext x; apply Fin.ext
    match x with
    | ⟨0, _⟩ => show a.val % 11 = a.val; omega
    | ⟨1, _⟩ => rfl
    | ⟨2, _⟩ => show s.val % 512 = s.val; omega
  unfold G11
  rw [dif_pos (by omega), hl]
  refine ((sweep m c _ (by omega)).1 _ _ _).trans ?_
  rw [gate_apply m c _ _ _ (by dsimp only; omega)]
  congr 1
  rw [ix2_inj]
  exact ⟨Fin.ext (by dsimp only; omega), rfl⟩

theorem up_result (c : Dev nD) (a : Fin 11) (k : Fin 2048) (s : Fin 512) :
    (G12 (F := Ideal) m c (ix3 a k s) : EReal) = m ((c : Thread nD τ).loc main_arg7) (ix2 k ⟨512 * a.val + s.val, by omega⟩) := by
  have hN : cfg0.N = 32 := N_0
  have hp : pt12Of (ix3 a k s) = k.val / 64 := by
    show 32 * (a.val / 11 - 0) + 1 * (k.val / 64 - 0) + 1 * (s.val / 512 - 0) = _; omega
  have hl : loc12Of (ix3 a k s) = ix3 a ⟨k.val % 64, by omega⟩ s := by
    funext x; apply Fin.ext
    match x with
    | ⟨0, _⟩ => show a.val % 11 = a.val; omega
    | ⟨1, _⟩ => rfl
    | ⟨2, _⟩ => show s.val % 512 = s.val; omega
  unfold G12
  rw [dif_pos (by omega), hl]
  refine ((sweep m c _ (by omega)).2.1 _ _ _).trans ?_
  rw [up_apply m c _ _ _ (by dsimp only; omega)]
  congr 1
  rw [ix2_inj]
  exact ⟨Fin.ext (by dsimp only; omega), rfl⟩

theorem down_result (c : Dev nD) (k : Fin 5632) (j : Fin 2048) :
    (G13 (F := Ideal) m c (ix2 k j) : EReal) = m ((c : Thread nD τ).loc main_arg8) (ix2 k j) := by
  have hN : cfg0.N = 32 := N_0
  have hp : pt13Of (ix2 k j) = k.val / 176 := by
    show 1 * (k.val / 176 - 0) + 1 * (j.val / 2048 - 0) = _; omega
  have hl : loc13Of (ix2 k j) = ix2 ⟨k.val % 176, by omega⟩ j := by
    funext x; apply Fin.ext
    match x with
    | ⟨0, _⟩ => rfl
    | ⟨1, _⟩ => show j.val % 2048 = j.val; omega
  unfold G13
  rw [dif_pos (by omega), hl, (sweep m c _ (by omega)).2.2]
  unfold k0_pay27
  pointwise
  rw [down_apply m c _ _ _ (by dsimp only; omega)]
  congr 1
  rw [ix2_inj]
  exact ⟨Fin.ext (by dsimp only; omega), rfl⟩

end Cert.MergeChunks

end
-- ==== Proof.MergeValue.lean ====
/-
  The gated merge's value: the first result is the two projected branches, each under its gate, added, element by
  element, over the extended reals; the other three are the feed-forward weights, two of them in chunks of columns.
-/
module

public import proofs.«01_k».proof.Defs
public import proofs.«01_k».proof.Proof.MergeBlocks
public import proofs.«01_k».proof.Proof.MergeChunks
public import proofs.«01_k».proof.Proof.Gen.Reference4Ideal.Run
public import Idealize.ShloMosaic.Lib.Claim

@[expose] public section

set_option maxRecDepth 16384

noncomputable section

open Idealize.ShloMosaic Idealize.ShloMosaic.TcCoe Idealize.ShloMosaic.Tactic
open Cert.Kernel4Ideal Cert.Kernel4Ideal.Gen Cert.Kernel4Ideal.Value

namespace Cert.MergeValue

variable (m : (ℓ : Loc nD τ sig) → Buf (Elt Ideal) ℓ)

/-- The merged value at one place. -/
def mergedAt (h : S8192x2048.Idx → EReal) (a b : S8192x1024.Idx → EReal) (g : S2048x6144.Idx → EReal)
    (wa wb : S1024x2048.Idx → EReal) (i : Fin 8192) (j : Fin 2048) : EReal :=
  Ideal.logistic (∑ k : Fin 2048, h (ix2 i k) * g (ix2 k ⟨2048 + j.val, by omega⟩)) * (∑ k : Fin 1024, a (ix2 i k) * wa (ix2 k j))
    + Ideal.logistic (∑ k : Fin 2048, h (ix2 i k) * g (ix2 k ⟨4096 + j.val, by omega⟩)) * (∑ k : Fin 1024, b (ix2 i k) * wb (ix2 k j))

theorem block_apply (c : Dev nD) (t : Fin cfg0.N) (r : Fin 512) (j : Fin 1024) (h : 512 * (t.val % 16) + r.val < 8192)
    (h' : 1024 * (t.val / 16) + j.val < 2048) :
    MergeBlocks.merged m c t (k0_pay1 (iblk m c 5 t)) (k0_pay2 (iblk m c 6 t)) (ix2 r j) =
      mergedAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨512 * (t.val % 16) + r.val, h⟩ ⟨1024 * (t.val / 16) + j.val, h'⟩ := by
  unfold MergeBlocks.merged k0_pay28 k0_pay1 k0_pay2
  pointwise
  simp only [MergeBlocks.act_apply m c t r _ h, MergeBlocks.branchA_apply m c t r _ h, MergeBlocks.branchB_apply m c t r _ h,
    MergeBlocks.gateA_apply m c t _ j (by omega), MergeBlocks.gateB_apply m c t _ j (by omega), MergeBlocks.projA_apply m c t _ j h',
    MergeBlocks.projB_apply m c t _ j h']
  rfl

/-- The result array: the merged value at every place. -/
theorem result (c : Dev nD) : G10 (F := Ideal) m c = fun i => mergedAt (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) := by
  funext i
  obtain ⟨a, b, rfl⟩ : ∃ (a : Fin 8192) (b : Fin 2048), i = ix2 a b := ⟨i 0, i 1, eq_ix2 i⟩
  have hN : cfg0.N = 32 := N_0
  have hp : pt10Of (ix2 a b) = a.val / 512 + 16 * (b.val / 1024) := by
    show 1 * (a.val / 512 - 0) + 16 * (b.val / 1024 - 0) = _; omega
  have hl : loc10Of (ix2 a b) = ix2 ⟨a.val % 512, by omega⟩ ⟨b.val % 1024, by omega⟩ := by
    funext x; apply Fin.ext
    match x with
    | ⟨0, _⟩ => rfl
    | ⟨1, _⟩ => rfl
  unfold G10
  rw [dif_pos (by omega), (MergeBlocks.sweep m c _ (by omega)).1, hl, block_apply m c _ _ _ (by dsimp only; omega) (by dsimp only; omega)]
  show mergedAt _ _ _ _ _ _ _ _ = mergedAt _ _ _ _ _ _ a b
  congr 1
  · apply Fin.ext
    dsimp only
    omega
  · apply Fin.ext
    dsimp only
    omega

/-- The gated merge computes the two gated branches' sum, and hands on the feed-forward weights. -/
theorem algebraic : Cert.algebraic_Kernel4Ideal_Reference4Ideal (hKernel4Ideal := Cert.Kernel4Ideal.Gen.facts)
    (hReference4Ideal := Cert.Reference4Ideal.Gen.facts) := by
  pair_intro
  · run_from (Cert.Kernel4Ideal.Value.run m g)
  · run_from (Cert.Reference4Ideal.Value.run m' g')
    · rw [result]
      funext i
      idx_vars i
      pointwise
      rfl
    · funext i
      idx_vars i
      rw [MergeChunks.gate_result]
      pointwise
      exact MergeChunks.columns_value _ i0 i1 i2 _ _ rfl (by dsimp only; omega)
    · funext i
      idx_vars i
      rw [MergeChunks.up_result]
      pointwise
      exact MergeChunks.columns_value _ i0 i1 i2 _ _ rfl (by dsimp only; omega)
    · funext i
      idx_vars i
      rw [MergeChunks.down_result]
      pointwise

end Cert.MergeValue
-- ==== Proof.SguFrames.lean ====
/-
  The gated spatial branch's frames: both kernel programs' from one run at any floats, and the reference's.
-/
module

public import proofs.«01_k».proof.Defs
public import proofs.«01_k».proof.Proof.Gen.Kernel5
public import proofs.«01_k».proof.Proof.Gen.Kernel5Ideal.Frame
public import proofs.«01_k».proof.Proof.Gen.Reference5Ideal.Run
public import Idealize.ShloMosaic.Adequacy
public import Idealize.ShloMosaic.Init
public import Idealize.ShloMosaic.Lib.Claim

@[expose] public section

noncomputable section

namespace Cert.SguFrames

open Idealize.ShloMosaic Idealize.SL.Sem

set_option maxRecDepth 65536 in
/-- The two programs' bodies are one. -/
theorem bodies_eq : Cert.Kernel5Ideal.defs₀ (F := Bits) = Cert.Kernel5.defs₀ (F := Bits) := by
  unfold Cert.Kernel5Ideal.defs₀ Cert.Kernel5.defs₀
  refine congrArg (Defs.onTc (nD := Cert.Kernel5.nD) (τ := Cert.Kernel5.τ) (sig := Cert.Kernel5.sig) (Λ := Cert.Kernel5.Λ₀)) ?_
  funext k a
  match k, a with
  | 0, (t, s) => rfl

theorem defs_eq : Cert.Kernel5Ideal.defs (F := Bits) = Cert.Kernel5.defs (F := Bits) :=
  congrArg (Pipeline.defs (Cert.Kernel5.pcfgs (F := Bits))) bodies_eq

theorem main_eq : Cert.Kernel5Ideal.main (F := Bits) = Cert.Kernel5.main (F := Bits) := rfl

/-- The printed kernel's frame: the ideal text's, at bit patterns. -/
theorem kernel : Cert.quiescent_Kernel5 (hKernel5 := Cert.Kernel5.Gen.facts) := fun m g _ => by
  have h := Cert.Kernel5Ideal.Gen.frame (F := Bits) m g
  rw [defs_eq, main_eq] at h
  exact h

/-- The ideal kernel's frame. -/
theorem kernelIdeal : Cert.quiescent_Kernel5Ideal (hKernel5Ideal := Cert.Kernel5Ideal.Gen.facts) := fun m g _ =>
  Cert.Kernel5Ideal.Gen.frame (F := Ideal) m g

/-- The reference's frame: host operations only, and no semaphore. -/
theorem referenceIdeal : Cert.quiescent_Reference5Ideal (hReference5Ideal := Cert.Reference5Ideal.Gen.facts) := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

end Cert.SguFrames

end
-- ==== Proof.SguBlocks.lean ====
/-
  What a point of the gated spatial branch leaves behind: thirty-two tiles, one for each chunk of rows and each group of
  columns, every one the gate's tile times the mixed rows of the other half.
-/
module

public import proofs.«01_k».proof.Proof.Gen.Kernel5Ideal.Value
public import Idealize.ShloMosaic.Lib.Pipeline.Value
public import Idealize.ShloMosaic.Lib.Pipeline.ValueKit.Tiles
public import Idealize.ShloMosaic.Lib.Pointwise
public import Idealize.ShloMosaic.Lib.WordCmp
public import Idealize.ShloMosaic.Lib.StableHlo.Run
public import Idealize.ShloMosaic.Lib.Tactic

@[expose] public section

noncomputable section

open Idealize.ShloMosaic Idealize.ShloMosaic.TcCoe Idealize.ShloMosaic.Tactic
open Cert.Kernel5Ideal Cert.Kernel5Ideal.Gen Cert.Kernel5Ideal.Value

namespace Cert.SguBlocks

section Tiles

variable {F : FTy → Type} [FloatOps F]

theorem slices (c : Fin 4) (g : Fin 8) : S512x1024.Slices ![128 * c.val, 128 * g.val] S128x128 := by
  revert c g; decide

theorem slicesCol (g : Fin 8) : S128x8.Slices ![0, g.val] S128x1 := by
  revert g; decide

theorem inside (c : Fin 4) (g : Fin 8) : ∀ a : Fin 2, ![128 * c.val, 128 * g.val] a + S128x128.size a ≤ S512x1024.size a := by
  revert c g; decide

theorem insideW (g : Fin 8) : ∀ a : Fin 3, ![g.val, 0, 0] a + S1x128x128.size a ≤ S8x128x128.size a := by
  revert g; decide

/-- The mixing matrix of one group, its upper triangle cleared. -/
def mixer (w : Vec F S8x128x128 .f32) (g : Fin 8) : FVec F S128x128 .bf16 :=
  k0_pay19 k0_pay11 (View.ld w (Rect.unit (s := S8x128x128) ![g.val, 0, 0] S1x128x128.size (insideW g)))

/-- One tile: chunk `c` of the rows, group `g` of the columns. -/
def tile (v : FVec F S512x1024 .bf16) (u : FVec F S512x1024 .f32) (w : Vec F S8x128x128 .f32) (b : FVec F S128x8 .f32)
    (c : Fin 4) (g : Fin 8) : FVec F S128x128 .bf16 :=
  truncf .bf16 (mulf (extractStridedSlice S128x128 ![128 * c.val, 128 * g.val] u (slices c g))
    (addf (matmul dot_S128x128_S128x128_S128x128_1_0_0_1_n_n none (mixer w g)
        (extractStridedSlice S128x128 ![128 * c.val, 128 * g.val] v (slices c g)) (constant S128x128 .f32 0x00000000#32))
      (broadcastTo S128x128 (shapeCast S128x1 (extractStridedSlice S128x1 ![0, g.val] b (slicesCol g)) shapeCasts_S128x1_S128x1)
        broadcasts_S128x1_S128x128))) bitsLt_bf16_f32

/-- The stores' chunk and group, the last store first. -/
def rowOf (k : Fin 32) : Fin 4 := ⟨3 - k.val % 4, by omega⟩
def colOf (k : Fin 32) : Fin 8 := ⟨7 - k.val / 4, by omega⟩

theorem out_eq (x0 : Vec F S512x2048 .bf16) (x1 x2 : Vec F S2048x1024 .bf16) (x3 : Vec F S1x1024 .f32) (x4 : Vec F S8x128x128 .f32)
    (x5 : Vec F S128x8 .f32) : out0_6 x0 x1 x2 x3 x4 x5 = View.canon (List.ofFn fun k : Fin 32 =>
      (⟨Rect.unit (s := S512x1024) ![128 * (rowOf k).val, 128 * (colOf k).val] S128x128.size (inside (rowOf k) (colOf k)),
        tile (k0_pay61 x0 x1 x2 x3 x4 x5) (k0_pay64 x0 x1 x2 x3 x4 x5) x4 (k0_pay66 x0 x1 x2 x3 x4 x5) (rowOf k) (colOf k)⟩ :
          View.Piece (Elt F) S512x1024 .bf16)) := by
  unfold out0_6
  rfl

end Tiles

/-- The gated unit's activation: the tanh form of the error function's. -/
def gelu (y : EReal) : EReal :=
  y * (Ideal.ofBits .f32 1056964608#32 * (1
    + Ideal.tanh (Ideal.ofBits .f32 1061962282#32 * (y + Ideal.ofBits .f32 1027024659#32 * (y * (y * y))))))

/-- A row of activations through a column of weights. -/
def half (h : S512x2048.Idx → EReal) (w : S2048x1024.Idx → EReal) (r : Fin 512) (j : Fin 1024) : EReal :=
  gelu (∑ k : Fin 2048, h (ix2 r k) * w (ix2 k j))

/-- The normalised half. -/
def normed (h : S512x2048.Idx → EReal) (w : S2048x1024.Idx → EReal) (g : S1x1024.Idx → EReal) (r : Fin 512) (j : Fin 1024) : EReal :=
  half h w r j * Ideal.rsqrt (Ideal.div (∑ k : Fin 1024, half h w r k * half h w r k) (Ideal.ofBits .f32 1149239296#32)
    + Ideal.ofBits .f32 897988541#32) * g (ix2 0 j)

/-- The mixing matrix, its upper triangle cleared. -/
def lower (w : S8x128x128.Idx → EReal) (g : Fin 8) (t s : Fin 128) : EReal :=
  if s.val ≤ t.val then w (ix3 g t s) else 0

theorem normed_apply (x0 : Vec Ideal S512x2048 .bf16) (x1 x2 : Vec Ideal S2048x1024 .bf16) (x3 : Vec Ideal S1x1024 .f32)
    (x4 : Vec Ideal S8x128x128 .f32) (x5 : Vec Ideal S128x8 .f32) (r : Fin 512) (j : Fin 1024) :
    k0_pay61 x0 x1 x2 x3 x4 x5 (ix2 r j) = normed x0 x2 x3 r j := by
  unfold k0_pay61 k0_pay7 k0_pay6
  pointwise
  rfl

theorem half_apply (x0 : Vec Ideal S512x2048 .bf16) (x1 x2 : Vec Ideal S2048x1024 .bf16) (x3 : Vec Ideal S1x1024 .f32)
    (x4 : Vec Ideal S8x128x128 .f32) (x5 : Vec Ideal S128x8 .f32) (r : Fin 512) (j : Fin 1024) :
    k0_pay64 x0 x1 x2 x3 x4 x5 (ix2 r j) = half x0 x1 r j := by
  unfold k0_pay64 k0_pay62 k0_pay63 k0_pay10 k0_pay9 k0_pay8 k0_pay6
  pointwise
  rfl

theorem mixer_apply (w : Vec Ideal S8x128x128 .f32) (g : Fin 8) (t s : Fin 128) : mixer w g (ix2 t s) = lower w g t s := by
  unfold mixer k0_pay19 k0_pay11 lower
  pointwise
  rw [WordCmp.cmpi_sle_ofNat (by omega) (by omega)]
  unfold Scalar.select
  split <;> split <;> simp_all

theorem bias_apply (x0 : Vec Ideal S512x2048 .bf16) (x1 x2 : Vec Ideal S2048x1024 .bf16) (x3 : Vec Ideal S1x1024 .f32)
    (x4 : Vec Ideal S8x128x128 .f32) (x5 : Vec Ideal S128x8 .f32) (t : Fin 128) (g : Fin 8) :
    k0_pay66 x0 x1 x2 x3 x4 x5 (ix2 t g) = x5 (ix2 t g) := by
  unfold k0_pay66 k0_pay12
  pointwise

/-- A tile at one place. -/
theorem tile_apply (v : FVec Ideal S512x1024 .bf16) (u : FVec Ideal S512x1024 .f32) (w : Vec Ideal S8x128x128 .f32) (b : FVec Ideal S128x8 .f32)
    (c : Fin 4) (g : Fin 8) (p q : Fin 128) : tile v u w b c g (ix2 p q) =
      u (ix2 ⟨128 * c.val + p.val, by omega⟩ ⟨128 * g.val + q.val, by omega⟩)
        * (∑ s : Fin 128, lower w g p s * v (ix2 ⟨128 * c.val + s.val, by omega⟩ ⟨128 * g.val + q.val, by omega⟩) + b (ix2 p g)) := by
  unfold tile
  pointwise
  simp only [mixer_apply]

/-- What a point leaves at one place: the tile there, at the place inside it. -/
theorem out_apply (x0 : Vec Ideal S512x2048 .bf16) (x1 x2 : Vec Ideal S2048x1024 .bf16) (x3 : Vec Ideal S1x1024 .f32)
    (x4 : Vec Ideal S8x128x128 .f32) (x5 : Vec Ideal S128x8 .f32) (c : Fin 4) (g : Fin 8) (p q : Fin 128) :
    out0_6 x0 x1 x2 x3 x4 x5 (ix2 ⟨128 * c.val + p.val, by omega⟩ ⟨128 * g.val + q.val, by omega⟩) =
      half x0 x1 ⟨128 * c.val + p.val, by omega⟩ ⟨128 * g.val + q.val, by omega⟩
        * (∑ s : Fin 128, lower x4 g p s * normed x0 x2 x3 ⟨128 * c.val + s.val, by omega⟩ ⟨128 * g.val + q.val, by omega⟩ + x5 (ix2 p g)) := by
  rw [out_eq]
  refine View.canon_ofFn_unit_eq_of_forall _ _ _ _ _ _ ⟨⟨4 * (7 - g.val) + (3 - c.val), by omega⟩, fun a => ?_⟩ fun k => ?_
  · match a with
    | ⟨0, _⟩ => show 128 * (3 - (4 * (7 - g.val) + (3 - c.val)) % 4) ≤ 128 * c.val + p.val ∧ 128 * c.val + p.val < 128 * (3 - (4 * (7 - g.val) + (3 - c.val)) % 4) + 128; omega
    | ⟨1, _⟩ => show 128 * (7 - (4 * (7 - g.val) + (3 - c.val)) / 4) ≤ 128 * g.val + q.val ∧ 128 * g.val + q.val < 128 * (7 - (4 * (7 - g.val) + (3 - c.val)) / 4) + 128; omega
  · tile_intro x h
    obtain ⟨u, v, rfl⟩ : ∃ (u v : Fin 128), x = ix2 u v := ⟨x 0, x 1, eq_ix2 x⟩
    have e0 : 128 * c.val + p.val = 128 * (rowOf k).val + u.val := h0
    have e1 : 128 * g.val + q.val = 128 * (colOf k).val + v.val := h1
    obtain rfl : c = rowOf k := Fin.ext (by omega)
    obtain rfl : g = colOf k := Fin.ext (by omega)
    obtain rfl : p = u := Fin.ext (by omega)
    obtain rfl : q = v := Fin.ext (by omega)
    rw [tile_apply]
    simp only [normed_apply, half_apply, bias_apply]

section Blocks

variable {F : FTy → Type} [FloatOps F]
variable (m : (ℓ : Loc nD τ sig) → Buf (Elt F) ℓ)

/-- Which block of its array each window reads at a point: the point's rows of the activations, the first and the second
    column block of the weight, and the whole of the gain, the mixing weights and the bias. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 1
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A block of the activations is the point's rows of the array. -/
theorem act_apply (c : Dev nD) (t : Fin cfg0.N) (r : Fin 512) (k : Fin 2048) (h : 512 * t.val + r.val < 8192) :
    iblk m c 0 t (ix2 r k) = truncf .bf16 (m ((c : Thread nD τ).loc main_arg0) : (⟨S8192x2048, .f32⟩ : BufTy).Contents (Elt F)) bitsLt_bf16_f32
      (ix2 ⟨512 * t.val + r.val, h⟩ k) := by
  obtain ⟨e0, e1, -⟩ := block_index t
  have hV : V m c main_v0 = truncf .bf16 (m ((c : Thread nD τ).loc main_arg0) : (⟨S8192x2048, .f32⟩ : BufTy).Contents (Elt F)) bitsLt_bf16_f32 := by
    unfold V; after_results
  show V m c main_v0 (((cfg0.win 0).blk t).view.emb (ix2 r k)) = _
  rw [hV]
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

/-- The rounded weight, as the two column windows stage it. -/
theorem weights (c : Dev nD) : V m c main_v1 = truncf .bf16 (m ((c : Thread nD τ).loc main_arg1) : (⟨S2048x6144, .f32⟩ : BufTy).Contents (Elt F)) bitsLt_bf16_f32 := by
  unfold V; after_results

/-- The gate's columns are the first thousand and twenty-four of the weight. -/
theorem gate_apply (c : Dev nD) (t : Fin cfg0.N) (k : Fin 2048) (j : Fin 1024) :
    iblk m c 1 t (ix2 k j) = truncf .bf16 (m ((c : Thread nD τ).loc main_arg1) : (⟨S2048x6144, .f32⟩ : BufTy).Contents (Elt F)) bitsLt_bf16_f32
      (ix2 k ⟨j.val, by omega⟩) := by
  obtain ⟨-, -, e0, e1, -⟩ := block_index t
  show V m c main_v1 (((cfg0.win 1).blk t).view.emb (ix2 k j)) = _
  rw [weights]
  refine congrArg _ (funext fun a => Fin.ext ?_)
  match a with
  | ⟨0, _⟩ => show win0_1.index t (0 : Fin 2) * 2048 + 1 * k.val = k.val; omega
  | ⟨1, _⟩ => show win0_1.index t (1 : Fin 2) * 1024 + 1 * j.val = j.val; omega

/-- The other half's columns are the next thousand and twenty-four. -/
theorem value_apply (c : Dev nD) (t : Fin cfg0.N) (k : Fin 2048) (j : Fin 1024) :
    iblk m c 2 t (ix2 k j) = truncf .bf16 (m ((c : Thread nD τ).loc main_arg1) : (⟨S2048x6144, .f32⟩ : BufTy).Contents (Elt F)) bitsLt_bf16_f32
      (ix2 k ⟨1024 + j.val, by omega⟩) := by
  obtain ⟨-, -, -, -, e0, e1, -⟩ := block_index t
  show V m c main_v1 (((cfg0.win 2).blk t).view.emb (ix2 k j)) = _
  rw [weights]
  refine congrArg _ (funext fun a => Fin.ext ?_)
  match a with
  | ⟨0, _⟩ => show win0_2.index t (0 : Fin 2) * 2048 + 1 * k.val = k.val; omega
  | ⟨1, _⟩ => show win0_2.index t (1 : Fin 2) * 1024 + 1 * j.val = 1024 + j.val; omega

/-- The gain's block is the gain, as one row. -/
theorem gain_apply (c : Dev nD) (t : Fin cfg0.N) (k : Fin 1024) :
    iblk m c 3 t (ix2 0 k) = m ((c : Thread nD τ).loc main_arg2) (ix1 k) := by
  obtain ⟨-, -, -, -, -, -, e0, e1, -⟩ := block_index t
  have hV : V m c main_v2 = broadcastInDim S1x1024 ![1] bcast_S1024_S1x1024_1 (m ((c : Thread nD τ).loc main_arg2) : (⟨S1024, .f32⟩ : BufTy).Contents (Elt F)) := by
    unfold V; after_results
  show V m c main_v2 (((cfg0.win 3).blk t).view.emb (ix2 0 k)) = _
  rw [hV]
  refine congrArg (m ((c : Thread nD τ).loc main_arg2)) (funext fun a => Fin.ext ?_)
  match a with
  | ⟨0, _⟩ => show win0_3.index t (1 : Fin 2) * 1024 + 1 * k.val = k.val; omega

/-- The mixing weights' block is the whole array. -/
theorem mix_eq (c : Dev nD) (t : Fin cfg0.N) : iblk m c 4 t = m ((c : Thread nD τ).loc main_arg3) := by
  obtain ⟨-, -, -, -, -, -, -, -, e0, e1, e2, -⟩ := block_index t
  have hV : V m c main_arg3 = m ((c : Thread nD τ).loc main_arg3) := by unfold V; after_results
  funext y
  show V m c main_arg3 (((cfg0.win 4).blk t).view.emb y) = _
  rw [hV]
  refine congrArg (m ((c : Thread nD τ).loc main_arg3)) (funext fun a => Fin.ext ?_)
  match a with
  | ⟨0, _⟩ => show win0_4.index t (0 : Fin 3) * 8 + 1 * (y 0).val = (y 0).val; omega
  | ⟨1, _⟩ => show win0_4.index t (1 : Fin 3) * 128 + 1 * (y 1).val = (y 1).val; omega
  | ⟨2, _⟩ => show win0_4.index t (2 : Fin 3) * 128 + 1 * (y 2).val = (y 2).val; omega

/-- The bias's block is the bias, turned over. -/
theorem shift_apply (c : Dev nD) (t : Fin cfg0.N) (p : Fin 128) (g : Fin 8) :
    iblk m c 5 t (ix2 p g) = m ((c : Thread nD τ).loc main_arg4) (ix2 g p) := by
  obtain ⟨-, -, -, -, -, -, -, -, -, -, -, e0, e1, -⟩ := block_index t
  have hV : V m c main_v3 = transpose S128x8 [1, 0] (m ((c : Thread nD τ).loc main_arg4) : (⟨S8x128, .f32⟩ : BufTy).Contents (Elt F)) transposes_S8x128_S128x8_1_0 := by
    unfold V; after_results
  show V m c main_v3 (((cfg0.win 5).blk t).view.emb (ix2 p g)) = _
  rw [hV]
  refine congrArg (m ((c : Thread nD τ).loc main_arg4)) (funext fun a => Fin.ext ?_)
  match a with
  | ⟨0, _⟩ => show win0_5.index t (1 : Fin 2) * 8 + 1 * g.val = g.val; omega
  | ⟨1, _⟩ => show win0_5.index t (0 : Fin 2) * 128 + 1 * p.val = p.val; omega

end Blocks

end Cert.SguBlocks
-- ==== Proof.SguValue.lean ====
/-
  The gated spatial branch's value: the result array is the gate times the mixed rows of the normalised half, element by
  element, over the extended reals.
-/
module

public import proofs.«01_k».proof.Defs
public import proofs.«01_k».proof.Proof.SguBlocks
public import proofs.«01_k».proof.Proof.Gen.Reference5Ideal.Run
public import Idealize.ShloMosaic.Lib.Pipeline.ValueKit.Geometry
public import Idealize.ShloMosaic.Lib.Claim

@[expose] public section

set_option maxRecDepth 16384

noncomputable section

open Idealize.ShloMosaic Idealize.ShloMosaic.TcCoe Idealize.ShloMosaic.Tactic
open Cert.Kernel5Ideal Cert.Kernel5Ideal.Gen Cert.Kernel5Ideal.Value

namespace Cert.SguValue

variable (m : (ℓ : Loc nD τ sig) → Buf (Elt Ideal) ℓ)

/-- The activated projection of a row, at one of the weight's columns. -/
def actAt (h : S8192x2048.Idx → EReal) (w : S2048x6144.Idx → EReal) (i : Fin 8192) (j : Fin 6144) : EReal :=
  SguBlocks.gelu (∑ k : Fin 2048, h (ix2 i k) * w (ix2 k j))

/-- The second half, times the inverse root mean square of its row, times the gain. -/
def normAt (h : S8192x2048.Idx → EReal) (w : S2048x6144.Idx → EReal) (g : S1024.Idx → EReal) (i : Fin 8192) (j : Fin 1024) : EReal :=
  actAt h w i ⟨1024 + j.val, by omega⟩ * Ideal.rsqrt (Ideal.div (∑ k : Fin 1024, actAt h w i ⟨1024 + k.val, by omega⟩ * actAt h w i ⟨1024 + k.val, by omega⟩)
    (Ideal.ofBits .f32 1149239296#32) + Ideal.ofBits .f32 897988541#32) * g (ix1 j)

/-- The branch at one place: the gate times the chunk's rows mixed by the column group's matrix, the bias added. -/
def branchAt (h : S8192x2048.Idx → EReal) (w : S2048x6144.Idx → EReal) (g : S1024.Idx → EReal) (ws : S8x128x128.Idx → EReal)
    (b : S8x128.Idx → EReal) (i : Fin 8192) (j : Fin 1024) : EReal :=
  actAt h w i ⟨j.val, by omega⟩ * (∑ s : Fin 128, SguBlocks.lower ws ⟨j.val / 128, by omega⟩ ⟨i.val % 128, by omega⟩ s
    * normAt h w g ⟨128 * (i.val / 128) + s.val, by omega⟩ j + b (ix2 ⟨j.val / 128, by omega⟩ ⟨i.val % 128, by omega⟩))

theorem half_apply (c : Dev nD) (t : Fin cfg0.N) (r : Fin 512) (j : Fin 1024) (h : 512 * t.val + r.val < 8192) :
    SguBlocks.half (iblk m c 0 t) (iblk m c 1 t) r j =
      actAt (m ((c : Thread nD τ).loc main_arg0)) (m ((c : Thread nD τ).loc main_arg1)) ⟨512 * t.val + r.val, h⟩ ⟨j.val, by omega⟩ := by
  unfold SguBlocks.half actAt
  refine congrArg _ (Finset.sum_congr rfl fun k _ => ?_)
  rw [SguBlocks.act_apply m c t r k h, SguBlocks.gate_apply m c t k j]
  rfl

theorem other_apply (c : Dev nD) (t : Fin cfg0.N) (r : Fin 512) (j : Fin 1024) (h : 512 * t.val + r.val < 8192) :
    SguBlocks.half (iblk m c 0 t) (iblk m c 2 t) r j =
      actAt (m ((c : Thread nD τ).loc main_arg0)) (m ((c : Thread nD τ).loc main_arg1)) ⟨512 * t.val + r.val, h⟩ ⟨1024 + j.val, by omega⟩ := by
  unfold SguBlocks.half actAt
  refine congrArg _ (Finset.sum_congr rfl fun k _ => ?_)
  rw [SguBlocks.act_apply m c t r k h, SguBlocks.value_apply m c t k j]
  rfl

theorem normed_apply (c : Dev nD) (t : Fin cfg0.N) (r : Fin 512) (j : Fin 1024) (h : 512 * t.val + r.val < 8192) :
    SguBlocks.normed (iblk m c 0 t) (iblk m c 2 t) (iblk m c 3 t) r j =
      normAt (m ((c : Thread nD τ).loc main_arg0)) (m ((c : Thread nD τ).loc main_arg1)) (m ((c : Thread nD τ).loc main_arg2))
        ⟨512 * t.val + r.val, h⟩ j := by
  unfold SguBlocks.normed normAt
  rw [SguBlocks.gain_apply m c t j]
  simp only [other_apply m c t r _ h]

theorem row_split (r : Fin 512) : ∃ (a : Fin 4) (p : Fin 128), r = ⟨128 * a.val + p.val, by omega⟩ :=
  ⟨⟨r.val / 128, by omega⟩, ⟨r.val % 128, by omega⟩, Fin.ext (by dsimp only; omega)⟩

theorem col_split (j : Fin 1024) : ∃ (g : Fin 8) (q : Fin 128), j = ⟨128 * g.val + q.val, by omega⟩ :=
  ⟨⟨j.val / 128, by omega⟩, ⟨j.val % 128, by omega⟩, Fin.ext (by dsimp only; omega)⟩

/-- What a point leaves is the branch at the point's rows. -/
theorem point_apply (c : Dev nD) (t : Fin cfg0.N) (r : Fin 512) (j : Fin 1024) (h : 512 * t.val + r.val < 8192) :
    out0_6 (F := Ideal) (iblk m c 0 t) (iblk m c 1 t) (iblk m c 2 t) (iblk m c 3 t) (iblk m c 4 t) (iblk m c 5 t) (ix2 r j) =
      branchAt (m ((c : Thread nD τ).loc main_arg0)) (m ((c : Thread nD τ).loc main_arg1)) (m ((c : Thread nD τ).loc main_arg2))
        (m ((c : Thread nD τ).loc main_arg3)) (m ((c : Thread nD τ).loc main_arg4)) ⟨512 * t.val + r.val, h⟩ j := by
  obtain ⟨a, p, rfl⟩ := row_split r
  obtain ⟨g, q, rfl⟩ := col_split j
  rw [SguBlocks.out_apply, SguBlocks.mix_eq, SguBlocks.shift_apply, half_apply m c t _ _ h]
  unfold branchAt
  have eg : (⟨(128 * g.val + q.val) / 128, by omega⟩ : Fin 8) = g := Fin.ext (by dsimp only; omega)
  have ep : (⟨(512 * t.val + (128 * a.val + p.val)) % 128, by omega⟩ : Fin 128) = p := Fin.ext (by dsimp only; omega)
  dsimp only
  rw [eg, ep]
  refine congrArg _ (congrArg (· + _) (Finset.sum_congr rfl fun s _ => congrArg _ ?_))
  rw [normed_apply m c t _ _ (by dsimp only at h ⊢; omega)]
  congr 1
  apply Fin.ext
  dsimp only
  omega

/-- The result array: the branch at every place. -/
theorem result (c : Dev nD) : (dats (F := Ideal) m 0 c).arrAt 6 cfg0.N = fun i => branchAt (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  have hN : cfg0.N = 16 := N_0
  refine (dats m 0 c).arrAt_eq_of_covers 6 _ (by decide +kernel) fun t hf y => ?_
  obtain ⟨-, -, -, -, -, -, -, -, -, -, -, -, -, e0, e1⟩ := SguBlocks.block_index t
  rw [after0_6]
  obtain ⟨r, j, rfl⟩ : ∃ (r : Fin 512) (j : Fin 1024), y = ix2 r j := ⟨y 0, y 1, eq_ix2 y⟩
  refine (point_apply m c t r j (by omega)).trans ?_
  dsimp only
  congr 1
  · apply Fin.ext
    show 512 * t.val + r.val = win0_6.index t (0 : Fin 2) * 512 + 1 * r.val
    omega
  · apply Fin.ext
    show j.val = win0_6.index t (1 : Fin 2) * 1024 + 1 * j.val
    omega

/-- The activation with its cube multiplied from the left. -/
theorem gelu_left (y : EReal) : y * (Ideal.ofBits .f32 1056964608#32 * (1 + Ideal.tanh (Ideal.ofBits .f32 1061962282#32
    * (y + Ideal.ofBits .f32 1027024659#32 * (y * y * y))))) = SguBlocks.gelu y := by
  unfold SguBlocks.gelu
  rw [mul_assoc y y y]

/-- The mask of the lower triangle, as a choice of two words. -/
theorem mask_left (t s : ℕ) (ht : t < 128) (hs : s < 128) (x : EReal) :
    Scalar.select (Scalar.select (IntOp.cmpi .sge (IntOp.addi (BitVec.ofNat 32 t) 0#32) (BitVec.ofNat 32 s)) 1#1 0#1) x
      ((id (constant (F := Ideal) Cert.Reference5Ideal.S_ .f32 0#32) ix0) : EReal) = if s ≤ t then x else 0 := by
  have e : IntOp.addi (BitVec.ofNat 32 t) 0#32 = BitVec.ofNat 32 t := by unfold IntOp.addi; simp
  rw [e, WordCmp.cmpi_sge_ofNat (by omega) (by omega)]
  have z : (id (constant (F := Ideal) Cert.Reference5Ideal.S_ .f32 0#32) ix0 : EReal) = 0 := by
    unfold constant
    pointwise
    rfl
  by_cases h : s ≤ t
  · rw [if_pos h, decide_eq_true h]; rfl
  · rw [if_neg h, decide_eq_false h]; exact z

/-- The gated unit computes the branch. -/
theorem algebraic : Cert.algebraic_Kernel5Ideal_Reference5Ideal (hKernel5Ideal := Cert.Kernel5Ideal.Gen.facts)
    (hReference5Ideal := Cert.Reference5Ideal.Gen.facts) := by
  pair_intro
  · run_from (Cert.Kernel5Ideal.Value.run_blocks m g)
  · run_from (Cert.Reference5Ideal.Value.run m' g')
    rw [result]
    obtain ⟨e0, e1, e2, e3, e4⟩ := hagree c
    funext i
    idx_vars i
    unfold Cert.Reference5Ideal.Value.res_main_v56
    rw [e0, e1, e2, e3, e4]
    pointwise
    simp only [gelu_left]
    unfold branchAt normAt actAt SguBlocks.lower
    refine congrArg _ (congrArg (· + _) (Finset.sum_congr rfl fun s _ => ?_))
    rw [mask_left _ _ (by omega) (by omega), mul_comm]
    have e : i0.val / 128 * 128 + s.val = 128 * (i0.val / 128) + s.val := by omega
    simp only [e]

end Cert.SguValue
-- ==== Proof.ProjFrames.lean ====
/-
  The first norm and projections' frames: both kernel programs' from one run at any floats, and the reference's.
-/
module

public import proofs.«01_k».proof.Defs
public import proofs.«01_k».proof.Proof.Gen.Kernel6
public import proofs.«01_k».proof.Proof.Gen.Kernel6Ideal.Frame
public import proofs.«01_k».proof.Proof.Gen.Reference6Ideal.Run
public import Idealize.ShloMosaic.Adequacy
public import Idealize.ShloMosaic.Init
public import Idealize.ShloMosaic.Lib.Claim

@[expose] public section

noncomputable section

namespace Cert.ProjFrames

open Idealize.ShloMosaic Idealize.SL.Sem

set_option maxRecDepth 65536 in
set_option maxHeartbeats 8000000 in
/-- The two programs' bodies are one. -/
theorem bodies_eq : Cert.Kernel6Ideal.defs₀ (F := Bits) = Cert.Kernel6.defs₀ (F := Bits) := by
  unfold Cert.Kernel6Ideal.defs₀ Cert.Kernel6.defs₀
  refine congrArg (Defs.onTc (nD := Cert.Kernel6.nD) (τ := Cert.Kernel6.τ) (sig := Cert.Kernel6.sig) (Λ := Cert.Kernel6.Λ₀)) ?_
  funext k a
  match k, a with
  | 0, (t, s) => rfl

set_option maxHeartbeats 8000000 in
theorem defs_eq : Cert.Kernel6Ideal.defs (F := Bits) = Cert.Kernel6.defs (F := Bits) :=
  congrArg (Pipeline.defs (Cert.Kernel6.pcfgs (F := Bits))) bodies_eq

set_option maxHeartbeats 8000000 in
theorem main_eq : Cert.Kernel6Ideal.main (F := Bits) = Cert.Kernel6.main (F := Bits) := rfl

set_option maxHeartbeats 8000000 in
/-- The printed kernel's frame: the ideal text's, at bit patterns. -/
theorem kernel : Cert.quiescent_Kernel6 (hKernel6 := Cert.Kernel6.Gen.facts) := fun m g _ => by
  have h := Cert.Kernel6Ideal.Gen.frame (F := Bits) m g
  rw [defs_eq, main_eq] at h
  exact h

set_option maxHeartbeats 8000000 in
/-- The ideal kernel's frame. -/
theorem kernelIdeal : Cert.quiescent_Kernel6Ideal (hKernel6Ideal := Cert.Kernel6Ideal.Gen.facts) := fun m g _ =>
  Cert.Kernel6Ideal.Gen.frame (F := Ideal) m g

set_option maxHeartbeats 8000000 in
/-- The reference's frame: host operations only, and no semaphore. -/
theorem referenceIdeal : Cert.quiescent_Reference6Ideal (hReference6Ideal := Cert.Reference6Ideal.Gen.facts) := fun m g _ =>
  (θ_run Cert.Reference6Ideal.defs _ _).mono
    (fun r h => ⟨fun c => (h c).2.2.2.2.2.2.2.2.2, Idealize.ShloMosaic.sem_eq_zero_of_no_sems (by decide) r.2⟩)
    (Cert.Reference6Ideal.Value.run (F := Ideal) m g)

end Cert.ProjFrames

end
-- ==== Proof.ProjBlocks.lean ====
/-
  What the projections' points leave behind, result by result: the normalised rows, the normalised queries and keys, the
  values turned over with their rows of ones, the indexer's queries, keys and weights, and a slab of the rest of the weight.
-/
module

public import proofs.«01_k».proof.Proof.Gen.Kernel6Ideal.Value
public import Idealize.ShloMosaic.Lib.Pipeline.Value
public import Idealize.ShloMosaic.Lib.Pipeline.ValueKit.Tiles
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.ShloMosaic.Tactic
open Cert.Kernel6Ideal Cert.Kernel6Ideal.Gen Cert.Kernel6Ideal.Value

namespace Cert.ProjBlocks

section Left

variable {F : FTy → Type} [FloatOps F]
variable (m : (ℓ : Loc nD τ sig) → Buf (Elt F) ℓ)

theorem hz : (![0, 0] : Fin 2 → Nat) = fun _ => 0 := funext fun a => by fin_cases a <;> rfl

/-- One head of a product: each row times the inverse root of its mean square, times a factor, times the gain. -/
def head (s : F .f32) (P : FVec F S512x1024 .f32) (g : FVec F S1x128 .f32) (n : Fin 8) : FVec F S512x128 .f32 :=
  have y : FVec F S512x128 .f32 := extractStridedSlice S512x128 ![0, 128 * n.val] P ⟨rfl, by revert n; decide⟩
  have z : FVec F S512x1 .f32 := divf (shapeCast S512x1 (multiReduction .add [1] S512 (mulf y y) 0x00000000#32 reduces_S512x128_S512 (.inl rfl) rfl) shapeCasts_S512_S512x1)
    (broadcast S512x1 (Scalar.ofBits .f32 0x43000000#32))
  have w : FVec F S512x1 .f32 := mulf (rsqrt (addf z (broadcast S512x1 (Scalar.ofBits .f32 0x358637BD#32)))) (broadcast S512x1 s)
  mulf (mulf y (broadcastTo S512x128 w broadcasts_S512x1_S512x128)) (broadcastTo S512x128 g broadcasts_S1x128_S512x128)

/-- The eight heads, one beside the other. -/
def heads (s : F .f32) (P : FVec F S512x1024 .f32) (g : FVec F S1x128 .f32) : FVec F S512x1024 .bf16 :=
  truncf .bf16 (concatenate S512x1024 1 [⟨S512x128, head s P g 0⟩, ⟨S512x128, head s P g 1⟩, ⟨S512x128, head s P g 2⟩, ⟨S512x128, head s P g 3⟩,
    ⟨S512x128, head s P g 4⟩, ⟨S512x128, head s P g 5⟩, ⟨S512x128, head s P g 6⟩, ⟨S512x128, head s P g 7⟩]
    concatenates_S512x128_S512x128_S512x128_S512x128_S512x128_S512x128_S512x128_S512x128_S512x1024_d1) bitsLt_bf16_f32

/-- The point's normalised rows. -/
abbrev rows (c : Dev nD) (t : Fin cfg0.N) : FVec F S512x2048 .bf16 := k0_pay4 (iblk m c 0 t) (iblk m c 1 t)

theorem left14 (c : Dev nD) (t : Fin cfg0.N) : (outsAt0 m c t).1 = rows m c t := by
  unfold outsAt0
  dsimp only
  unfold out0_A_14
  rw [View.read_writes_eq_canon _ _ _ (fun y => cover0_A_14 (y := y) ..)]
  unfold kernelRun0_A
  dsimp only
  sl_unfold_words
  rw [View.canon_unit_zero hz]
  simp only [View.readAt_eq_ld, (hs0_0 t).read_unread, (hs0_1 t).read_unread,
    View.ld_unit_zero (S := S512x2048) hz, View.ld_unit_zero (S := S1x2048) hz, shapeCast_self]

theorem left15 (c : Dev nD) (t : Fin cfg0.N) : (outsAt0 m c t).2.1 = heads (Scalar.ofBits .f32 0x3E0293EE#32)
    (k0_pay5 (iblk m c 0 t) (iblk m c 1 t) (iblk m c 2 t)) (k0_pay6 (iblk m c 9 t)) := by
  unfold outsAt0
  dsimp only
  unfold out0_A_15
  rw [View.read_writes_eq_canon _ _ _ (fun y => cover0_A_15 (y := y) ..)]
  unfold kernelRun0_A
  dsimp only
  sl_unfold_words
  rw [View.canon_unit_zero hz]
  simp only [View.readAt_eq_ld, (hs0_0 t).read_unread, (hs0_1 t).read_unread, (hs0_2 t).read_unread, (hs0_9 t).read_unread,
    View.ld_unit_zero (S := S512x2048) hz, View.ld_unit_zero (S := S1x2048) hz, View.ld_unit_zero (S := S2048x1024) hz, View.ld_unit_zero (S := S1x128) hz, shapeCast_self]
  rfl

theorem left16 (c : Dev nD) (t : Fin cfg0.N) : (outsAt0 m c t).2.2.1 = heads (Scalar.ofBits .f32 0x3F800000#32)
    (k0_pay20 (rows m c t) (iblk m c 3 t)) (k0_pay21 (iblk m c 10 t)) := by
  unfold outsAt0
  dsimp only
  unfold out0_A_16
  rw [View.read_writes_eq_canon _ _ _ (fun y => cover0_A_16 (y := y) ..)]
  unfold kernelRun0_A
  dsimp only
  sl_unfold_words
  rw [View.canon_unit_zero hz]
  simp only [View.readAt_eq_ld, (hs0_0 t).read_unread, (hs0_1 t).read_unread, (hs0_3 t).read_unread, (hs0_10 t).read_unread,
    View.ld_unit_zero (S := S512x2048) hz, View.ld_unit_zero (S := S1x2048) hz, View.ld_unit_zero (S := S2048x1024) hz, View.ld_unit_zero (S := S1x128) hz, shapeCast_self]
  rfl

theorem left18 (c : Dev nD) (t : Fin cfg0.N) : (outsAt0 m c t).2.2.2.2.1 = k0_pay70 (rows m c t) (iblk m c 5 t) := by
  unfold outsAt0
  dsimp only
  unfold out0_A_18
  rw [View.read_writes_eq_canon _ _ _ (fun y => cover0_A_18 (y := y) ..)]
  unfold kernelRun0_A
  dsimp only
  sl_unfold_words
  rw [View.canon_unit_zero hz]
  simp only [View.readAt_eq_ld, (hs0_0 t).read_unread, (hs0_1 t).read_unread, (hs0_5 t).read_unread,
    View.ld_unit_zero (S := S512x2048) hz, View.ld_unit_zero (S := S1x2048) hz, View.ld_unit_zero (S := S2048x1024) hz, shapeCast_self]

theorem left19 (c : Dev nD) (t : Fin cfg0.N) : (outsAt0 m c t).2.2.2.2.2.1 = k0_pay71 (rows m c t) (iblk m c 6 t) (iblk m c 11 t) := by
  unfold outsAt0
  dsimp only
  unfold out0_A_19
  rw [View.read_writes_eq_canon _ _ _ (fun y => cover0_A_19 (y := y) ..)]
  unfold kernelRun0_A
  dsimp only
  sl_unfold_words
  rw [View.canon_unit_zero hz]
  simp only [View.readAt_eq_ld, (hs0_0 t).read_unread, (hs0_1 t).read_unread, (hs0_6 t).read_unread, (hs0_11 t).read_unread,
    View.ld_unit_zero (S := S512x2048) hz, View.ld_unit_zero (S := S1x2048) hz, View.ld_unit_zero (S := S2048x128) hz, View.ld_unit_zero (S := S1x128) hz, shapeCast_self]

theorem left20 (c : Dev nD) (t : Fin cfg0.N) : (outsAt0 m c t).2.2.2.2.2.2.1 = k0_pay1 (rows m c t) (iblk m c 7 t) (iblk m c 12 t) := by
  unfold outsAt0
  dsimp only
  unfold out0_A_20
  rw [View.read_writes_eq_canon _ _ _ (fun y => cover0_A_20 (y := y) ..)]
  unfold kernelRun0_A
  dsimp only
  sl_unfold_words
  rw [View.canon_unit_zero hz]
  simp only [View.readAt_eq_ld, (hs0_0 t).read_unread, (hs0_1 t).read_unread, (hs0_7 t).read_unread, (hs0_12 t).read_unread,
    View.ld_unit_zero (S := S512x2048) hz, View.ld_unit_zero (S := S1x2048) hz, View.ld_unit_zero (S := S2048x128) hz, View.ld_unit_zero (S := S1x128) hz, shapeCast_self]

theorem left21 (c : Dev nD) (t : Fin cfg0.N) : (outsAt0 m c t).2.2.2.2.2.2.2.1 = k0_pay2 (rows m c t) (iblk m c 8 t) := by
  unfold outsAt0
  dsimp only
  unfold out0_A_21
  rw [View.read_writes_eq_canon _ _ _ (fun y => cover0_A_21 (y := y) ..)]
  unfold kernelRun0_A
  dsimp only
  sl_unfold_words
  rw [View.canon_unit_zero hz]
  simp only [View.readAt_eq_ld, (hs0_0 t).read_unread, (hs0_1 t).read_unread, (hs0_8 t).read_unread,
    View.ld_unit_zero (S := S512x2048) hz, View.ld_unit_zero (S := S1x2048) hz, View.ld_unit_zero (S := S16x2048) hz, shapeCast_self]

theorem left22 (c : Dev nD) (t : Fin cfg0.N) : (outsAt0 m c t).2.2.2.2.2.2.2.2 = k0_pay3 (iblk m c 13 t) := by
  unfold outsAt0
  dsimp only
  unfold out0_A_22
  rw [View.read_writes_eq_canon _ _ _ (fun y => cover0_A_22 (y := y) ..)]
  unfold kernelRun0_A
  dsimp only
  sl_unfold_words
  rw [View.canon_unit_zero hz]
  simp only [View.readAt_eq_ld, (hs0_13 t).read_unread,
    View.ld_unit_zero (S := S384x2048) hz, shapeCast_self]

end Left

section Arrays

variable {F : FTy → Type} [FloatOps F]
variable (m : (ℓ : Loc nD τ sig) → Buf (Elt F) ℓ) (c : Dev nD)

/-- The input weight, its six column groups cut out. -/
abbrev win : FVec F S2048x10320 .f32 := m ((c : Thread nD τ).loc main_arg2)

/-- The zero the pads fill with. -/
abbrev fill : FVec F S_ .f32 := sitofp .f32 (constantI S_ 32 0#32)

/-- The buffers the launch starts from, one stretch of host operations after another. -/
theorem stretches (r : Ref sig .tc) : V m c r = StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1 (StableHlo.after hostOps0
      fun b => m (c, b))))))))) r := rfl

theorem V1 : V m c main_v7 = broadcastInDim S1x2048 ![1] bcast_S2048_S1x2048_1 (m ((c : Thread nD τ).loc main_arg1) : (⟨S2048, .f32⟩ : BufTy).Contents (Elt F)) := by
  rw [stretches]; after_results

theorem V2 : V m c main_v8 = truncf .bf16 (extractStridedSlice S2048x1024 ![0, 0] (win m c) slices_S2048x10320_S2048x1024_0_0) bitsLt_bf16_f32 := by
  rw [stretches]; after_results

theorem V3 : V m c main_v9 = truncf .bf16 (extractStridedSlice S2048x1024 ![0, 1024] (win m c) slices_S2048x10320_S2048x1024_0_1024) bitsLt_bf16_f32 := by
  rw [stretches]; after_results

theorem V4 : V m c main_v11 = truncf .bf16 (transpose S1024x2048 [1, 0] (extractStridedSlice S2048x1024 ![0, 2048] (win m c) slices_S2048x10320_S2048x1024_0_2048)
    transposes_S2048x1024_S1024x2048_1_0) bitsLt_bf16_f32 := by
  rw [stretches]; after_results

theorem V5 : V m c main_v12 = truncf .bf16 (extractStridedSlice S2048x1024 ![0, 3072] (win m c) slices_S2048x10320_S2048x1024_0_3072) bitsLt_bf16_f32 := by
  rw [stretches]; after_results

theorem V6 : V m c main_v14 = truncf .bf16 (pad S2048x128 ![0, 0] ![0, 64] ![0, 0]
    (extractStridedSlice S2048x64 ![0, 4096] (win m c) slices_S2048x10320_S2048x64_0_4096) fill pads_S2048x64_S2048x128_000_0640 h_S_) bitsLt_bf16_f32 := by
  rw [stretches]; after_results; rfl

theorem V7 : V m c main_v16 = truncf .bf16 (pad S2048x128 ![0, 64] ![0, 0] ![0, 0]
    (extractStridedSlice S2048x64 ![0, 4096] (win m c) slices_S2048x10320_S2048x64_0_4096) fill pads_S2048x64_S2048x128_000_6400 h_S_) bitsLt_bf16_f32 := by
  rw [stretches]; after_results; rfl

theorem V8 : V m c main_v18 = truncf .bf16 (transpose S16x2048 [1, 0] (extractStridedSlice S2048x16 ![0, 4160] (win m c) slices_S2048x10320_S2048x16_0_4160)
    transposes_S2048x16_S16x2048_1_0) bitsLt_bf16_f32 := by
  rw [stretches]; after_results

theorem V9 : V m c main_v19 = broadcastInDim S1x128 ![1] bcast_S128_S1x128_1 (m ((c : Thread nD τ).loc main_arg3) : (⟨S128, .f32⟩ : BufTy).Contents (Elt F)) := by
  rw [stretches]; after_results

theorem V10 : V m c main_v20 = broadcastInDim S1x128 ![1] bcast_S128_S1x128_1 (m ((c : Thread nD τ).loc main_arg4) : (⟨S128, .f32⟩ : BufTy).Contents (Elt F)) := by
  rw [stretches]; after_results

theorem V11 : V m c main_v21 = pad S1x128 ![0, 0] ![0, 64] ![0, 0]
    (broadcastInDim S1x64 ![1] bcast_S64_S1x64_1 (m ((c : Thread nD τ).loc main_arg5) : (⟨S64, .f32⟩ : BufTy).Contents (Elt F))) fill pads_S1x64_S1x128_000_0640 h_S_ := by
  rw [stretches]; after_results; rfl

theorem V12 : V m c main_v22 = pad S1x128 ![0, 64] ![0, 0] ![0, 0]
    (broadcastInDim S1x64 ![1] bcast_S64_S1x64_1 (m ((c : Thread nD τ).loc main_arg5) : (⟨S64, .f32⟩ : BufTy).Contents (Elt F))) fill pads_S1x64_S1x128_000_6400 h_S_ := by
  rw [stretches]; after_results; rfl

theorem V13 : V m c main_v23 = transpose S10320x2048 [1, 0] (win m c) transposes_S2048x10320_S10320x2048_1_0 := by
  rw [stretches]; after_results

/-- A window of one block stages the whole array. -/
theorem zeros : ∀ t : Fin grid0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0)
    ∧ (∀ a, win0_12.index t a = 0) := by decide +kernel

theorem whole_at {i s y : ℕ} (h : i = 0) : i * s + 1 * y = y := by subst h; omega

theorem whole1 (t : Fin cfg0.N) : iblk m c 1 t = V m c main_v7 :=
  funext fun y => congrArg (V m c main_v7) (funext fun a => Fin.ext (whole_at ((zeros t).1 a)))
theorem whole2 (t : Fin cfg0.N) : iblk m c 2 t = V m c main_v8 :=
  funext fun y => congrArg (V m c main_v8) (funext fun a => Fin.ext (whole_at ((zeros t).2.1 a)))
theorem whole3 (t : Fin cfg0.N) : iblk m c 3 t = V m c main_v9 :=
  funext fun y => congrArg (V m c main_v9) (funext fun a => Fin.ext (whole_at ((zeros t).2.2.1 a)))
theorem whole4 (t : Fin cfg0.N) : iblk m c 4 t = V m c main_v11 :=
  funext fun y => congrArg (V m c main_v11) (funext fun a => Fin.ext (whole_at ((zeros t).2.2.2.1 a)))
theorem whole5 (t : Fin cfg0.N) : iblk m c 5 t = V m c main_v12 :=
  funext fun y => congrArg (V m c main_v12) (funext fun a => Fin.ext (whole_at ((zeros t).2.2.2.2.1 a)))
theorem whole6 (t : Fin cfg0.N) : iblk m c 6 t = V m c main_v14 :=
  funext fun y => congrArg (V m c main_v14) (funext fun a => Fin.ext (whole_at ((zeros t).2.2.2.2.2.1 a)))
theorem whole7 (t : Fin cfg0.N) : iblk m c 7 t = V m c main_v16 :=
  funext fun y => congrArg (V m c main_v16) (funext fun a => Fin.ext (whole_at ((zeros t).2.2.2.2.2.2.1 a)))
theorem whole8 (t : Fin cfg0.N) : iblk m c 8 t = V m c main_v18 :=
  funext fun y => congrArg (V m c main_v18) (funext fun a => Fin.ext (whole_at ((zeros t).2.2.2.2.2.2.2.1 a)))
theorem whole9 (t : Fin cfg0.N) : iblk m c 9 t = V m c main_v19 :=
  funext fun y => congrArg (V m c main_v19) (funext fun a => Fin.ext (whole_at ((zeros t).2.2.2.2.2.2.2.2.1 a)))
theorem whole10 (t : Fin cfg0.N) : iblk m c 10 t = V m c main_v20 :=
  funext fun y => congrArg (V m c main_v20) (funext fun a => Fin.ext (whole_at ((zeros t).2.2.2.2.2.2.2.2.2.1 a)))
theorem whole11 (t : Fin cfg0.N) : iblk m c 11 t = V m c main_v21 :=
  funext fun y => congrArg (V m c main_v21) (funext fun a => Fin.ext (whole_at ((zeros t).2.2.2.2.2.2.2.2.2.2.1 a)))
theorem whole12 (t : Fin cfg0.N) : iblk m c 12 t = V m c main_v22 :=
  funext fun y => congrArg (V m c main_v22) (funext fun a => Fin.ext (whole_at ((zeros t).2.2.2.2.2.2.2.2.2.2.2 a)))

theorem moving : ∀ t : Fin grid0.N, win0_0.index t (0 : Fin 2) = t.val ∧ win0_0.index t (1 : Fin 2) = 0
    ∧ win0_13.index t (0 : Fin 2) = 4176 + 384 * t.val ∧ win0_13.index t (1 : Fin 2) = 0 := by decide +kernel

/-- A block of the input is the point's rows of the array. -/
theorem x_apply (t : Fin cfg0.N) (r : Fin 512) (k : Fin 2048) (h : 512 * t.val + r.val < 8192) :
    iblk m c 0 t (ix2 r k) = m ((c : Thread nD τ).loc main_arg0) (ix2 ⟨512 * t.val + r.val, h⟩ k) := by
  obtain ⟨e0, e1, -⟩ := moving t
  have hV : V m c main_arg0 = m ((c : Thread nD τ).loc main_arg0) := by rw [stretches]; after_results
  show V m c main_arg0 (((cfg0.win 0).blk t).view.emb (ix2 r k)) = _
  rw [hV]
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

/-- A slab of the turned weight is the point's columns of the weight's rest. -/
theorem rest_apply (t : Fin cfg0.N) (j : Fin 384) (k : Fin 2048) (h : 4176 + 384 * t.val + j.val < 10320) :
    iblk m c 13 t (ix2 j k) = win m c (ix2 k ⟨4176 + 384 * t.val + j.val, h⟩) := by
  obtain ⟨-, -, e0, e1⟩ := moving t
  show V m c main_v23 (((cfg0.win 13).blk t).view.emb (ix2 j k)) = _
  rw [V13]
  refine congrArg (win m c) (funext fun a => Fin.ext ?_)
  match a with
  | ⟨0, _⟩ => show win0_13.index t (1 : Fin 2) + 1 * k.val = k.val; omega
  | ⟨1, _⟩ => show win0_13.index t (0 : Fin 2) + 1 * j.val = 4176 + 384 * t.val + j.val; omega

end Arrays

end Cert.ProjBlocks
-- ==== Proof.ProjPoint.lean ====
/-
  The projections' value, point by point: each result's block at one place, over the extended reals, from the arguments.
-/
module

public import proofs.«01_k».proof.Proof.ProjBlocks
public import Idealize.ShloMosaic.Lib.IdealHost

@[expose] public section

set_option maxRecDepth 16384

noncomputable section

open Idealize.ShloMosaic Idealize.ShloMosaic.TcCoe Idealize.ShloMosaic.Tactic
open Cert.Kernel6Ideal Cert.Kernel6Ideal.Gen Cert.Kernel6Ideal.Value

namespace Cert.ProjPoint

/-! ## The mathematics -/

section Math

variable (x : S8192x2048.Idx → EReal) (g : S2048.Idx → EReal) (w : S2048x10320.Idx → EReal)

/-- The first norm: a row over its root mean square, times the gain. -/
def normAt (i : Fin 8192) (k : Fin 2048) : EReal :=
  x (ix2 i k) * Ideal.rsqrt (Ideal.div (∑ l : Fin 2048, x (ix2 i l) * x (ix2 i l)) (Ideal.ofBits .f32 0x45000000#32)
    + Ideal.ofBits .f32 0x358637BD#32) * g (ix1 k)

/-- A normalised row through a column of the weight. -/
def projAt (i : Fin 8192) (j : Fin 10320) : EReal := ∑ k : Fin 2048, normAt x g i k * w (ix2 k j)

/-- A query or a key: the product's column over the root mean square of its head's columns, times a factor, times the gain. -/
def headAt (s : EReal) (q : S128.Idx → EReal) (o : ℕ) (ho : o + 1024 ≤ 10320) (i : Fin 8192) (j : Fin 1024) : EReal :=
  projAt x g w i ⟨o + j.val, by omega⟩ * (Ideal.rsqrt (Ideal.div (∑ d : Fin 128,
    projAt x g w i ⟨o + (128 * (j.val / 128) + d.val), by omega⟩ * projAt x g w i ⟨o + (128 * (j.val / 128) + d.val), by omega⟩)
      (Ideal.ofBits .f32 0x43000000#32) + Ideal.ofBits .f32 0x358637BD#32) * s) * q (ix1 ⟨j.val % 128, by omega⟩)

/-- A value, turned over, or a one below its head's values. -/
def turnedAt (b : Fin 32) (r : Fin 1152) (s : Fin 256) : EReal :=
  if h : r.val % 144 < 128 then projAt x g w ⟨256 * b.val + s.val, by omega⟩ ⟨2048 + (128 * (r.val / 144) + r.val % 144), by omega⟩ else 1

/-- The indexer's key: the product's column over the root mean square of the sixty-four columns, times the gain. -/
def keyAt (q : S64.Idx → EReal) (i : Fin 8192) (d : Fin 64) : EReal :=
  projAt x g w i ⟨4096 + d.val, by omega⟩ * Ideal.rsqrt (Ideal.div (∑ e : Fin 64,
    projAt x g w i ⟨4096 + e.val, by omega⟩ * projAt x g w i ⟨4096 + e.val, by omega⟩) (Ideal.ofBits .f32 0x42800000#32)
      + Ideal.ofBits .f32 0x358637BD#32) * q (ix1 d)

end Math

/-! ## The blocks -/

section Blocks

variable (m : (ℓ : Loc nD τ sig) → Buf (Elt Ideal) ℓ) (c : Dev nD)

abbrev X : S8192x2048.Idx → EReal := m ((c : Thread nD τ).loc main_arg0)
abbrev G : S2048.Idx → EReal := m ((c : Thread nD τ).loc main_arg1)
abbrev W : S2048x10320.Idx → EReal := m ((c : Thread nD τ).loc main_arg2)
abbrev Q : S128.Idx → EReal := m ((c : Thread nD τ).loc main_arg3)
abbrev K : S128.Idx → EReal := m ((c : Thread nD τ).loc main_arg4)
abbrev I : S64.Idx → EReal := m ((c : Thread nD τ).loc main_arg5)

open ProjBlocks

theorem rows_apply (t : Fin cfg0.N) (r : Fin 512) (k : Fin 2048) (h : 512 * t.val + r.val < 8192) :
    (rows m c t (ix2 r k) : EReal) = normAt (X m c) (G m c) ⟨512 * t.val + r.val, h⟩ k := by
  unfold rows k0_pay4 normAt
  rw [whole1, V1]
  pointwise
  simp only [x_apply m c t r _ h]

theorem fill_zero : (FloatOps.sitofp (F := Ideal) FTy.f32 0#32 : EReal) = 0 := by
  show (((0#32 : BitVec 32).toInt : ℝ) : EReal) = 0
  simp

theorem w2 (t : Fin cfg0.N) (k : Fin 2048) (j : Fin 1024) : (iblk m c 2 t (ix2 k j) : EReal) = W m c (ix2 k ⟨0 + j.val, by omega⟩) := by
  rw [whole2, V2]; pointwise

theorem w3 (t : Fin cfg0.N) (k : Fin 2048) (j : Fin 1024) : (iblk m c 3 t (ix2 k j) : EReal) = W m c (ix2 k ⟨1024 + j.val, by omega⟩) := by
  rw [whole3, V3]; pointwise

theorem w4 (t : Fin cfg0.N) (k : Fin 2048) (j : Fin 1024) : (iblk m c 4 t (ix2 j k) : EReal) = W m c (ix2 k ⟨2048 + j.val, by omega⟩) := by
  rw [whole4, V4]; pointwise

theorem w5 (t : Fin cfg0.N) (k : Fin 2048) (j : Fin 1024) : (iblk m c 5 t (ix2 k j) : EReal) = W m c (ix2 k ⟨3072 + j.val, by omega⟩) := by
  rw [whole5, V5]; pointwise

theorem w6 (t : Fin cfg0.N) (k : Fin 2048) (j : Fin 128) :
    (iblk m c 6 t (ix2 k j) : EReal) = if h : j.val < 64 then W m c (ix2 k ⟨4096 + j.val, by omega⟩) else 0 := by
  rw [whole6, V6]; pointwise; rw [fill_zero]

theorem w7 (t : Fin cfg0.N) (k : Fin 2048) (j : Fin 128) :
    (iblk m c 7 t (ix2 k j) : EReal) = if h : 64 ≤ j.val then W m c (ix2 k ⟨4096 + (j.val - 64), by omega⟩) else 0 := by
  rw [whole7, V7]; pointwise; rw [fill_zero]
  by_cases h : 64 ≤ j.val
  · rw [dif_pos h, dif_pos ⟨h, by omega⟩]
  · rw [dif_neg h, dif_neg fun h' => h h'.1]

theorem w8 (t : Fin cfg0.N) (k : Fin 2048) (j : Fin 16) : (iblk m c 8 t (ix2 j k) : EReal) = W m c (ix2 k ⟨4160 + j.val, by omega⟩) := by
  rw [whole8, V8]; pointwise

theorem w9 (t : Fin cfg0.N) (j : Fin 128) : (iblk m c 9 t (ix2 0 j) : EReal) = Q m c (ix1 j) := by
  rw [whole9, V9]; pointwise

theorem w10 (t : Fin cfg0.N) (j : Fin 128) : (iblk m c 10 t (ix2 0 j) : EReal) = K m c (ix1 j) := by
  rw [whole10, V10]; pointwise

theorem w11 (t : Fin cfg0.N) (j : Fin 128) :
    (iblk m c 11 t (ix2 0 j) : EReal) = if h : j.val < 64 then I m c (ix1 ⟨j.val, h⟩) else 0 := by
  rw [whole11, V11]; pointwise; rw [fill_zero]

theorem w12 (t : Fin cfg0.N) (j : Fin 128) :
    (iblk m c 12 t (ix2 0 j) : EReal) = if h : 64 ≤ j.val then I m c (ix1 ⟨j.val - 64, by omega⟩) else 0 := by
  rw [whole12, V12]; pointwise; rw [fill_zero]
  by_cases h : 64 ≤ j.val
  · rw [dif_pos h, dif_pos ⟨h, by omega⟩]
  · rw [dif_neg h, dif_neg fun h' => h h'.1]

/-! ## The results at a place -/

theorem head_apply (s : EReal) (P : FVec Ideal S512x1024 .f32) (g : FVec Ideal S1x128 .f32) (n : Fin 8) (r : Fin 512) (d : Fin 128) :
    (head (F := Ideal) s P g n (ix2 r d) : EReal) = P (ix2 r ⟨128 * n.val + d.val, by omega⟩) * (Ideal.rsqrt (Ideal.div
      (∑ e : Fin 128, P (ix2 r ⟨128 * n.val + e.val, by omega⟩) * P (ix2 r ⟨128 * n.val + e.val, by omega⟩)) (Ideal.ofBits .f32 0x43000000#32)
        + Ideal.ofBits .f32 0x358637BD#32) * s) * g (ix2 0 d) := by
  unfold head
  pointwise

/-- A column of the heads is its head's column. -/
theorem heads_apply (s : EReal) (P : FVec Ideal S512x1024 .f32) (g : FVec Ideal S1x128 .f32) (r : Fin 512) (j : Fin 1024) :
    (heads (F := Ideal) s P g (ix2 r j) : EReal) = head (F := Ideal) s P g ⟨j.val / 128, by omega⟩ (ix2 r ⟨j.val % 128, by omega⟩) :=
  concatenate_ofFn_apply (t := S512x1024) (s₁ := S512x128) 1 (fun n => head (F := Ideal) s P g n)
    concatenates_S512x128_S512x128_S512x128_S512x128_S512x128_S512x128_S512x128_S512x128_S512x1024_d1 rfl 128 rfl (ix2 r j) ⟨j.val / 128, by omega⟩ rfl
    (ix2 r ⟨j.val % 128, by omega⟩) rfl fun b hb => by
      match b with
      | ⟨0, _⟩ => rfl
      | ⟨1, _⟩ => exact absurd rfl hb

/-- The heads of a product at a place. -/
theorem heads_eq (s : EReal) (P : FVec Ideal S512x1024 .f32) (g : FVec Ideal S1x128 .f32) (q : S128.Idx → EReal) (o : ℕ) (ho : o + 1024 ≤ 10320)
    (t : Fin cfg0.N) (r : Fin 512) (h : 512 * t.val + r.val < 8192)
    (hP : ∀ j : Fin 1024, (P (ix2 r j) : EReal) = projAt (X m c) (G m c) (W m c) ⟨512 * t.val + r.val, h⟩ ⟨o + j.val, by omega⟩)
    (hg : ∀ d : Fin 128, (g (ix2 0 d) : EReal) = q (ix1 d)) (j : Fin 1024) :
    (heads (F := Ideal) s P g (ix2 r j) : EReal) = headAt (X m c) (G m c) (W m c) s q o ho ⟨512 * t.val + r.val, h⟩ j := by
  rw [heads_apply, head_apply]
  unfold headAt
  simp only [hP, hg]
  have e : 128 * (j.val / 128) + j.val % 128 = j.val := by omega
  simp only [e]

/-- A product of the point's rows with columns of the weight. -/
theorem product (t : Fin cfg0.N) (r : Fin 512) (h : 512 * t.val + r.val < 8192) (f : Fin 2048 → EReal) (j : Fin 10320)
    (hf : ∀ k, f k = W m c (ix2 k j)) : ∑ k : Fin 2048, (rows m c t (ix2 r k) : EReal) * f k = projAt (X m c) (G m c) (W m c) ⟨512 * t.val + r.val, h⟩ j := by
  unfold projAt
  exact Finset.sum_congr rfl fun k _ => by rw [rows_apply m c t r k h, hf]

theorem at14 (t : Fin cfg0.N) (r : Fin 512) (k : Fin 2048) (h : 512 * t.val + r.val < 8192) :
    ((outsAt0 m c t).1 (ix2 r k) : EReal) = normAt (X m c) (G m c) ⟨512 * t.val + r.val, h⟩ k := by
  rw [left14]
  exact rows_apply m c t r k h

theorem at15 (t : Fin cfg0.N) (r : Fin 512) (j : Fin 1024) (h : 512 * t.val + r.val < 8192) : ((outsAt0 m c t).2.1 (ix2 r j) : EReal) =
    headAt (X m c) (G m c) (W m c) (Ideal.ofBits .f32 0x3E0293EE#32) (Q m c) 0 (by omega) ⟨512 * t.val + r.val, h⟩ j := by
  rw [left15]
  refine heads_eq m c _ _ _ (Q m c) 0 (by omega) t r h (fun d => ?_) (fun d => ?_) j
  · refine Eq.trans ?_ (product m c t r h _ ⟨0 + d.val, by omega⟩ fun k => w2 m c t k d)
    unfold k0_pay5
    pointwise
  · refine Eq.trans ?_ (w9 m c t d)
    unfold k0_pay6
    pointwise

theorem at16 (t : Fin cfg0.N) (r : Fin 512) (j : Fin 1024) (h : 512 * t.val + r.val < 8192) : ((outsAt0 m c t).2.2.1 (ix2 r j) : EReal) =
    headAt (X m c) (G m c) (W m c) (Ideal.ofBits .f32 0x3F800000#32) (K m c) 1024 (by omega) ⟨512 * t.val + r.val, h⟩ j := by
  rw [left16]
  refine heads_eq m c _ _ _ (K m c) 1024 (by omega) t r h (fun d => ?_) (fun d => ?_) j
  · refine Eq.trans ?_ (product m c t r h _ ⟨1024 + d.val, by omega⟩ fun k => w3 m c t k d)
    unfold k0_pay20
    pointwise
  · refine Eq.trans ?_ (w10 m c t d)
    unfold k0_pay21
    pointwise

theorem at18 (t : Fin cfg0.N) (r : Fin 512) (j : Fin 1024) (h : 512 * t.val + r.val < 8192) : ((outsAt0 m c t).2.2.2.2.1 (ix2 r j) : EReal) =
    projAt (X m c) (G m c) (W m c) ⟨512 * t.val + r.val, h⟩ ⟨3072 + j.val, by omega⟩ := by
  rw [left18]
  refine Eq.trans ?_ (product m c t r h _ ⟨3072 + j.val, by omega⟩ fun k => w5 m c t k j)
  unfold k0_pay70
  pointwise

theorem at21 (t : Fin cfg0.N) (j : Fin 16) (r : Fin 512) (h : 512 * t.val + r.val < 8192) : ((outsAt0 m c t).2.2.2.2.2.2.2.1 (ix2 j r) : EReal) =
    projAt (X m c) (G m c) (W m c) ⟨512 * t.val + r.val, h⟩ ⟨4160 + j.val, by omega⟩ * Ideal.ofBits .f32 0x3D000000#32 := by
  rw [left21]
  rw [← product m c t r h (fun k => iblk m c 8 t (ix2 j k)) ⟨4160 + j.val, by omega⟩ fun k => w8 m c t k j]
  unfold k0_pay2
  pointwise
  exact congrArg (· * _) (Finset.sum_congr rfl fun k _ => mul_comm _ _)

theorem at22 (t : Fin cfg0.N) (k : Fin 2048) (j : Fin 384) (h : 4176 + 384 * t.val + j.val < 10320) :
    ((outsAt0 m c t).2.2.2.2.2.2.2.2 (ix2 k j) : EReal) = W m c (ix2 k ⟨4176 + 384 * t.val + j.val, h⟩) := by
  rw [left22]
  refine Eq.trans ?_ (rest_apply m c t j k h)
  unfold k0_pay3
  pointwise

/-- The sixty-fourth part, as a quotient. -/
theorem part64 (y : EReal) : y * Ideal.ofBits .f32 0x3C800000#32 = Ideal.div y (Ideal.ofBits .f32 0x42800000#32) := by
  have e : Ideal.ofBits .f32 0x42800000#32 = ((64 : ℝ) : EReal) := by
    simp [Ideal.ofBits, Ideal.ieee, -EReal.coe_mul]; norm_num
  have e' : Ideal.ofBits .f32 0x3C800000#32 = ((1 / 64 : ℝ) : EReal) := by
    simp [Ideal.ofBits, Ideal.ieee, -EReal.coe_mul]; norm_num
  rw [e, e', Ideal.div_coe (by norm_num : (64 : ℝ) ≠ 0)]

/-- The indexer's keys of a product whose columns stand at one end and are zero at the other. -/
theorem key_low (t : Fin cfg0.N) (r : Fin 512) (h : 512 * t.val + r.val < 8192) (d : Fin 128) :
    ∑ k : Fin 2048, (rows m c t (ix2 r k) : EReal) * (iblk m c 6 t (ix2 k d) : EReal) =
      if h' : d.val < 64 then projAt (X m c) (G m c) (W m c) ⟨512 * t.val + r.val, h⟩ ⟨4096 + d.val, by omega⟩ else 0 := by
  simp only [w6 m c t]
  split
  · exact product m c t r h _ _ fun k => rfl
  · simp only [mul_zero, Finset.sum_const_zero]

theorem key_high (t : Fin cfg0.N) (r : Fin 512) (h : 512 * t.val + r.val < 8192) (d : Fin 128) :
    ∑ k : Fin 2048, (rows m c t (ix2 r k) : EReal) * (iblk m c 7 t (ix2 k d) : EReal) =
      if h' : 64 ≤ d.val then projAt (X m c) (G m c) (W m c) ⟨512 * t.val + r.val, h⟩ ⟨4096 + (d.val - 64), by omega⟩ else 0 := by
  simp only [w7 m c t]
  split
  · exact product m c t r h _ _ fun k => rfl
  · simp only [mul_zero, Finset.sum_const_zero]

/-- Over the lower half's columns alone. -/
theorem sum_low (f : Fin 64 → EReal) : ∑ e : Fin 128, (if h : e.val < 64 then f ⟨e.val, h⟩ else 0) * (if h : e.val < 64 then f ⟨e.val, h⟩ else 0)
    = ∑ e : Fin 64, f e * f e := by
  rw [Fin.sum_univ_two_halves 64 64 rfl]
  simp

/-- Over the upper half's columns alone. -/
theorem sum_high (f : Fin 64 → EReal) : ∑ e : Fin 128, (if h : 64 ≤ e.val then f ⟨e.val - 64, by omega⟩ else 0)
    * (if h : 64 ≤ e.val then f ⟨e.val - 64, by omega⟩ else 0) = ∑ e : Fin 64, f e * f e := by
  rw [Fin.sum_univ_two_halves 64 64 rfl]
  have e : ∀ k : Fin 64, ¬ 64 ≤ k.val := fun k => by omega
  simp [e]

theorem at19 (t : Fin cfg0.N) (r : Fin 512) (d : Fin 128) (h : 512 * t.val + r.val < 8192) : ((outsAt0 m c t).2.2.2.2.2.1 (ix2 r d) : EReal) =
    if h' : d.val < 64 then keyAt (X m c) (G m c) (W m c) (I m c) ⟨512 * t.val + r.val, h⟩ ⟨d.val, h'⟩ else 0 := by
  rw [left19]
  unfold k0_pay71
  pointwise
  simp only [key_low m c t r h, w11 m c t]
  rw [sum_low fun e => projAt (X m c) (G m c) (W m c) ⟨512 * t.val + r.val, h⟩ ⟨4096 + e.val, by omega⟩, part64]
  split
  · rfl
  · rw [mul_zero]

theorem at20 (t : Fin cfg0.N) (r : Fin 512) (d : Fin 128) (h : 512 * t.val + r.val < 8192) : ((outsAt0 m c t).2.2.2.2.2.2.1 (ix2 r d) : EReal) =
    if h' : 64 ≤ d.val then keyAt (X m c) (G m c) (W m c) (I m c) ⟨512 * t.val + r.val, h⟩ ⟨d.val - 64, by omega⟩ else 0 := by
  rw [left20]
  unfold k0_pay1
  pointwise
  simp only [key_high m c t r h, w12 m c t]
  rw [sum_high fun e => projAt (X m c) (G m c) (W m c) ⟨512 * t.val + r.val, h⟩ ⟨4096 + e.val, by omega⟩, part64]
  split
  · rfl
  · rw [mul_zero]

theorem vals_apply (t : Fin cfg0.N) (j : Fin 1024) (r : Fin 512) (h : 512 * t.val + r.val < 8192) :
    (k0_pay36 (rows m c t) (iblk m c 4 t) (ix2 j r) : EReal) = projAt (X m c) (G m c) (W m c) ⟨512 * t.val + r.val, h⟩ ⟨2048 + j.val, by omega⟩ := by
  rw [← product m c t r h (fun k => iblk m c 4 t (ix2 j k)) ⟨2048 + j.val, by omega⟩ fun k => w4 m c t k j]
  unfold k0_pay36
  pointwise
  exact Finset.sum_congr rfl fun k _ => mul_comm _ _

/-- The values' block from the turned product: head by head its rows, a chunk's columns, and sixteen rows of ones below. -/
def stacked (v : FVec Ideal S1024x512 .bf16) (a : Fin 2) (r : Fin 1152) (s : Fin 256) : EReal :=
  if h : r.val % 144 < 128 then v (ix2 ⟨128 * (r.val / 144) + r.val % 144, by omega⟩ ⟨256 * a.val + s.val, by omega⟩) else 1

theorem stacked_value (v : FVec Ideal S1024x512 .bf16) (a : Fin 2) (r : Fin 1152) (s : Fin 256) (i : Fin 1024) (j : Fin 512)
    (hr : r.val % 144 < 128) (hi : i.val = 128 * (r.val / 144) + r.val % 144) (hj : j.val = 256 * a.val + s.val) :
    (v (ix2 i j) : EReal) = stacked v a r s := by
  unfold stacked
  rw [dif_pos hr]
  congr 1
  rw [ix2_inj]
  exact ⟨Fin.ext hi, Fin.ext hj⟩

theorem stacked_one (v : FVec Ideal S1024x512 .bf16) (a : Fin 2) (r : Fin 1152) (s : Fin 256) (hr : ¬ r.val % 144 < 128) : 1 = stacked v a r s := by
  unfold stacked
  rw [dif_neg hr]

theorem canon_of {S : Shape} {e : EltTy} {L : List (View.Piece (Elt Ideal) S e)} {y : S.Idx} {v : Elt Ideal e} (hc : ∃ p ∈ L, y ∈ p.1.set)
    (k : (∃ p ∈ L, y ∈ p.1.set) → View.canon L y = v) : View.canon L y = v := k hc

set_option maxHeartbeats 4000000 in
/-- What a point leaves of the values: its turned product, stacked. -/
theorem left17 (t : Fin cfg0.N) (a : Fin 2) (r : Fin 1152) (s : Fin 256) : ((outsAt0 m c t).2.2.2.1 (ix3 a r s) : EReal) =
    stacked (k0_pay36 (rows m c t) (iblk m c 4 t)) a r s := by
  unfold outsAt0
  dsimp only
  unfold out0_A_17
  rw [View.read_writes_eq_canon _ _ _ (fun y => cover0_A_17 (y := y) ..)]
  refine canon_of (cover0_A_17 (y := ix3 a r s) ..) ?_
  unfold kernelRun0_A
  dsimp only
  sl_unfold_words
  simp only [View.readAt_eq_ld, (hs0_0 t).read_unread, (hs0_1 t).read_unread, (hs0_4 t).read_unread, View.ld_unit_zero (S := S512x2048) hz,
    View.ld_unit_zero (S := S1x2048) hz, View.ld_unit_zero (S := S1024x2048) hz, shapeCast_self]
  unfold k0_pay38 k0_pay40 k0_pay42
  generalize k0_pay36 (rows m c t) (iblk m c 4 t) = v
  intro hc
  canon_tiles x h using hc
  all_goals
    clear hc
    replace h0 : a.val = _ := h0
    replace h1 : r.val = _ := h1
    replace h2 : s.val = _ := h2
    open_payloads
    pointwise
    first
      | exact stacked_value v a r s _ _ (by omega) (by first | omega | (dsimp only; omega)) (by first | omega | (dsimp only; omega))
      | exact stacked_one v a r s (by omega)

theorem at17 (t : Fin cfg0.N) (a : Fin 2) (r : Fin 1152) (s : Fin 256) (h : 2 * t.val + a.val < 32) : ((outsAt0 m c t).2.2.2.1 (ix3 a r s) : EReal) =
    turnedAt (X m c) (G m c) (W m c) ⟨2 * t.val + a.val, h⟩ r s := by
  rw [left17]
  unfold stacked turnedAt
  split
  · rw [vals_apply m c t _ _ (by dsimp only; omega)]
    congr 1
    apply Fin.ext
    dsimp only
    omega
  · rfl

end Blocks

end Cert.ProjPoint
-- ==== Proof.ProjValue.lean ====
/-
  The projections' value: each of the nine result arrays, element by element, is what the reference computes, over the
  extended reals.
-/
module

public import proofs.«01_k».proof.Defs
public import proofs.«01_k».proof.Proof.ProjPoint
public import proofs.«01_k».proof.Proof.Gen.Reference6Ideal.Run
public import Idealize.ShloMosaic.Lib.Pipeline.ValueKit.Geometry
public import Idealize.ShloMosaic.Lib.Claim

@[expose] public section

set_option maxRecDepth 16384

noncomputable section

open Idealize.ShloMosaic Idealize.ShloMosaic.TcCoe Idealize.ShloMosaic.Tactic
open Cert.Kernel6Ideal Cert.Kernel6Ideal.Gen Cert.Kernel6Ideal.Value

namespace Cert.ProjValue

open ProjPoint

variable (m : (ℓ : Loc nD τ sig) → Buf (Elt Ideal) ℓ) (c : Dev nD)

/-- Where the results' blocks stand. -/
theorem placed : ∀ t : Fin grid0.N,
    (win0_14.index t (0 : Fin 2) = t.val ∧ win0_14.index t (1 : Fin 2) = 0) ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 3) = t.val ∧ win0_17.index t (1 : Fin 3) = 0 ∧ win0_17.index t (2 : Fin 3) = 0)
    ∧ (win0_18.index t (0 : Fin 2) = t.val ∧ win0_18.index t (1 : Fin 2) = 0) ∧ (win0_19.index t (0 : Fin 2) = t.val ∧ win0_19.index t (1 : Fin 2) = 0)
    ∧ (win0_20.index t (0 : Fin 2) = t.val ∧ win0_20.index t (1 : Fin 2) = 0) ∧ (win0_21.index t (0 : Fin 2) = 0 ∧ win0_21.index t (1 : Fin 2) = t.val)
    ∧ (win0_22.index t (0 : Fin 2) = 0 ∧ win0_22.index t (1 : Fin 2) = t.val) := by decide +kernel

/-- A row of a point's block is a row of the array. -/
theorem row_lt (t : Fin cfg0.N) (r : Fin 512) : 512 * t.val + r.val < 8192 := by
  have hN : cfg0.N = 16 := N_0
  omega

/-- A row's place and a column's, from a block's index. -/
theorem row_at {n i r : ℕ} {t : ℕ} (h : i = t) : n * t + r = i * n + 1 * r := by subst h; rw [mul_comm, one_mul]
theorem col_at {n i j : ℕ} (h : i = 0) : j = i * n + 1 * j := by subst h; omega

theorem res14 : (dats (F := Ideal) m 0 c).arrAt 14 cfg0.N = fun i => normAt (X m c) (G m c) (i 0) (i 1) := by
  refine (dats m 0 c).arrAt_eq_of_covers 14 _ (by decide +kernel) fun t hf y => ?_
  rw [after0_14]
  obtain ⟨r, j, rfl⟩ : ∃ (r : Fin 512) (j : Fin 2048), y = ix2 r j := ⟨y 0, y 1, eq_ix2 y⟩
  refine (at14 m c t r j (row_lt t r)).trans ?_
  dsimp only
  congr 1
  · exact Fin.ext (row_at (placed t).1.1)
  · exact Fin.ext (col_at (placed t).1.2)

theorem res15 : (dats (F := Ideal) m 0 c).arrAt 15 cfg0.N = fun i =>
    headAt (X m c) (G m c) (W m c) (Ideal.ofBits .f32 0x3E0293EE#32) (Q m c) 0 (by omega) (i 0) (i 1) := by
  refine (dats m 0 c).arrAt_eq_of_covers 15 _ (by decide +kernel) fun t hf y => ?_
  rw [after0_15]
  obtain ⟨r, j, rfl⟩ : ∃ (r : Fin 512) (j : Fin 1024), y = ix2 r j := ⟨y 0, y 1, eq_ix2 y⟩
  refine (at15 m c t r j (row_lt t r)).trans ?_
  dsimp only
  congr 1
  · exact Fin.ext (row_at (placed t).2.1.1)
  · exact Fin.ext (col_at (placed t).2.1.2)

theorem res16 : (dats (F := Ideal) m 0 c).arrAt 16 cfg0.N = fun i =>
    headAt (X m c) (G m c) (W m c) (Ideal.ofBits .f32 0x3F800000#32) (K m c) 1024 (by omega) (i 0) (i 1) := by
  refine (dats m 0 c).arrAt_eq_of_covers 16 _ (by decide +kernel) fun t hf y => ?_
  rw [after0_16]
  obtain ⟨r, j, rfl⟩ : ∃ (r : Fin 512) (j : Fin 1024), y = ix2 r j := ⟨y 0, y 1, eq_ix2 y⟩
  refine (at16 m c t r j (row_lt t r)).trans ?_
  dsimp only
  congr 1
  · exact Fin.ext (row_at (placed t).2.2.1.1)
  · exact Fin.ext (col_at (placed t).2.2.1.2)

theorem res17 : (dats (F := Ideal) m 0 c).arrAt 17 cfg0.N = fun i => turnedAt (X m c) (G m c) (W m c) (i 0) (i 1) (i 2) := by
  have hN : cfg0.N = 16 := N_0
  refine (dats m 0 c).arrAt_eq_of_covers 17 _ (by decide +kernel) fun t hf y => ?_
  rw [after0_17]
  obtain ⟨a, r, s, rfl⟩ : ∃ (a : Fin 2) (r : Fin 1152) (s : Fin 256), y = ix3 a r s := ⟨y 0, y 1, y 2, eq_ix3 y⟩
  refine (at17 m c t a r s (by omega)).trans ?_
  dsimp only
  congr 1
  · exact Fin.ext (row_at (placed t).2.2.2.1.1)
  · exact Fin.ext (col_at (placed t).2.2.2.1.2.1)
  · exact Fin.ext (col_at (placed t).2.2.2.1.2.2)

theorem res18 : (dats (F := Ideal) m 0 c).arrAt 18 cfg0.N = fun i => projAt (X m c) (G m c) (W m c) (i 0) ⟨3072 + (i 1 : Fin 1024).val, by omega⟩ := by
  refine (dats m 0 c).arrAt_eq_of_covers 18 _ (by decide +kernel) fun t hf y => ?_
  rw [after0_18]
  obtain ⟨r, j, rfl⟩ : ∃ (r : Fin 512) (j : Fin 1024), y = ix2 r j := ⟨y 0, y 1, eq_ix2 y⟩
  refine (at18 m c t r j (row_lt t r)).trans ?_
  dsimp only
  congr 1
  · exact Fin.ext (row_at (placed t).2.2.2.2.1.1)
  · exact Fin.ext (congrArg (3072 + ·) (col_at (placed t).2.2.2.2.1.2))

/-- The indexer's keys in the lower half. -/
def lowAt (i : Fin 8192) (d : Fin 128) : EReal :=
  if h : d.val < 64 then keyAt (X m c) (G m c) (W m c) (I m c) i ⟨d.val, h⟩ else 0

/-- The indexer's keys in the upper half. -/
def highAt (i : Fin 8192) (d : Fin 128) : EReal :=
  if h : 64 ≤ d.val then keyAt (X m c) (G m c) (W m c) (I m c) i ⟨d.val - 64, by omega⟩ else 0

theorem res19 : (dats (F := Ideal) m 0 c).arrAt 19 cfg0.N = fun i => lowAt m c (i 0) (i 1) := by
  refine (dats m 0 c).arrAt_eq_of_covers 19 _ (by decide +kernel) fun t hf y => ?_
  rw [after0_19]
  obtain ⟨r, j, rfl⟩ : ∃ (r : Fin 512) (j : Fin 128), y = ix2 r j := ⟨y 0, y 1, eq_ix2 y⟩
  refine (at19 m c t r j (row_lt t r)).trans (show lowAt m c ⟨512 * t.val + r.val, row_lt t r⟩ j = _ from ?_)
  dsimp only
  congr 1
  · exact Fin.ext (row_at (placed t).2.2.2.2.2.1.1)
  · exact Fin.ext (col_at (placed t).2.2.2.2.2.1.2)

theorem res20 : (dats (F := Ideal) m 0 c).arrAt 20 cfg0.N = fun i => highAt m c (i 0) (i 1) := by
  refine (dats m 0 c).arrAt_eq_of_covers 20 _ (by decide +kernel) fun t hf y => ?_
  rw [after0_20]
  obtain ⟨r, j, rfl⟩ : ∃ (r : Fin 512) (j : Fin 128), y = ix2 r j := ⟨y 0, y 1, eq_ix2 y⟩
  refine (at20 m c t r j (row_lt t r)).trans (show highAt m c ⟨512 * t.val + r.val, row_lt t r⟩ j = _ from ?_)
  dsimp only
  congr 1
  · exact Fin.ext (row_at (placed t).2.2.2.2.2.2.1.1)
  · exact Fin.ext (col_at (placed t).2.2.2.2.2.2.1.2)

theorem res21 : (dats (F := Ideal) m 0 c).arrAt 21 cfg0.N = fun i =>
    projAt (X m c) (G m c) (W m c) (i 1) ⟨4160 + (i 0 : Fin 16).val, by omega⟩ * Ideal.ofBits .f32 0x3D000000#32 := by
  refine (dats m 0 c).arrAt_eq_of_covers 21 _ (by decide +kernel) fun t hf y => ?_
  rw [after0_21]
  obtain ⟨j, r, rfl⟩ : ∃ (j : Fin 16) (r : Fin 512), y = ix2 j r := ⟨y 0, y 1, eq_ix2 y⟩
  refine (at21 m c t j r (row_lt t r)).trans ?_
  dsimp only
  congr 2
  · exact Fin.ext (row_at (placed t).2.2.2.2.2.2.2.1.2)
  · exact Fin.ext (congrArg (4160 + ·) (col_at (placed t).2.2.2.2.2.2.2.1.1))

theorem res22 : (dats (F := Ideal) m 0 c).arrAt 22 cfg0.N = fun i => W m c (ix2 (i 0) ⟨4176 + (i 1 : Fin 6144).val, by omega⟩) := by
  have hN : cfg0.N = 16 := N_0
  refine (dats m 0 c).arrAt_eq_of_covers 22 _ (by decide +kernel) fun t hf y => ?_
  rw [after0_22]
  obtain ⟨k, j, rfl⟩ : ∃ (k : Fin 2048) (j : Fin 384), y = ix2 k j := ⟨y 0, y 1, eq_ix2 y⟩
  refine (at22 m c t k j (by omega)).trans ?_
  dsimp only
  congr 2
  · exact Fin.ext (col_at (placed t).2.2.2.2.2.2.2.2.1)
  · exact Fin.ext ((add_assoc _ _ _).trans (congrArg (4176 + ·) (row_at (placed t).2.2.2.2.2.2.2.2.2)))

end Cert.ProjValue
-- ==== Proof.ProjClaim.lean ====
/-
  The first norm and the projections compute what the reference does, over the extended reals.
-/
module

public import proofs.«01_k».proof.Defs
public import proofs.«01_k».proof.Proof.ProjValue

@[expose] public section

set_option maxRecDepth 16384

noncomputable section

open Idealize.ShloMosaic Idealize.ShloMosaic.TcCoe Idealize.ShloMosaic.Tactic
open Cert.Kernel6Ideal Cert.Kernel6Ideal.Gen Cert.Kernel6Ideal.Value

namespace Cert.ProjClaim

open ProjPoint ProjValue

/-- A query or a key as the reference writes it: the factor last, the head's columns counted from the head's own first. -/
theorem headAt_eq (x : S8192x2048.Idx → EReal) (g : S2048.Idx → EReal) (w : S2048x10320.Idx → EReal) (s : EReal)
    (q : S128.Idx → EReal) (o : ℕ) (ho : o + 1024 ≤ 10320) (i : Fin 8192) (j : Fin 1024) (a : Fin 10320) (f : Fin 128 → Fin 10320)
    (b : Fin 128) (ha : a.val = o + j.val) (hf : ∀ d, (f d).val = o + (128 * (j.val / 128) + d.val)) (hb : b.val = j.val % 128) :
    projAt x g w i a * Ideal.rsqrt (Ideal.div (∑ d : Fin 128, projAt x g w i (f d) * projAt x g w i (f d))
      (Ideal.ofBits .f32 0x43000000#32) + Ideal.ofBits .f32 0x358637BD#32) * q (ix1 b) * s = headAt x g w s q o ho i j := by
  unfold headAt
  rw [show a = ⟨o + j.val, by omega⟩ from Fin.ext ha, show b = ⟨j.val % 128, by omega⟩ from Fin.ext hb,
    show f = fun d => ⟨o + (128 * (j.val / 128) + d.val), by omega⟩ from funext fun d => Fin.ext (hf d)]
  rw [mul_right_comm _ _ s, mul_assoc (projAt x g w i _) _ s]

/-- A turned value as the reference writes it. -/
theorem turnedAt_eq (x : S8192x2048.Idx → EReal) (g : S2048.Idx → EReal) (w : S2048x10320.Idx → EReal) (b : Fin 32) (r : Fin 1152)
    (s : Fin 256) (i : Fin 8192) (j : r.val % 144 < 128 → Fin 10320) (hi : i.val = 256 * b.val + s.val)
    (hj : ∀ h, (j h).val = 2048 + (128 * (r.val / 144) + r.val % 144)) :
    (if h : r.val % 144 < 128 then projAt x g w i (j h) else 1) = turnedAt x g w b r s := by
  unfold turnedAt
  rw [show i = ⟨256 * b.val + s.val, by omega⟩ from Fin.ext hi]
  refine dite_congr rfl (fun h => ?_) fun _ => rfl
  exact congrArg (projAt x g w _) (Fin.ext (hj h))

set_option maxHeartbeats 8000000 in
/-- The first norm and the projections compute the reference's nine arrays. -/
theorem algebraic : Cert.algebraic_Kernel6Ideal_Reference6Ideal (hKernel6Ideal := Cert.Kernel6Ideal.Gen.facts)
    (hReference6Ideal := Cert.Reference6Ideal.Gen.facts) := by
  pair_intro
  · run_from (Cert.Kernel6Ideal.Value.run_blocks m g)
  · run_from (Cert.Reference6Ideal.Value.run m' g')
    · rw [res14]; funext i; idx_vars i; pointwise; rfl
    · rw [res15]; funext i; idx_vars i; pointwise
      exact headAt_eq (X m c) (G m c) (W m c) _ (Q m c) 0 (by omega) i0 i1 ⟨i1.val, by omega⟩ (fun d => ⟨i1.val / 128 * 128 + d.val, by omega⟩)
        ⟨i1.val % 128, by omega⟩ (by simp) (fun d => by simp [Nat.mul_comm]) rfl
    · rw [res16]; funext i; idx_vars i; pointwise
      exact (mul_one _).symm.trans (headAt_eq (X m c) (G m c) (W m c) 1 (K m c) 1024 (by omega) i0 i1 ⟨1024 + i1.val, by omega⟩
        (fun d => ⟨1024 + (i1.val / 128 * 128 + d.val), by omega⟩) ⟨i1.val % 128, by omega⟩ rfl (fun d => by simp [Nat.mul_comm]) rfl)
    · rw [res17]; funext i; idx_vars i; pointwise
      exact turnedAt_eq (X m c) (G m c) (W m c) i0 i1 i2 ⟨i0.val * 256 + i2.val, by omega⟩
        (fun h => ⟨2048 + (i1.val / 144 * 128 + i1.val % 144), by omega⟩) (by simp [Nat.mul_comm]) (fun h => by simp [Nat.mul_comm])
    · rw [res18]; funext i; idx_vars i; pointwise; rfl
    · rw [res19]; funext i; idx_vars i; pointwise
      rw [(hagree c).2.2.2.2.2]; rfl
    · rw [res20]; funext i; idx_vars i; pointwise
      rw [(hagree c).2.2.2.2.2]
      unfold highAt
      by_cases h : i1.val < 64
      · rw [dif_pos h, dif_neg (by omega)]
      · rw [dif_neg h, dif_pos (by omega)]; rfl
    · rw [res21]; funext i; idx_vars i; pointwise; rfl
    · rw [res22]; funext i; idx_vars i; pointwise

end Cert.ProjClaim
-- ==== Proof.RepackFrames.lean ====
/-
  The repacking's frames: both kernel programs' from one run at any floats, and the reference's.
-/
module

public import proofs.«01_k».proof.Defs
public import proofs.«01_k».proof.Proof.Gen.Kernel7
public import proofs.«01_k».proof.Proof.Gen.Kernel7Ideal.Frame
public import proofs.«01_k».proof.Proof.Gen.Reference7Ideal.Run
public import Idealize.ShloMosaic.Adequacy
public import Idealize.ShloMosaic.Init
public import Idealize.ShloMosaic.Lib.Claim

@[expose] public section

noncomputable section

namespace Cert.RepackFrames

open Idealize.ShloMosaic Idealize.SL.Sem

set_option maxRecDepth 65536 in
/-- The two programs' bodies are one. -/
theorem bodies_eq : Cert.Kernel7Ideal.defs₀ (F := Bits) = Cert.Kernel7.defs₀ (F := Bits) := by
  unfold Cert.Kernel7Ideal.defs₀ Cert.Kernel7.defs₀
  refine congrArg (Defs.onTc (nD := Cert.Kernel7.nD) (τ := Cert.Kernel7.τ) (sig := Cert.Kernel7.sig) (Λ := Cert.Kernel7.Λ₀)) ?_
  funext k a
  match k, a with
  | 0, (t, s) => rfl

theorem defs_eq : Cert.Kernel7Ideal.defs (F := Bits) = Cert.Kernel7.defs (F := Bits) :=
  congrArg (Pipeline.defs (Cert.Kernel7.pcfgs (F := Bits))) bodies_eq

theorem main_eq : Cert.Kernel7Ideal.main (F := Bits) = Cert.Kernel7.main (F := Bits) := rfl

/-- The printed kernel's frame: the ideal text's, at bit patterns. -/
theorem kernel : Cert.quiescent_Kernel7 (hKernel7 := Cert.Kernel7.Gen.facts) := fun m g _ => by
  have h := Cert.Kernel7Ideal.Gen.frame (F := Bits) m g
  rw [defs_eq, main_eq] at h
  exact h

/-- The ideal kernel's frame. -/
theorem kernelIdeal : Cert.quiescent_Kernel7Ideal (hKernel7Ideal := Cert.Kernel7Ideal.Gen.facts) := fun m g _ =>
  Cert.Kernel7Ideal.Gen.frame (F := Ideal) m g

/-- The reference's frame: host operations only, and no semaphore. -/
theorem referenceIdeal : Cert.quiescent_Reference7Ideal (hReference7Ideal := Cert.Reference7Ideal.Gen.facts) := fun m g _ =>
  (θ_run Cert.Reference7Ideal.defs _ _).mono
    (fun r h => ⟨fun c => (h c).2.2.2.2.2.2.2, Idealize.ShloMosaic.sem_eq_zero_of_no_sems (by decide) r.2⟩)
    (Cert.Reference7Ideal.Value.run (F := Ideal) m g)

end Cert.RepackFrames

end
-- ==== Proof.RepackValue.lean ====
/-
  The repacking of the projection's weight: what each point leaves, and each result array, element by element, over the
  extended reals.
-/
module

public import proofs.«01_k».proof.Defs
public import proofs.«01_k».proof.Proof.Gen.Kernel7Ideal.Value
public import proofs.«01_k».proof.Proof.Gen.Reference7Ideal.Run
public import Idealize.ShloMosaic.Lib.Pipeline.Value
public import Idealize.ShloMosaic.Lib.Pipeline.ValueKit.Tiles
public import Idealize.ShloMosaic.Lib.Pipeline.ValueKit.Geometry
public import Idealize.ShloMosaic.Lib.Pointwise
public import Idealize.ShloMosaic.Lib.IdealHost
public import Idealize.ShloMosaic.Lib.StableHlo.Run
public import Idealize.ShloMosaic.Lib.Tactic
public import Idealize.ShloMosaic.Lib.Claim

@[expose] public section

set_option maxRecDepth 16384

noncomputable section

open Idealize.ShloMosaic Idealize.ShloMosaic.TcCoe Idealize.ShloMosaic.Tactic
open Cert.Kernel7Ideal Cert.Kernel7Ideal.Gen Cert.Kernel7Ideal.Value

namespace Cert.RepackValue

theorem hz : (![0, 0] : Fin 2 → Nat) = fun _ => 0 := funext fun a => by fin_cases a <;> rfl

variable (m : (ℓ : Loc nD τ sig) → Buf (Elt Ideal) ℓ) (c : Dev nD)

/-- The weight. -/
abbrev W : S2048x10320.Idx → EReal := m ((c : Thread nD τ).loc main_arg0)

/-! ## What a point leaves -/

theorem left1 (t : Fin cfg0.N) : (outsAt0 m c t).1 =
    k0_pay3 (extractStridedSlice S1024x256 ![0, 0] (X0_0 m c t) ⟨rfl, inb_S4224x256_S1024x256_0_0⟩) := by
  unfold outsAt0
  dsimp only
  unfold out0_A_1
  rw [View.read_writes_eq_canon _ _ _ (fun y => cover0_A_1 (y := y) ..)]
  unfold kernelRun0_A
  dsimp only
  sl_unfold_words
  rw [View.canon_unit_zero hz]
  simp only [View.readAt_eq_ld, (hs0_0 t).read_unread, View.ld_unit]

theorem left2 (t : Fin cfg0.N) : (outsAt0 m c t).2.1 =
    k0_pay4 (extractStridedSlice S1024x256 ![1024, 0] (X0_0 m c t) ⟨rfl, inb_S4224x256_S1024x256_1024_0⟩) := by
  unfold outsAt0
  dsimp only
  unfold out0_A_2
  rw [View.read_writes_eq_canon _ _ _ (fun y => cover0_A_2 (y := y) ..)]
  unfold kernelRun0_A
  dsimp only
  sl_unfold_words
  rw [View.canon_unit_zero hz]
  simp only [View.readAt_eq_ld, (hs0_0 t).read_unread, View.ld_unit]

theorem left3 (t : Fin cfg0.N) : (outsAt0 m c t).2.2.1 =
    k0_pay5 (extractStridedSlice S1024x256 ![2048, 0] (X0_0 m c t) ⟨rfl, inb_S4224x256_S1024x256_2048_0⟩) := by
  unfold outsAt0
  dsimp only
  unfold out0_A_3
  rw [View.read_writes_eq_canon _ _ _ (fun y => cover0_A_3 (y := y) ..)]
  unfold kernelRun0_A
  dsimp only
  sl_unfold_words
  rw [View.canon_unit_zero hz]
  simp only [View.readAt_eq_ld, (hs0_0 t).read_unread, View.ld_unit]

theorem left4 (t : Fin cfg0.N) : (outsAt0 m c t).2.2.2.1 =
    k0_pay6 (extractStridedSlice S1024x256 ![3072, 0] (X0_0 m c t) ⟨rfl, inb_S4224x256_S1024x256_3072_0⟩) := by
  unfold outsAt0
  dsimp only
  unfold out0_A_4
  rw [View.read_writes_eq_canon _ _ _ (fun y => cover0_A_4 (y := y) ..)]
  unfold kernelRun0_A
  dsimp only
  sl_unfold_words
  rw [View.canon_unit_zero hz]
  simp only [View.readAt_eq_ld, (hs0_0 t).read_unread, View.ld_unit]

theorem left5 (t : Fin cfg0.N) : (outsAt0 m c t).2.2.2.2.1 =
    k0_pay8 (extractStridedSlice S128x256 ![4096, 0] (X0_0 m c t) ⟨rfl, inb_S4224x256_S128x256_4096_0⟩) := by
  unfold outsAt0
  dsimp only
  unfold out0_A_5
  rw [View.read_writes_eq_canon _ _ _ (fun y => cover0_A_5 (y := y) ..)]
  unfold kernelRun0_A
  dsimp only
  sl_unfold_words
  rw [View.canon_unit_zero hz]
  simp only [View.readAt_eq_ld, (hs0_0 t).read_unread, View.ld_unit]

theorem left6 (t : Fin cfg0.N) : (outsAt0 m c t).2.2.2.2.2.1 =
    k0_pay1 (k0_pay7 (extractStridedSlice S128x256 ![4096, 0] (X0_0 m c t) ⟨rfl, inb_S4224x256_S128x256_4096_0⟩)) k0_pay9 := by
  unfold outsAt0
  dsimp only
  unfold out0_A_6
  rw [View.read_writes_eq_canon _ _ _ (fun y => cover0_A_6 (y := y) ..)]
  unfold kernelRun0_A
  dsimp only
  sl_unfold_words
  rw [View.canon_unit_zero hz]
  simp only [View.readAt_eq_ld, (hs0_0 t).read_unread, View.ld_unit]

theorem left7 (t : Fin cfg0.N) : (outsAt0 m c t).2.2.2.2.2.2 =
    k0_pay2 (extractStridedSlice S16x256 ![4160, 0] (X0_0 m c t) ⟨rfl, inb_S4224x256_S16x256_4160_0⟩) := by
  unfold outsAt0
  dsimp only
  unfold out0_A_7
  rw [View.read_writes_eq_canon _ _ _ (fun y => cover0_A_7 (y := y) ..)]
  unfold kernelRun0_A
  dsimp only
  sl_unfold_words
  rw [View.canon_unit_zero hz]
  simp only [View.readAt_eq_ld, (hs0_0 t).read_unread, View.ld_unit]

/-! ## At one place -/

theorem moving : ∀ t : Fin grid0.N, win0_0.index t (0 : Fin 2) = 0 ∧ win0_0.index t (1 : Fin 2) = t.val := by decide +kernel

/-- A column of the turned weight's block is a row of the weight. -/
theorem weight_apply (t : Fin cfg0.N) (a : Fin 4224) (k : Fin 256) (h : 256 * t.val + k.val < 2048) :
    (X0_0 m c t (ix2 a k) : EReal) = W m c (ix2 ⟨256 * t.val + k.val, h⟩ ⟨a.val, by omega⟩) := by
  obtain ⟨e0, e1⟩ := moving t
  have hV : V m c main_v0 = transpose S10320x2048 [1, 0] (W m c) transposes_S2048x10320_S10320x2048_1_0 := by
    show StableHlo.after hostOps0 _ _ = _
    after_results
  unfold X0_0 Pipeline.Window.fill
  rw [dif_pos (moved0_0 t _)]
  show V m c main_v0 (((cfg0.win 0).blk t).view.emb _) = _
  rw [hV]
  refine congrArg (W m c) (funext fun b => Fin.ext ?_)
  match b with
  | ⟨0, _⟩ => show win0_0.index t (1 : Fin 2) * 256 + 1 * k.val = 256 * t.val + k.val; omega
  | ⟨1, _⟩ => show win0_0.index t (0 : Fin 2) * 4224 + 1 * a.val = a.val; omega

theorem at1 (t : Fin cfg0.N) (k : Fin 256) (j : Fin 1024) (h : 256 * t.val + k.val < 2048) :
    ((outsAt0 m c t).1 (ix2 k j) : EReal) = W m c (ix2 ⟨256 * t.val + k.val, h⟩ ⟨j.val, by omega⟩) := by
  rw [left1]; unfold k0_pay3; pointwise; exact weight_apply m c t _ k h

theorem at2 (t : Fin cfg0.N) (k : Fin 256) (j : Fin 1024) (h : 256 * t.val + k.val < 2048) :
    ((outsAt0 m c t).2.1 (ix2 k j) : EReal) = W m c (ix2 ⟨256 * t.val + k.val, h⟩ ⟨1024 + j.val, by omega⟩) := by
  rw [left2]; unfold k0_pay4; pointwise; exact weight_apply m c t _ k h

theorem at4 (t : Fin cfg0.N) (k : Fin 256) (j : Fin 1024) (h : 256 * t.val + k.val < 2048) :
    ((outsAt0 m c t).2.2.2.1 (ix2 k j) : EReal) = W m c (ix2 ⟨256 * t.val + k.val, h⟩ ⟨3072 + j.val, by omega⟩) := by
  rw [left4]; unfold k0_pay6; pointwise; exact weight_apply m c t _ k h

theorem at3 (t : Fin cfg0.N) (j : Fin 1024) (k : Fin 256) (h : 256 * t.val + k.val < 2048) :
    ((outsAt0 m c t).2.2.1 (ix2 j k) : EReal) = W m c (ix2 ⟨256 * t.val + k.val, h⟩ ⟨2048 + j.val, by omega⟩) := by
  rw [left3]; unfold k0_pay5; pointwise; exact weight_apply m c t _ k h

theorem at7 (t : Fin cfg0.N) (j : Fin 16) (k : Fin 256) (h : 256 * t.val + k.val < 2048) :
    ((outsAt0 m c t).2.2.2.2.2.2 (ix2 j k) : EReal) = W m c (ix2 ⟨256 * t.val + k.val, h⟩ ⟨4160 + j.val, by omega⟩) := by
  rw [left7]; unfold k0_pay2; pointwise; exact weight_apply m c t _ k h

/-- A lane against sixty-four, both ways. -/
theorem lane_lt : ∀ j : Fin 128, IntOp.cmpi CmpIPredicate.slt (BitVec.ofNat 32 j.val) 64#32 = if j.val < 64 then 1#1 else 0#1 := by decide +kernel
theorem lane_ge : ∀ j : Fin 128, IntOp.cmpi CmpIPredicate.sge (BitVec.ofNat 32 j.val) 64#32 = if 64 ≤ j.val then 1#1 else 0#1 := by decide +kernel

theorem pick (a b : EReal) : Scalar.select 1#1 a b = a := if_pos rfl
theorem skip (a b : EReal) : Scalar.select 0#1 a b = b := if_neg (by decide)

/-- The weight's sixty-four columns in the lower half. -/
def lowAt (k : Fin 2048) (j : Fin 128) : EReal := if h : j.val < 64 then W m c (ix2 k ⟨4096 + j.val, by omega⟩) else 0

/-- The weight's sixty-four columns in the upper half. -/
def highAt (k : Fin 2048) (j : Fin 128) : EReal := if h : 64 ≤ j.val then W m c (ix2 k ⟨4096 + (j.val - 64), by omega⟩) else 0

theorem at5 (t : Fin cfg0.N) (k : Fin 256) (j : Fin 128) (h : 256 * t.val + k.val < 2048) :
    ((outsAt0 m c t).2.2.2.2.1 (ix2 k j) : EReal) = lowAt m c ⟨256 * t.val + k.val, h⟩ j := by
  rw [left5]; unfold k0_pay8 k0_pay7 lowAt; pointwise
  rw [lane_lt]
  by_cases h' : j.val < 64
  · rw [if_pos h', dif_pos h', pick]; exact weight_apply m c t _ k h
  · rw [if_neg h', dif_neg h', skip]

theorem at6 (t : Fin cfg0.N) (k : Fin 256) (j : Fin 128) (h : 256 * t.val + k.val < 2048) :
    ((outsAt0 m c t).2.2.2.2.2.1 (ix2 k j) : EReal) = highAt m c ⟨256 * t.val + k.val, h⟩ j := by
  rw [left6]; unfold k0_pay1 k0_pay7 k0_pay9 highAt; pointwise
  rw [lane_ge]
  by_cases h' : 64 ≤ j.val
  · rw [if_pos h', dif_pos h', pick]
    refine (weight_apply m c t _ k h).trans (congrArg (W m c) (congrArg (ix2 _) (Fin.ext ?_)))
    show 4096 + (j.val + 128 - 64) % 128 = 4096 + (j.val - 64)
    omega
  · rw [if_neg h', dif_neg h', skip]

/-! ## The arrays -/

/-- Where the results' blocks stand. -/
theorem placed : ∀ t : Fin grid0.N,
    (win0_1.index t (0 : Fin 2) = t.val ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = t.val) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = 0 ∧ win0_7.index t (1 : Fin 2) = t.val) := by decide +kernel

/-- A row of a point's block is a row of the array. -/
theorem row_lt (t : Fin cfg0.N) (r : Fin 256) : 256 * t.val + r.val < 2048 := by
  have hN : cfg0.N = 8 := N_0
  omega

/-- A row's place and a column's, from a block's index. -/
theorem row_at {n i r : ℕ} {t : ℕ} (h : i = t) : n * t + r = i * n + 1 * r := by subst h; rw [mul_comm, one_mul]
theorem col_at {n i j : ℕ} (h : i = 0) : j = i * n + 1 * j := by subst h; omega

theorem res1 : (dats (F := Ideal) m 0 c).arrAt 1 cfg0.N = fun i => W m c (ix2 (i 0) ⟨(i 1 : Fin 1024).val, by omega⟩) := by
  refine (dats m 0 c).arrAt_eq_of_covers 1 _ (by decide +kernel) fun t hf y => ?_
  rw [after0_1]
  obtain ⟨r, j, rfl⟩ : ∃ (r : Fin 256) (j : Fin 1024), y = ix2 r j := ⟨y 0, y 1, eq_ix2 y⟩
  refine (at1 m c t r j (row_lt t r)).trans ?_
  exact congrArg (W m c) (congrArg₂ ix2 (Fin.ext (row_at (placed t).1.1)) (Fin.ext (col_at (placed t).1.2)))

theorem res2 : (dats (F := Ideal) m 0 c).arrAt 2 cfg0.N = fun i => W m c (ix2 (i 0) ⟨1024 + (i 1 : Fin 1024).val, by omega⟩) := by
  refine (dats m 0 c).arrAt_eq_of_covers 2 _ (by decide +kernel) fun t hf y => ?_
  rw [after0_2]
  obtain ⟨r, j, rfl⟩ : ∃ (r : Fin 256) (j : Fin 1024), y = ix2 r j := ⟨y 0, y 1, eq_ix2 y⟩
  refine (at2 m c t r j (row_lt t r)).trans ?_
  exact congrArg (W m c) (congrArg₂ ix2 (Fin.ext (row_at (placed t).2.1.1)) (Fin.ext (congrArg (1024 + ·) (col_at (placed t).2.1.2))))

theorem res3 : (dats (F := Ideal) m 0 c).arrAt 3 cfg0.N = fun i => W m c (ix2 (i 1) ⟨2048 + (i 0 : Fin 1024).val, by omega⟩) := by
  refine (dats m 0 c).arrAt_eq_of_covers 3 _ (by decide +kernel) fun t hf y => ?_
  rw [after0_3]
  obtain ⟨r, j, rfl⟩ : ∃ (r : Fin 1024) (j : Fin 256), y = ix2 r j := ⟨y 0, y 1, eq_ix2 y⟩
  refine (at3 m c t r j (row_lt t j)).trans ?_
  exact congrArg (W m c) (congrArg₂ ix2 (Fin.ext (row_at (placed t).2.2.1.2)) (Fin.ext (congrArg (2048 + ·) (col_at (placed t).2.2.1.1))))

theorem res4 : (dats (F := Ideal) m 0 c).arrAt 4 cfg0.N = fun i => W m c (ix2 (i 0) ⟨3072 + (i 1 : Fin 1024).val, by omega⟩) := by
  refine (dats m 0 c).arrAt_eq_of_covers 4 _ (by decide +kernel) fun t hf y => ?_
  rw [after0_4]
  obtain ⟨r, j, rfl⟩ : ∃ (r : Fin 256) (j : Fin 1024), y = ix2 r j := ⟨y 0, y 1, eq_ix2 y⟩
  refine (at4 m c t r j (row_lt t r)).trans ?_
  exact congrArg (W m c) (congrArg₂ ix2 (Fin.ext (row_at (placed t).2.2.2.1.1)) (Fin.ext (congrArg (3072 + ·) (col_at (placed t).2.2.2.1.2))))

theorem res5 : (dats (F := Ideal) m 0 c).arrAt 5 cfg0.N = fun i => lowAt m c (i 0) (i 1) := by
  refine (dats m 0 c).arrAt_eq_of_covers 5 _ (by decide +kernel) fun t hf y => ?_
  rw [after0_5]
  obtain ⟨r, j, rfl⟩ : ∃ (r : Fin 256) (j : Fin 128), y = ix2 r j := ⟨y 0, y 1, eq_ix2 y⟩
  refine (at5 m c t r j (row_lt t r)).trans ?_
  exact congrArg₂ (lowAt m c) (Fin.ext (row_at (placed t).2.2.2.2.1.1)) (Fin.ext (col_at (placed t).2.2.2.2.1.2))

theorem res6 : (dats (F := Ideal) m 0 c).arrAt 6 cfg0.N = fun i => highAt m c (i 0) (i 1) := by
  refine (dats m 0 c).arrAt_eq_of_covers 6 _ (by decide +kernel) fun t hf y => ?_
  rw [after0_6]
  obtain ⟨r, j, rfl⟩ : ∃ (r : Fin 256) (j : Fin 128), y = ix2 r j := ⟨y 0, y 1, eq_ix2 y⟩
  refine (at6 m c t r j (row_lt t r)).trans ?_
  exact congrArg₂ (highAt m c) (Fin.ext (row_at (placed t).2.2.2.2.2.1.1)) (Fin.ext (col_at (placed t).2.2.2.2.2.1.2))

theorem res7 : (dats (F := Ideal) m 0 c).arrAt 7 cfg0.N = fun i => W m c (ix2 (i 1) ⟨4160 + (i 0 : Fin 16).val, by omega⟩) := by
  refine (dats m 0 c).arrAt_eq_of_covers 7 _ (by decide +kernel) fun t hf y => ?_
  rw [after0_7]
  obtain ⟨r, j, rfl⟩ : ∃ (r : Fin 16) (j : Fin 256), y = ix2 r j := ⟨y 0, y 1, eq_ix2 y⟩
  refine (at7 m c t r j (row_lt t j)).trans ?_
  exact congrArg (W m c) (congrArg₂ ix2 (Fin.ext (row_at (placed t).2.2.2.2.2.2.2)) (Fin.ext (congrArg (4160 + ·) (col_at (placed t).2.2.2.2.2.2.1))))

/-- The repacking writes the reference's seven arrays. -/
theorem algebraic : Cert.algebraic_Kernel7Ideal_Reference7Ideal (hKernel7Ideal := Cert.Kernel7Ideal.Gen.facts)
    (hReference7Ideal := Cert.Reference7Ideal.Gen.facts) := by
  pair_intro
  · run_from (Cert.Kernel7Ideal.Value.run_blocks m g)
  · run_from (Cert.Reference7Ideal.Value.run m' g')
    · rw [res1]; funext i; idx_vars i; pointwise
    · rw [res2]; funext i; idx_vars i; pointwise
    · rw [res3]; funext i; idx_vars i; pointwise
    · rw [res4]; funext i; idx_vars i; pointwise
    · rw [res5]; funext i; idx_vars i; pointwise; rw [hagree c]; rfl
    · rw [res6]; funext i; idx_vars i; pointwise
      rw [hagree c]
      unfold highAt
      by_cases h : i1.val < 64
      · rw [dif_pos h, dif_neg (by omega)]
      · rw [dif_neg h, dif_pos (by omega)]
    · rw [res7]; funext i; idx_vars i; pointwise

end Cert.RepackValue
-- ==== Proof.lean ====
/- The claim, assembled. -/
module

public import proofs.«01_k».proof.Defs
public import proofs.«01_k».proof.Proof.Frames
public import proofs.«01_k».proof.Proof.FfnFrames
public import proofs.«01_k».proof.Proof.FfnValue
public import proofs.«01_k».proof.Proof.OutFrames
public import proofs.«01_k».proof.Proof.OutValue
public import proofs.«01_k».proof.Proof.MergeFrames
public import proofs.«01_k».proof.Proof.MergeValue
public import proofs.«01_k».proof.Proof.SguFrames
public import proofs.«01_k».proof.Proof.SguValue
public import proofs.«01_k».proof.Proof.ProjFrames
public import proofs.«01_k».proof.Proof.ProjClaim
public import proofs.«01_k».proof.Proof.RepackFrames
public import proofs.«01_k».proof.Proof.RepackValue
public import proofs.«01_k».proof.Proof.Gen.Kernel2
public import proofs.«01_k».proof.Proof.Gen.Reference2Ideal.Run
public import proofs.«01_k».proof.Proof.Gen.Kernel2Ideal.Frame
public import proofs.«01_k».proof.Proof.Gen.Kernel3
public import proofs.«01_k».proof.Proof.Gen.Kernel3Ideal.Value
public import proofs.«01_k».proof.Proof.Gen.Reference3Ideal.Run
public import proofs.«01_k».proof.Proof.Gen.Kernel3Ideal.Frame
public import proofs.«01_k».proof.Proof.Gen.Kernel4
public import proofs.«01_k».proof.Proof.Gen.Kernel4Ideal.Value
public import proofs.«01_k».proof.Proof.Gen.Reference4Ideal.Run
public import proofs.«01_k».proof.Proof.Gen.Kernel4Ideal.Frame
public import proofs.«01_k».proof.Proof.Gen.Kernel5
public import proofs.«01_k».proof.Proof.Gen.Kernel5Ideal.Value
public import proofs.«01_k».proof.Proof.Gen.Reference5Ideal.Run
public import proofs.«01_k».proof.Proof.Gen.Kernel5Ideal.Frame
public import proofs.«01_k».proof.Proof.Gen.Kernel6
public import proofs.«01_k».proof.Proof.Gen.Kernel6Ideal.Value
public import proofs.«01_k».proof.Proof.Gen.Reference6Ideal.Run
public import proofs.«01_k».proof.Proof.Gen.Kernel6Ideal.Frame
public import proofs.«01_k».proof.Proof.Gen.Kernel7
public import proofs.«01_k».proof.Proof.Gen.Kernel7Ideal.Value
public import proofs.«01_k».proof.Proof.Gen.Reference7Ideal.Run
public import proofs.«01_k».proof.Proof.Gen.Kernel7Ideal.Frame

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Frames.kernel, Cert.Frames.kernelIdeal, Cert.Frames.referenceIdeal,
    Cert.FfnFrames.kernel, Cert.FfnFrames.kernelIdeal, Cert.FfnFrames.referenceIdeal,
    Cert.OutFrames.kernel, Cert.OutFrames.kernelIdeal, Cert.OutFrames.referenceIdeal,
    Cert.MergeFrames.kernel, Cert.MergeFrames.kernelIdeal, Cert.MergeFrames.referenceIdeal,
    Cert.SguFrames.kernel, Cert.SguFrames.kernelIdeal, Cert.SguFrames.referenceIdeal,
    Cert.ProjFrames.kernel, Cert.ProjFrames.kernelIdeal, Cert.ProjFrames.referenceIdeal,
    Cert.RepackFrames.kernel, Cert.RepackFrames.kernelIdeal, Cert.RepackFrames.referenceIdeal,
    Cert.Frames.preserves, trivial, Cert.FfnValue.algebraic, trivial, Cert.OutValue.algebraic, trivial, Cert.MergeValue.algebraic,
    trivial, Cert.SguValue.algebraic, trivial, Cert.ProjClaim.algebraic,
    trivial, Cert.RepackValue.algebraic⟩

end Cert.Proof

end
